-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_hw" .f32 0x37A72F05#32 ((50176⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x96x224x224 : Shape := ⟨4, ![8, 96, 224, 224]⟩
abbrev S8x16 : Shape := ⟨2, ![8, 16]⟩
abbrev S8 : Shape := ⟨1, ![8]⟩
abbrev S1x96x1x1 : Shape := ⟨4, ![1, 96, 1, 1]⟩
abbrev S_ : Shape := ⟨0, ![]⟩

class Facts : Prop where
  bcast_S_S8x96x224x224 : S_.BroadcastsInDim S8x96x224x224 (![] : Fin 0 → Fin S8x96x224x224.rank)
  reducesTo_S8x96x224x224_S_d0_1_2_3 : S8x96x224x224.ReducesTo [0, 1, 2, 3] S_
  h_S_ : 0 < S_.numel
  bcast_S_S8x16 : S_.BroadcastsInDim S8x16 (![] : Fin 0 → Fin S8x16.rank)
  reducesTo_S8x16_S_d0_1 : S8x16.ReducesTo [0, 1] S_
  bcast_S_S1x96x1x1 : S_.BroadcastsInDim S1x96x1x1 (![] : Fin 0 → Fin S1x96x1x1.rank)
  reducesTo_S1x96x1x1_S_d0_1_2_3 : S1x96x1x1.ReducesTo [0, 1, 2, 3] S_

variable [Facts]

def fn {F : FTy → Type} [FloatOps F] (main_arg0 : FVec F S8x96x224x224 .f32) (main_arg1 : FVec F S8x16 .f32) (main_arg2 : FVec F S8 .f32) (main_arg3 : FVec F S1x96x1x1 .f32) (main_arg4 : FVec F S1x96x1x1 .f32) : IVec S_ 1 :=
  let main_v0 : FVec F S8x96x224x224 .f32 := Host.absf main_arg0
  let main_cst : FVec F S_ .f32 := constant S_ .f32 0x7F800000#32
  let main_v1 : FVec F S8x96x224x224 .f32 := broadcastInDim S8x96x224x224 ![] bcast_S_S8x96x224x224 main_cst
  let main_v2 : IVec S8x96x224x224 1 := cmpf .olt main_v0 main_v1
  let main_c : IVec S_ 1 := constantI S_ 1 1#1
  let main_v3 : IVec S_ 1 := (fun x v => Host.reduce IntOp.andi x v reducesTo_S8x96x224x224_S_d0_1_2_3 h_S_) main_v2 main_c
  let main_v4 : FVec F S8x16 .f32 := Host.absf main_arg1
  let main_cst_0 : FVec F S_ .f32 := constant S_ .f32 0x7F800000#32
  let main_v5 : FVec F S8x16 .f32 := broadcastInDim S8x16 ![] bcast_S_S8x16 main_cst_0
  let main_v6 : IVec S8x16 1 := cmpf .olt main_v4 main_v5
  let main_c_1 : IVec S_ 1 := constantI S_ 1 1#1
  let main_v7 : IVec S_ 1 := (fun x v => Host.reduce IntOp.andi x v reducesTo_S8x16_S_d0_1 h_S_) main_v6 main_c_1
  let main_v8 : IVec S_ 1 := andi main_v3 main_v7
  let main_v9 : FVec F S1x96x1x1 .f32 := Host.absf main_arg3
  let main_cst_2 : FVec F S_ .f32 := constant S_ .f32 0x7F800000#32
  let main_v10 : FVec F S1x96x1x1 .f32 := broadcastInDim S1x96x1x1 ![] bcast_S_S1x96x1x1 main_cst_2
  let main_v11 : IVec S1x96x1x1 1 := cmpf .olt main_v9 main_v10
  let main_c_3 : IVec S_ 1 := constantI S_ 1 1#1
  let main_v12 : IVec S_ 1 := (fun x v => Host.reduce IntOp.andi x v reducesTo_S1x96x1x1_S_d0_1_2_3 h_S_) main_v11 main_c_3
  let main_v13 : IVec S_ 1 := andi main_v8 main_v12
  main_v13
-- ==== Kernel.lean ====
abbrev S8x96x224x224 : Shape := ⟨4, ![8, 96, 224, 224]⟩
abbrev S8x16 : Shape := ⟨2, ![8, 16]⟩
abbrev S8 : Shape := ⟨1, ![8]⟩
abbrev S1x96x1x1 : Shape := ⟨4, ![1, 96, 1, 1]⟩
abbrev S768x1 : Shape := ⟨2, ![768, 1]⟩
abbrev S1x48x224x224 : Shape := ⟨4, ![1, 48, 224, 224]⟩
abbrev S48x1 : Shape := ⟨2, ![48, 1]⟩
abbrev S48x224x224 : Shape := ⟨3, ![48, 224, 224]⟩
abbrev S48 : Shape := ⟨1, ![48]⟩
abbrev S8x96 : Shape := ⟨2, ![8, 96]⟩
abbrev S96x8 : Shape := ⟨2, ![96, 8]⟩
abbrev S_ : Shape := ⟨0, ![]⟩
abbrev S96x1 : Shape := ⟨2, ![96, 1]⟩
abbrev S96x7 : Shape := ⟨2, ![96, 7]⟩
abbrev S96x16 : Shape := ⟨2, ![96, 16]⟩
abbrev S1536 : Shape := ⟨1, ![1536]⟩
abbrev S128 : Shape := ⟨1, ![128]⟩
abbrev S16 : Shape := ⟨1, ![16]⟩
abbrev S96 : Shape := ⟨1, ![96]⟩
abbrev S768 : Shape := ⟨1, ![768]⟩
abbrev S4944 : Shape := ⟨1, ![4944]⟩
abbrev S1 : Shape := ⟨1, ![1]⟩
abbrev S48x1x1 : Shape := ⟨3, ![48, 1, 1]⟩

abbrev nBuf : Table → Nat
  | .hbm => 41
  | .local .tc .vmem => 14
  | .local .scVector .vmem => 3
  | _ => 0

abbrev bufTy : (tb : Table) → Fin (nBuf tb) → BufTy
  | .hbm, ⟨0, _⟩ => ⟨S8x96x224x224, .f32⟩
  | .hbm, ⟨1, _⟩ => ⟨S8x16, .f32⟩
  | .hbm, ⟨2, _⟩ => ⟨S8, .f32⟩
  | .hbm, ⟨3, _⟩ => ⟨S1x96x1x1, .f32⟩
  | .hbm, ⟨4, _⟩ => ⟨S1x96x1x1, .f32⟩
  | .hbm, ⟨5, _⟩ => ⟨S768x1, .f32⟩
  | .hbm, ⟨6, _⟩ => ⟨S768x1, .f32⟩
  | .hbm, ⟨7, _⟩ => ⟨S8x96, .f32⟩
  | .hbm, ⟨8, _⟩ => ⟨S8x96, .f32⟩
  | .hbm, ⟨9, _⟩ => ⟨S96x8, .f32⟩
  | .hbm, ⟨10, _⟩ => ⟨S_, .f32⟩
  | .hbm, ⟨11, _⟩ => ⟨S96x1, .f32⟩
  | .hbm, ⟨12, _⟩ => ⟨S_, .f32⟩
  | .hbm, ⟨13, _⟩ => ⟨S96x7, .f32⟩
  | .hbm, ⟨14, _⟩ => ⟨S96x16, .f32⟩
  | .hbm, ⟨15, _⟩ => ⟨S1536, .f32⟩
  | .hbm, ⟨16, _⟩ => ⟨S96x8, .f32⟩
  | .hbm, ⟨17, _⟩ => ⟨S_, .f32⟩
  | .hbm, ⟨18, _⟩ => ⟨S96x8, .f32⟩
  | .hbm, ⟨19, _⟩ => ⟨S96x16, .f32⟩
  | .hbm, ⟨20, _⟩ => ⟨S1536, .f32⟩
  | .hbm, ⟨21, _⟩ => ⟨S128, .f32⟩
  | .hbm, ⟨22, _⟩ => ⟨S_, .i32⟩
  | .hbm, ⟨23, _⟩ => ⟨S_, .f32⟩
  | .hbm, ⟨24, _⟩ => ⟨S16, .f32⟩
  | .hbm, ⟨25, _⟩ => ⟨S96, .f32⟩
  | .hbm, ⟨26, _⟩ => ⟨S96, .f32⟩
  | .hbm, ⟨27, _⟩ => ⟨S768, .f32⟩
  | .hbm, ⟨28, _⟩ => ⟨S768, .f32⟩
  | .hbm, ⟨29, _⟩ => ⟨S4944, .f32⟩
  | .hbm, ⟨30, _⟩ => ⟨S1536, .f32⟩
  | .hbm, ⟨31, _⟩ => ⟨S1536, .f32⟩
  | .hbm, ⟨32, _⟩ => ⟨S96x16, .f32⟩
  | .hbm, ⟨33, _⟩ => ⟨S96x8, .f32⟩
  | .hbm, ⟨34, _⟩ => ⟨S8x96, .f32⟩
  | .hbm, ⟨35, _⟩ => ⟨S768x1, .f32⟩
  | .hbm, ⟨36, _⟩ => ⟨S96x16, .f32⟩
  | .hbm, ⟨37, _⟩ => ⟨S96x8, .f32⟩
  | .hbm, ⟨38, _⟩ => ⟨S8x96, .f32⟩
  | .hbm, ⟨39, _⟩ => ⟨S768x1, .f32⟩
  | .hbm, ⟨40, _⟩ => ⟨S8x96x224x224, .f32⟩
  | .local .tc .vmem, ⟨0, _⟩ => ⟨S1x48x224x224, .f32⟩
  | .local .tc .vmem, ⟨1, _⟩ => ⟨S1x48x224x224, .f32⟩
  | .local .tc .vmem, ⟨2, _⟩ => ⟨S48x1, .f32⟩
  | .local .tc .vmem, ⟨3, _⟩ => ⟨S48x1, .f32⟩
  | .local .tc .vmem, ⟨4, _⟩ => ⟨S48x1, .f32⟩
  | .local .tc .vmem, ⟨5, _⟩ => ⟨S48x1, .f32⟩
  | .local .tc .vmem, ⟨6, _⟩ => ⟨S1x48x224x224, .f32⟩
  | .local .tc .vmem, ⟨7, _⟩ => ⟨S1x48x224x224, .f32⟩
  | .local .tc .vmem, ⟨8, _⟩ => ⟨S48x1, .f32⟩
  | .local .tc .vmem, ⟨9, _⟩ => ⟨S48x1, .f32⟩
  | .local .tc .vmem, ⟨10, _⟩ => ⟨S48x1, .f32⟩
  | .local .tc .vmem, ⟨11, _⟩ => ⟨S48x1, .f32⟩
  | .local .tc .vmem, ⟨12, _⟩ => ⟨S1x48x224x224, .f32⟩
  | .local .tc .vmem, ⟨13, _⟩ => ⟨S1x48x224x224, .f32⟩
  | .local .scVector .vmem, ⟨0, _⟩ => ⟨S4944, .f32⟩
  | .local .scVector .vmem, ⟨1, _⟩ => ⟨S1536, .f32⟩
  | .local .scVector .vmem, ⟨2, _⟩ => ⟨S1536, .f32⟩
  | _, _ => ⟨S8x96x224x224, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v18_scv : Ref sig .scVector := ⟨.hbm, 29, rfl⟩
abbrev main_v19_0_scv : Ref sig .scVector := ⟨.hbm, 30, rfl⟩
abbrev main_v19_1_scv : Ref sig .scVector := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg3_0 : Ref sig .tc := ⟨.vmem, 12, rfl⟩
abbrev cc2_stg3_1 : Ref sig .tc := ⟨.vmem, 13, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x48x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S48x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S48x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 16], ![false, false]⟩

abbrev grid2 : Pipeline.Grid := ⟨2, ![8, 2], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x48x224x224 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S48x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S48x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x48x224x224 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_hw" => some ((50176⁻¹ : ℝ) : EReal)
  | _ => none
-- ==== ReferenceIdeal.lean ====
abbrev S8x96x224x224 : Shape := ⟨4, ![8, 96, 224, 224]⟩
abbrev S8x16 : Shape := ⟨2, ![8, 16]⟩
abbrev S8 : Shape := ⟨1, ![8]⟩
abbrev S1x96x1x1 : Shape := ⟨4, ![1, 96, 1, 1]⟩
abbrev S96x8x224x224 : Shape := ⟨4, ![96, 8, 224, 224]⟩
abbrev S96x8x50176 : Shape := ⟨3, ![96, 8, 50176]⟩
abbrev S_ : Shape := ⟨0, ![]⟩
abbrev S96x8 : Shape := ⟨2, ![96, 8]⟩
abbrev S96x8x1 : Shape := ⟨3, ![96, 8, 1]⟩
abbrev S96x16 : Shape := ⟨2, ![96, 16]⟩
abbrev S16x8 : Shape := ⟨2, ![16, 8]⟩
abbrev S1x8 : Shape := ⟨2, ![1, 8]⟩
abbrev S96 : Shape := ⟨1, ![96]⟩
abbrev S96x1 : Shape := ⟨2, ![96, 1]⟩
abbrev S8x96 : Shape := ⟨2, ![8, 96]⟩
abbrev S8x8 : Shape := ⟨2, ![8, 8]⟩
abbrev S1 : Shape := ⟨1, ![1]⟩
abbrev S1x1 : Shape := ⟨2, ![1, 1]⟩
abbrev S8x96x1x1 : Shape := ⟨4, ![8, 96, 1, 1]⟩

abbrev nBuf : Space → Nat
  | .hbm => 158
  | .vmem => 0
  | .smem => 0
  | _ => 0

abbrev hbmTy0_0 (i : Nat) : BufTy := match i % 128 with
  | 0 => ⟨S8x96x224x224, .f32⟩
  | 1 => ⟨S8x16, .f32⟩
  | 2 => ⟨S8, .f32⟩
  | 3 => ⟨S1x96x1x1, .f32⟩
  | 4 => ⟨S1x96x1x1, .f32⟩
  | 5 => ⟨S96x8x224x224, .f32⟩
  | 6 => ⟨S96x8x50176, .f32⟩
  | 7 => ⟨S_, .f32⟩
  | 8 => ⟨S96x8, .f32⟩
  | 9 => ⟨S_, .f32⟩
  | 10 => ⟨S96x8, .f32⟩
  | 11 => ⟨S96x8, .f32⟩
  | 12 => ⟨S_, .i32⟩
  | 13 => ⟨S_, .f32⟩
  | 14 => ⟨S96x8, .f32⟩
  | 15 => ⟨S96x8x1, .f32⟩
  | 16 => ⟨S_, .f32⟩
  | 17 => ⟨S96x8x1, .f32⟩
  | 18 => ⟨S96x8x1, .f32⟩
  | 19 => ⟨S96x8x50176, .f32⟩
  | 20 => ⟨S96x8x50176, .f32⟩
  | 21 => ⟨S96x8x50176, .f32⟩
  | 22 => ⟨S_, .f32⟩
  | 23 => ⟨S_, .f32⟩
  | 24 => ⟨S_, .f32⟩
  | 25 => ⟨S_, .f32⟩
  | 26 => ⟨S96x8, .f32⟩
  | 27 => ⟨S96x8, .f32⟩
  | 28 => ⟨S96x8, .f32⟩
  | 29 => ⟨S_, .f32⟩
  | 30 => ⟨S_, .i1⟩
  | 31 => ⟨S_, .f32⟩
  | 32 => ⟨S_, .f32⟩
  | 33 => ⟨S96x8, .f32⟩
  | 34 => ⟨S96x8, .f32⟩
  | 35 => ⟨S96x16, .f32⟩
  | 36 => ⟨S16x8, .f32⟩
  | 37 => ⟨S96x8, .f32⟩
  | 38 => ⟨S1x8, .f32⟩
  | 39 => ⟨S96x8, .f32⟩
  | 40 => ⟨S96x8, .f32⟩
  | 41 => ⟨S_, .f32⟩
  | 42 => ⟨S96, .f32⟩
  | 43 => ⟨S_, .f32⟩
  | 44 => ⟨S96, .f32⟩
  | 45 => ⟨S96, .f32⟩
  | 46 => ⟨S96x1, .f32⟩
  | 47 => ⟨S96x8, .f32⟩
  | 48 => ⟨S96x8, .f32⟩
  | 49 => ⟨S96x8, .f32⟩
  | 50 => ⟨S_, .f32⟩
  | 51 => ⟨S96, .f32⟩
  | 52 => ⟨S96x1, .f32⟩
  | 53 => ⟨S96x8, .f32⟩
  | 54 => ⟨S96x8, .f32⟩
  | 55 => ⟨S96x8, .i32⟩
  | 56 => ⟨S_, .f32⟩
  | 57 => ⟨S_, .i32⟩
  | 58 => ⟨S96, .f32⟩
  | 59 => ⟨S96, .i32⟩
  | 60 => ⟨S96x1, .i32⟩
  | 61 => ⟨S1x8, .i32⟩
  | 62 => ⟨S96x8, .i32⟩
  | 63 => ⟨S96x8, .i32⟩
  | 64 => ⟨S96x8, .i1⟩
  | 65 => ⟨S96x8, .f32⟩
  | 66 => ⟨S_, .f32⟩
  | 67 => ⟨S8x96, .f32⟩
  | 68 => ⟨S8x96x224x224, .f32⟩
  | 69 => ⟨S_, .f32⟩
  | 70 => ⟨S8x96, .f32⟩
  | 71 => ⟨S8x8, .f32⟩
  | 72 => ⟨S8x8, .f32⟩
  | 73 => ⟨S_, .f32⟩
  | 74 => ⟨S8, .f32⟩
  | 75 => ⟨S_, .f32⟩
  | 76 => ⟨S8, .f32⟩
  | 77 => ⟨S8, .f32⟩
  | 78 => ⟨S_, .f32⟩
  | 79 => ⟨S8, .f32⟩
  | 80 => ⟨S8, .f32⟩
  | 81 => ⟨S1x8, .f32⟩
  | 82 => ⟨S8x8, .f32⟩
  | 83 => ⟨S8x8, .f32⟩
  | 84 => ⟨S1x8, .f32⟩
  | 85 => ⟨S8x8, .f32⟩
  | 86 => ⟨S8x8, .f32⟩
  | 87 => ⟨S8x8, .f32⟩
  | 88 => ⟨S8x8, .f32⟩
  | 89 => ⟨S_, .f32⟩
  | 90 => ⟨S8, .f32⟩
  | 91 => ⟨S8, .f32⟩
  | 92 => ⟨S_, .f32⟩
  | 93 => ⟨S8, .f32⟩
  | 94 => ⟨S8, .f32⟩
  | 95 => ⟨S1x8, .f32⟩
  | 96 => ⟨S8x8, .f32⟩
  | 97 => ⟨S8x8, .f32⟩
  | 98 => ⟨S_, .i32⟩
  | 99 => ⟨S96, .i32⟩
  | 100 => ⟨S96, .i1⟩
  | 101 => ⟨S_, .i32⟩
  | 102 => ⟨S96, .i32⟩
  | 103 => ⟨S96, .i32⟩
  | 104 => ⟨S96, .i32⟩
  | 105 => ⟨S96x1, .i32⟩
  | 106 => ⟨S1, .i32⟩
  | 107 => ⟨S_, .i32⟩
  | 108 => ⟨S96x1, .i32⟩
  | 109 => ⟨S96x1, .i1⟩
  | 110 => ⟨S1x1, .i32⟩
  | 111 => ⟨S96x1, .i32⟩
  | 112 => ⟨S96x1, .i1⟩
  | 113 => ⟨S96x1, .i1⟩
  | 114 => ⟨S_, .i1⟩
  | 115 => ⟨S96, .i1⟩
  | 116 => ⟨S8x96, .f32⟩
  | 117 => ⟨S8x96, .i1⟩
  | 118 => ⟨S_, .f32⟩
  | 119 => ⟨S8x96, .f32⟩
  | 120 => ⟨S8x96, .f32⟩
  | 121 => ⟨S_, .i32⟩
  | 122 => ⟨S96, .i32⟩
  | 123 => ⟨S96, .i1⟩
  | 124 => ⟨S_, .i32⟩
  | 125 => ⟨S96, .i32⟩
  | 126 => ⟨S96, .i32⟩
  | 127 => ⟨S96, .i32⟩
  | _ => ⟨S8x96x224x224, .f32⟩

abbrev hbmTy0_1 (i : Nat) : BufTy := match i % 128 with
  | 0 => ⟨S96x1, .i32⟩
  | 1 => ⟨S1, .i32⟩
  | 2 => ⟨S_, .i32⟩
  | 3 => ⟨S96x1, .i32⟩
  | 4 => ⟨S96x1, .i1⟩
  | 5 => ⟨S1x1, .i32⟩
  | 6 => ⟨S96x1, .i32⟩
  | 7 => ⟨S96x1, .i1⟩
  | 8 => ⟨S96x1, .i1⟩
  | 9 => ⟨S_, .i1⟩
  | 10 => ⟨S96, .i1⟩
  | 11 => ⟨S8x96, .f32⟩
  | 12 => ⟨S8x96, .i1⟩
  | 13 => ⟨S_, .f32⟩
  | 14 => ⟨S8x96, .f32⟩
  | 15 => ⟨S8x96, .f32⟩
  | 16 => ⟨S8x96x1x1, .f32⟩
  | 17 => ⟨S8x96x224x224, .f32⟩
  | 18 => ⟨S8x96x224x224, .f32⟩
  | 19 => ⟨S8x96x1x1, .f32⟩
  | 20 => ⟨S_, .f32⟩
  | 21 => ⟨S8x96x1x1, .f32⟩
  | 22 => ⟨S8x96x1x1, .f32⟩
  | 23 => ⟨S8x96x1x1, .f32⟩
  | 24 => ⟨S8x96x224x224, .f32⟩
  | 25 => ⟨S8x96x224x224, .f32⟩
  | 26 => ⟨S8x96x224x224, .f32⟩
  | 27 => ⟨S8x96x224x224, .f32⟩
  | 28 => ⟨S8x96x224x224, .f32⟩
  | 29 => ⟨S8x96x224x224, .f32⟩
  | _ => ⟨S8x96x224x224, .f32⟩

abbrev hbmTy (i : Nat) : BufTy := match i / 128 with
  | 0 => hbmTy0_0 i
  | 1 => hbmTy0_1 i
  | _ => ⟨S8x96x224x224, .f32⟩

abbrev bufTy : (tb : Table) → Fin (tcTables nBuf tb) → BufTy
  | .hbm, ⟨i, _⟩ => hbmTy i
  | _, _ => ⟨S8x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_1 : Ref sig .tc := ⟨.hbm, 41, rfl⟩
abbrev main_v12 : Ref sig .tc := ⟨.hbm, 42, rfl⟩
abbrev main_cst_2 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_3 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_call1_v0 : Ref sig .tc := ⟨.hbm, 55, rfl⟩
abbrev main_call1_cst : Ref sig .tc := ⟨.hbm, 56, rfl⟩
abbrev main_call1_c : Ref sig .tc := ⟨.hbm, 57, rfl⟩
abbrev main_call1_v1_0 : Ref sig .tc := ⟨.hbm, 58, rfl⟩
abbrev main_v23 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_v24 : Ref sig .tc := ⟨.hbm, 65, rfl⟩
abbrev main_cst_4 : Ref sig .tc := ⟨.hbm, 66, rfl⟩
abbrev main_v25 : Ref sig .tc := ⟨.hbm, 67, rfl⟩
abbrev main_v26 : Ref sig .tc := ⟨.hbm, 68, rfl⟩
abbrev main_cst_5 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_cst_6 : Ref sig .tc := ⟨.hbm, 73, rfl⟩
abbrev main_v30 : Ref sig .tc := ⟨.hbm, 74, rfl⟩
abbrev main_cst_7 : Ref sig .tc := ⟨.hbm, 75, rfl⟩
abbrev main_v31 : Ref sig .tc := ⟨.hbm, 76, rfl⟩
abbrev main_v32 : Ref sig .tc := ⟨.hbm, 77, rfl⟩
abbrev main_cst_8 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_cst_9 : Ref sig .tc := ⟨.hbm, 89, rfl⟩
abbrev main_v43 : Ref sig .tc := ⟨.hbm, 90, rfl⟩
abbrev main_v44 : Ref sig .tc := ⟨.hbm, 91, rfl⟩
abbrev main_cst_10 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_call3_c : Ref sig .tc := ⟨.hbm, 98, rfl⟩
abbrev main_call3_v0 : Ref sig .tc := ⟨.hbm, 99, rfl⟩
abbrev main_call3_v1 : Ref sig .tc := ⟨.hbm, 100, rfl⟩
abbrev main_call3_c_0 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_c_1 : Ref sig .tc := ⟨.hbm, 106, rfl⟩
abbrev main_call3_c_2 : Ref sig .tc := ⟨.hbm, 107, rfl⟩
abbrev main_call3_v6 : Ref sig .tc := ⟨.hbm, 108, rfl⟩
abbrev main_call3_v7 : Ref sig .tc := ⟨.hbm, 109, rfl⟩
abbrev main_call3_v8 : Ref sig .tc := ⟨.hbm, 110, rfl⟩
abbrev main_call3_v9 : Ref sig .tc := ⟨.hbm, 111, rfl⟩
abbrev main_call3_v10 : Ref sig .tc := ⟨.hbm, 112, rfl⟩
abbrev main_call3_v11 : Ref sig .tc := ⟨.hbm, 113, rfl⟩
abbrev main_call3_c_3 : Ref sig .tc := ⟨.hbm, 114, rfl⟩
abbrev main_call3_v12 : Ref sig .tc := ⟨.hbm, 115, rfl⟩
abbrev main_call3_v13 : Ref sig .tc := ⟨.hbm, 116, rfl⟩
abbrev main_call3_v14 : Ref sig .tc := ⟨.hbm, 117, rfl⟩
abbrev main_call3_cst : Ref sig .tc := ⟨.hbm, 118, rfl⟩
abbrev main_call3_v15 : Ref sig .tc := ⟨.hbm, 119, rfl⟩
abbrev main_v50 : Ref sig .tc := ⟨.hbm, 120, rfl⟩
abbrev main_call4_c : Ref sig .tc := ⟨.hbm, 121, rfl⟩
abbrev main_call4_v0 : Ref sig .tc := ⟨.hbm, 122, rfl⟩
abbrev main_call4_v1 : Ref sig .tc := ⟨.hbm, 123, rfl⟩
abbrev main_call4_c_0 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_call4_v5 : Ref sig .tc := ⟨.hbm, 128, rfl⟩
abbrev main_call4_c_1 : Ref sig .tc := ⟨.hbm, 129, rfl⟩
abbrev main_call4_c_2 : Ref sig .tc := ⟨.hbm, 130, rfl⟩
abbrev main_call4_v6 : Ref sig .tc := ⟨.hbm, 131, rfl⟩
abbrev main_call4_v7 : Ref sig .tc := ⟨.hbm, 132, rfl⟩
abbrev main_call4_v8 : Ref sig .tc := ⟨.hbm, 133, rfl⟩
abbrev main_call4_v9 : Ref sig .tc := ⟨.hbm, 134, rfl⟩
abbrev main_call4_v10 : Ref sig .tc := ⟨.hbm, 135, rfl⟩
abbrev main_call4_v11 : Ref sig .tc := ⟨.hbm, 136, rfl⟩
abbrev main_call4_c_3 : Ref sig .tc := ⟨.hbm, 137, rfl⟩
abbrev main_call4_v12 : Ref sig .tc := ⟨.hbm, 138, rfl⟩
abbrev main_call4_v13 : Ref sig .tc := ⟨.hbm, 139, rfl⟩
abbrev main_call4_v14 : Ref sig .tc := ⟨.hbm, 140, rfl⟩
abbrev main_call4_cst : Ref sig .tc := ⟨.hbm, 141, rfl⟩
abbrev main_call4_v15 : Ref sig .tc := ⟨.hbm, 142, rfl⟩
abbrev main_v51 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_cst_11 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_v59 : Ref sig .tc := ⟨.hbm, 152, rfl⟩
abbrev main_v60 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩

abbrev nD : Nat := 1
abbrev τ : Topo := Topo.v7x

variable {F : FTy → Type} [FloatOps F]
-- ==== Proof.Values.lean ====
module

public import Idealize.ShloMosaic.PureOps

@[expose] public section

/-!
# What the parameter kernel computes from its packed operand, as vectors of sixteen lanes

Rows of sixteen words come out of the packed operand; each function here is one step on such rows, in the kernel's own
order of operations. `c` is the reciprocal of the number of positions.
-/

noncomputable section

namespace Cert.Params

open Idealize.ShloMosaic

variable {F : FTy → Type} [FloatOps F]

abbrev S1 : Shape := ⟨1, ![1]⟩
abbrev S16 : Shape := ⟨1, ![16]⟩
abbrev S1536 : Shape := ⟨1, ![1536]⟩
abbrev S4944 : Shape := ⟨1, ![4944]⟩

/-- Sixteen lanes of floats. -/
abbrev V (F : FTy → Type) := FVec F S16 .f32

theorem slices (o : ℕ) : S16.Slices ![o % 16] S1 := by
  have : o % 16 < 16 := Nat.mod_lt _ (by decide)
  refine ⟨rfl, fun a => ?_⟩
  obtain rfl : a = 0 := Subsingleton.elim _ _
  show o % 16 + 1 ≤ 16; omega

theorem inpos : ∀ a, (![0] : Fin 1 → Nat) a < S1.size a := by decide

/-- The float in lane `o`. -/
def lane (v : V F) (o : ℕ) : F .f32 := extractAt ![0] (extractStridedSlice S1 ![o % 16] v (slices o)) inpos
/-- The word in lane `o`. -/
def ilane (v : IVec S16 32) (o : ℕ) : BitVec 32 := extractAt ![0] (extractStridedSlice S1 ![o % 16] v (slices o)) inpos
/-- Every lane at one float. -/
abbrev all (x : F .f32) : V F := broadcast S16 x

def mean (c : F .f32) (a : V F) : V F := mulf a (all c)
def var (c : F .f32) (a b : V F) : V F :=
  divf (subf b (mulf (mulf (mean c a) (mean c a)) (all (Scalar.ofBits .f32 0x47440000#32)))) (all (Scalar.ofBits .f32 0x4743FF00#32))

/-- One group's logit: the bias, then per image its mean and variance against the group's row of weights. -/
def logit (row : V F) : ℕ → List (V F × V F) → V F → V F
  | _, [], acc => acc
  | n, (m, v) :: l, acc => logit row (n + 1) l (addf (addf acc (mulf m (all (lane row n)))) (mulf v (all (lane row (8 + n)))))

/-- The running maximum over the groups from `k` on, and the group that reached it first. -/
def best (fb : V F) (mv : List (V F × V F)) : ℕ → List (V F) → V F → IVec S16 32 → IVec S16 32
  | _, [], _, ix => ix
  | k, row :: rows, b, ix =>
    best fb mv (k + 1) rows (select (cmpf .ogt (logit row 0 mv (all (lane fb k))) b) (logit row 0 mv (all (lane fb k))) b)
      (select (cmpf .ogt (logit row 0 mv (all (lane fb k))) b) (broadcast S16 (BitVec.ofNat 32 k)) ix)

/-- Sixteen channels' groups: per channel the first group whose logit is largest. -/
def groups (fb : V F) (fw : List (V F)) (mv : List (V F × V F)) : IVec S16 32 :=
  match fw with
  | [] => broadcast S16 0#32
  | row :: rows => best fb mv 1 rows (logit row 0 mv (all (lane fb 0))) (broadcast S16 0#32)

/-- Entry `n` of a list, `d` past its end. -/
@[reducible] def nth {α : Type} (d : α) : List α → ℕ → α
  | [], _ => d
  | x :: _, 0 => x
  | _ :: l, n + 1 => nth d l n

/-- Channel `c`'s group. -/
abbrev gid (gs : List (IVec S16 32)) (c : ℕ) : BitVec 32 := ilane (nth (broadcast S16 0#32) gs (c / 16)) c

/-- The sum, over the channels from `c` on in group `k`, of their rows. -/
def accum (gs : List (IVec S16 32)) (k : ℕ) : ℕ → List (V F) → V F → V F
  | _, [], s => s
  | c, r :: l, s => accum gs k (c + 1) l (Scalar.select (Scalar.cmpi .eq (gid gs c) (BitVec.ofNat 32 k)) (addf s r) s)

/-- A group's count of elements, on every lane. -/
def count (s : V F) : V F := all (Scalar.mulf (lane s 8) (Scalar.ofBits .f32 0x47440000#32))
/-- A group's mean, per image. -/
def gmean (s : V F) : V F := divf s (maximumf (count s) (all (Scalar.ofBits .f32 0x3F800000#32)))
/-- One over the square root of a group's variance plus epsilon, per image. -/
def grstd (s q : V F) : V F :=
  rsqrt (addf (divf (subf q (mulf (mulf (count s) (gmean s)) (gmean s)))
      (maximumf (subf (count s) (all (Scalar.ofBits .f32 0x3F800000#32))) (all (Scalar.ofBits .f32 0x3F800000#32))))
    (all (Scalar.ofBits .f32 0x3727C5AC#32)))

/-- Group `g`'s entry of a table by groups, among the groups listed, or else `v`. -/
@[reducible] def pick (g : BitVec 32) (t : List (V F)) : List ℕ → V F → V F
  | [], v => v
  | k :: ks, v => pick g t ks (Scalar.select (Scalar.cmpi .eq g (BitVec.ofNat 32 k)) (nth (all (Scalar.ofBits .f32 0x00000000#32)) t k) v)

/-- A group's entry of a table whose first entry is group 0's. -/
abbrev pickG (g : BitVec 32) (t : List (V F)) : V F :=
  pick g t [1, 2, 3, 4, 5, 6, 7] (nth (all (Scalar.ofBits .f32 0x00000000#32)) t 0)

/-- The two tables by groups, of means and of reciprocal deviations. -/
def gmeans (gs : List (IVec S16 32)) (rs : List (V F)) (ks : List ℕ) : List (V F) :=
  ks.map fun k => gmean (accum gs k 0 rs (all (Scalar.ofBits .f32 0x00000000#32)))
def grstds (gs : List (IVec S16 32)) (rs qs : List (V F)) (ks : List ℕ) : List (V F) :=
  ks.map fun k => grstd (accum gs k 0 rs (all (Scalar.ofBits .f32 0x00000000#32))) (accum gs k 0 qs (all (Scalar.ofBits .f32 0x00000000#32)))

/-- A channel's weight or bias out of the six rows of them. -/
abbrev chan (w : List (V F)) (c : ℕ) : V F := all (lane (nth (all (Scalar.ofBits .f32 0x00000000#32)) w (c / 16)) c)

/-- Channel `c`'s scale, per image. -/
def scale (gs : List (IVec S16 32)) (ry : List (V F)) (w : List (V F)) (c : ℕ) : V F :=
  mulf (chan w c) (pickG (gid gs c) ry)
/-- Channel `c`'s shift, per image. -/
def shift (gs : List (IVec S16 32)) (gm ry : List (V F)) (w b : List (V F)) (c : ℕ) : V F :=
  subf (chan b c) (mulf (pickG (gid gs c) gm) (scale gs ry w c))

end Cert.Params

end
-- ==== Proof.Structured.lean ====
module

public import proofs.«01_k».proof.Proof.Values
public import Idealize.ShloMosaic.Lib.SparseCore

@[expose] public section

/-!
# The parameter kernel, as a program by loops

`program` reads the packed operand row by row, computes the two tables by groups and writes each channel's scale and
shift: what the printed kernel does statement by statement, said with recursion over rows and channels.
-/

noncomputable section

namespace Cert.Params

open Idealize.ShloMosaic Idealize.SL.Sem

theorem inbPack (o : ℕ) : ∀ a, (![o % 4929] : Fin 1 → Nat) a + S16.size a ≤ S4944.size a := by
  intro a; obtain rfl : a = 0 := Subsingleton.elim _ _
  have : o % 4929 < 4929 := Nat.mod_lt _ (by decide)
  show o % 4929 + 16 ≤ 4944; omega
theorem inbOut (o : ℕ) : ∀ a, (![o % 1521] : Fin 1 → Nat) a + S16.size a ≤ S1536.size a := by
  intro a; obtain rfl : a = 0 := Subsingleton.elim _ _
  have : o % 1521 < 1521 := Nat.mod_lt _ (by decide)
  show o % 1521 + 16 ≤ 1536; omega
theorem pos16 : 0 < S16.numel := by decide
theorem casts16 : S16.ShapeCasts S16 := by decide

variable {F : FTy → Type} [FloatOps F]
variable {nD : Nat} {τ : Topo} {sig : RefSig} {Λ : Labels} {cc : Fin τ.nSC} {ss : Fin τ.nSub} {α : Type}

/-- Programs of a vector subcore. -/
abbrev P (F : FTy → Type) (nD : Nat) (τ : Topo) (sig : RefSig) (Λ : Labels) (cc : Fin τ.nSC) (ss : Fin τ.nSub) (α : Type) :=
  Prog (TpuEff nD τ sig (Elt F) Λ (.scVector cc ss)) α

variable (pk : Memref sig .scVector .vmem S4944 .f32) (oA oB : Memref sig .scVector .vmem S1536 .f32)

/-- The sixteen words of the packed operand from `o` on. -/
def ld (o : ℕ) (k : V F → P F nD τ sig Λ cc ss α) : P F nD τ sig Λ cc ss α :=
  .op (.load pk (Rect.unit (s := S4944) ![o % 4929] S16.size (inbPack o)).toLoadRect (View.loadsAt_vmem pos16))
    (fun x => k (shapeCast S16 x casts16))

/-- `n` rows, `s` words apart. -/
def lds (s : ℕ) : ℕ → ℕ → (List (V F) → P F nD τ sig Λ cc ss α) → P F nD τ sig Λ cc ss α
  | 0, _, k => k []
  | n + 1, o, k => ld pk o fun x => lds s n (o + s) fun l => k (x :: l)

/-- `n` pairs of rows, a pair `d` words apart and pairs `s` words apart. -/
def ldps (d s : ℕ) : ℕ → ℕ → (List (V F) → List (V F) → P F nD τ sig Λ cc ss α) → P F nD τ sig Λ cc ss α
  | 0, _, k => k [] []
  | n + 1, o, k => ld pk o fun x => ld pk (o + d) fun y => ldps d s n (o + s) fun l l' => k (x :: l) (y :: l')

/-- The groups of `n` times sixteen channels. -/
def chunks (c : F .f32) (fb : V F) (fw : List (V F)) :
    ℕ → ℕ → (List (IVec S16 32) → P F nD τ sig Λ cc ss α) → P F nD τ sig Λ cc ss α
  | 0, _, k => k []
  | n + 1, o, k => ldps pk 768 96 8 o fun a b =>
      chunks c fb fw n (o + 16) fun l => k (groups fb fw ((a.zip b).map fun p => (mean c p.1, var c p.1 p.2)) :: l)

/-- Sixteen words written at `o`, after a load of them that nothing uses. -/
def st (m : Memref sig .scVector .vmem S1536 .f32) (o : ℕ) (v : V F) (k : P F nD τ sig Λ cc ss α) : P F nD τ sig Λ cc ss α :=
  .op (.load m (Rect.unit (s := S1536) ![o % 1521] S16.size (inbOut o)).toLoadRect (View.loadsAt_vmem pos16)) fun _ =>
  .op (.store m (Rect.unit (s := S1536) ![o % 1521] S16.size (inbOut o)) (shapeCast S16 v casts16) Finset.univ
    (View.stores_vmem_bits_univ pos16 rfl) (.inl rfl)) fun _ => k

/-- The scales and shifts of `n` channels from `c` on. -/
def outs (gs : List (IVec S16 32)) (gm ry w b : List (V F)) :
    ℕ → ℕ → P F nD τ sig Λ cc ss α → P F nD τ sig Λ cc ss α
  | 0, _, k => k
  | n + 1, c, k => st oA (16 * c) (scale gs ry w c) (st oB (16 * c) (shift gs gm ry w b c) (outs gs gm ry w b n (c + 1) k))

/-- From the packed operand in the tile's memory to the groups, the two tables by groups, and the first two rows of
    weights. -/
def tables (c : F .f32)
    (k : List (IVec S16 32) → List (V F) → List (V F) → V F → V F → P F nD τ sig Λ cc ss α) : P F nD τ sig Λ cc ss α :=
  ld pk 128 fun fb => lds pk 16 8 0 fun fw =>
  chunks pk c fb fw 6 3408 fun gs =>
  ldps pk 1536 16 96 336 fun rs qs =>
  ld pk 144 fun w0 => ld pk 160 fun w1 =>
  k gs (gmeans gs rs [0, 1, 2, 3, 4, 5, 6, 7]) (grstds gs rs qs [0, 1, 2, 3, 4, 5, 6, 7]) w0 w1

/-- From the tables to every channel's scale and shift in the tile's memory. -/
def writes (gs : List (IVec S16 32)) (gm ry : List (V F)) (w0 w1 : V F) (k : P F nD τ sig Λ cc ss α) : P F nD τ sig Λ cc ss α :=
  lds pk 16 4 176 fun w => lds pk 16 6 240 fun b => outs oA oB gs gm ry (w0 :: w1 :: w) b 96 0 k

/-- The whole kernel on the one subcore that works: the packed operand fetched, the scales and shifts computed, and each
    written back. -/
def program (c : F .f32) (src : Memref sig .scVector .hbm S4944 .f32) (hsrc : src.IsWhole)
    (dA : Memref sig .scVector .hbm S1536 .f32) (hdA : dA.IsWhole) (dB : Memref sig .scVector .hbm S1536 .f32) (hdB : dB.IsWhole)
    (pk : Memref sig .scVector .vmem S4944 .f32) (hpk : pk.IsWhole) (oA : Memref sig .scVector .vmem S1536 .f32) (hoA : oA.IsWhole)
    (oB : Memref sig .scVector .vmem S1536 .f32) (hoB : oB.IsWhole) (s0 s1 s2 : DmaSems sig ⟨0, ![]⟩) :
    P F nD τ sig Λ cc ss PUnit :=
  .op (.enqueueDma src (.here pk) (.dma s0.sem) hsrc.wordExact hpk.wordExact ⟨Or.inl rfl, trivial⟩) fun _ =>
  .op (.waitDma2 s0.sem src pk hsrc.wordExact hpk.wordExact) fun _ =>
  tables pk c fun gs gm ry w0 w1 => writes pk oA oB gs gm ry w0 w1 <|
  .op (.enqueueDma oA (.here dA) (.dma s1.sem) hoA.wordExact hdA.wordExact ⟨Or.inl rfl, trivial⟩) fun _ =>
  .op (.waitDma2 s1.sem oA dA hoA.wordExact hdA.wordExact) fun _ =>
  .op (.enqueueDma oB (.here dB) (.dma s2.sem) hoB.wordExact hdB.wordExact ⟨Or.inl rfl, trivial⟩) fun _ =>
  .op (.waitDma2 s2.sem oB dB hoB.wordExact hdB.wordExact) fun _ =>
  .ret ⟨⟩

end Cert.Params

end
-- ==== Proof.Cut.lean ====
module

public import proofs.«01_k».proof.KernelIdeal
public import proofs.«01_k».proof.Proof.Structured

@[expose] public section

/-!
# The printed parameter kernel, cut in two

The kernel works on the one subcore whose coordinates are both zero, and returns at once on every other. The printed
parts are cut where the two tables by groups are complete; before the cut and after it they are compared one by one
(CutBefore, CutAfter).
-/

noncomputable section

namespace Cert.KernelIdeal

open Idealize.ShloMosaic Idealize.SL.Sem
open Facts₀ Facts

variable {F : FTy → Type} [FloatOps F] [Named F] [Facts]

/-- Whether a subcore is the one that works. -/
abbrev First (i : grid1.Coords) : Prop := Scalar.cmpi .ne ((Scalar.extui (Scalar.andi (Scalar.cmpi .eq (BitVec.ofNat 32 (i 0).val) 0#32)
  (Scalar.cmpi .eq (BitVec.ofNat 32 (i 1).val) 0#32)) : BitVec 32)) 0#32 = 1#1

variable (i : grid1.Coords) (arg2 : Memref sig .scVector .hbm S4944 .f32) (harg2 : arg2.IsWhole) (arg3 : Memref sig .scVector .hbm S1536 .f32) (harg3 : arg3.IsWhole)
  (arg4 : Memref sig .scVector .hbm S1536 .f32) (harg4 : arg4.IsWhole) (arg5 : Memref sig .scVector .vmem S4944 .f32) (harg5 : arg5.IsWhole)
  (arg6 : Memref sig .scVector .vmem S1536 .f32) (harg6 : arg6.IsWhole) (arg7 : Memref sig .scVector .vmem S1536 .f32) (harg7 : arg7.IsWhole)
  (r0 r1 r2 : DmaSems sig S_)

/-- The printed parts from the groups and the tables on. -/
def after (gs : List (IVec S16 32)) (gm ry : List (FVec F S16 .f32)) (w0 w1 : FVec F S16 .f32) :
    Params.P F nD τ sig Λ₀ ((i 0).castLE hcore1) ((i 1).castLE hsub1) PUnit := do
  let g := Params.nth (broadcast S16 0#32) gs
  let m := Params.nth (Params.all (Scalar.ofBits .f32 0x00000000#32)) gm
  let y := Params.nth (Params.all (Scalar.ofBits .f32 0x00000000#32)) ry
  let ⟨v9323, v9325, v9327, v9329, v9331, v9333, v9335, v9337, v9339, v9341, v9363, v9364, v9365⟩ ← k1_part178 i arg2 harg2 arg3 harg3 arg4 harg4
      arg5 harg5 arg6 harg6 arg7 harg7 r0 r1 r2 (g 0) (m 0) (y 0) (m 1) (y 1) (m 2) (y 2) (m 3) (y 3) (m 4) (y 4) (m 5) (y 5) (m 6) (y 6) (m 7) (y 7)
      w0
  let ⟨v9408, v9411⟩ ← k1_part179 i arg2 harg2 arg3 harg3 arg4 harg4 arg5 harg5 arg6 harg6 arg7 harg7 r0 r1 r2 (g 0) (m 0) (y 0) (m 1) (y 1) (m 2) (y
      2) (m 3) (y 3) (m 4) (y 4) (m 5) (y 5) (m 6) (y 6) (m 7) (y 7) w0 v9331 v9363 v9364 v9365
  let ⟨v9457, v9458⟩ ← k1_part180 i arg2 harg2 arg3 harg3 arg4 harg4 arg5 harg5 arg6 harg6 arg7 harg7 r0 r1 r2 (g 0) (m 0) (y 0) (m 1) (y 1) (m 2) (y
      2) (m 3) (y 3) (m 4) (y 4) (m 5) (y 5) (m 6) (y 6) (m 7) (y 7) w0 v9331 v9408 v9411
  let ⟨v12231, v12248, v12249, c7_i32_1685⟩ ← k1_part259 i arg2 harg2 arg3 harg3 arg4 harg4 arg5 harg5 arg6 harg6 arg7 harg7 r0 r1 r2 (g 0) (g 1) (g
      2) (g 3) (g 4) (m 0) (y 0) (m 1) (y 1) (m 2) (y 2) (m 3) (y 3) (m 4) (y 4) (m 5) (y 5) (m 6) (y 6) (m 7) (y 7) w0 w1 v9323 v9325 v9327 v9331
      v9333 v9335 v9337 v9339 v9457 v9458
  let ⟨v12980, v12983, v12984⟩ ← k1_part260 i arg2 harg2 arg3 harg3 arg4 harg4 arg5 harg5 arg6 harg6 arg7 harg7 r0 r1 r2 (g 4) (g 5) (m 0) (y 0) (m
      1) (y 1) (m 2) (y 2) (m 3) (y 3) (m 4) (y 4) (m 5) (y 5) (m 6) (y 6) (m 7) (y 7) v9327 v9329 v9339 v9341 v12231 v12248 v12249 c7_i32_1685
  Prog.lift (.store arg6 (Rect.unit (s := S1536) ![1520] S16.size inb_S1536_S16_1520) (shapeCast S16 v12980 shapeCasts_S16_S16) Finset.univ
    (View.stores_vmem_bits_univ h_S16 rfl) (.inl rfl))
  let _ ← Prog.lift (.load arg7 (Rect.unit (s := S1536) ![1520] S16.size inb_S1536_S16_1520).toLoadRect (View.loadsAt_vmem h_S16))
  Prog.lift (.store arg7 (Rect.unit (s := S1536) ![1520] S16.size inb_S1536_S16_1520) (shapeCast S16 v12983 shapeCasts_S16_S16) Finset.univ
    (View.stores_vmem_bits_univ h_S16 rfl) (.inl rfl))
  Prog.lift (.enqueueDma arg6 (.here arg3) (.dma r1.sem) harg6.wordExact harg3.wordExact ⟨Or.inl rfl, trivial⟩)
  Prog.lift (.waitDma2 r1.sem arg6 arg3 harg6.wordExact harg3.wordExact)
  Prog.lift (.enqueueDma arg7 (.here arg4) (.dma r2.sem) harg7.wordExact harg4.wordExact ⟨Or.inl rfl, trivial⟩)
  Prog.lift (.waitDma2 r2.sem arg7 arg4 harg7.wordExact harg4.wordExact)
  pure ⟨⟩

/-- The printed parts up to there, and then `k`. -/
def before (k : List (IVec S16 32) → List (FVec F S16 .f32) → List (FVec F S16 .f32) → FVec F S16 .f32 → FVec F S16 .f32 →
      Params.P F nD τ sig Λ₀ ((i 0).castLE hcore1) ((i 1).castLE hsub1) PUnit) :
    Params.P F nD τ sig Λ₀ ((i 0).castLE hcore1) ((i 1).castLE hsub1) PUnit := do
  let ⟨v6, v8, v10, v12, v14, v16, v18, v20, v22, v811, v1600, v2389, v3178, v3184, v3190, v3196, v3202, v3208, v3214, v3220, v3226, v3232, v3238,
      v3244, v3250, v3256, v3262, v3268, v3274, v3357, v3358, v3360⟩ ← k1_part256 i arg2 harg2 arg3 harg3 arg4 harg4 arg5 harg5 arg6 harg6 arg7 harg7
      r0 r1 r2
  let ⟨v3967, v4756, v6475, v6478, v6480, v6483, v6485, v6488, v6490, v6493, v6495, v6498, v6500, v6503, v6505, v6507, v6509, v6511, v6514, v6516,
      v6517, v6519, v6520⟩ ← k1_part257 i arg2 harg2 arg3 harg3 arg4 harg4 arg5 harg5 arg6 harg6 arg7 harg7 r0 r1 r2 v6 v8 v10 v12 v14 v16 v18 v20
      v22 v811 v1600 v2389 v3184 v3190 v3196 v3202 v3208 v3214 v3220 v3226 v3232 v3238 v3244 v3250 v3256 v3262 v3268 v3274 v3357 v3358 v3360
  let ⟨v6524, v6526, v6529, v6531, v6534, v6536, v6539, v6541, v6544, v6546, v6549, v6551, v6553, v6555, v6557, v6560, v6562, v6565, v6567, v6568,
      v6569⟩ ← k1_part121 i arg2 harg2 arg3 harg3 arg4 harg4 arg5 harg5 arg6 harg6 arg7 harg7 r0 r1 r2 v2389 v6475 v6478 v6480 v6483 v6485 v6488
      v6490 v6493 v6495 v6498 v6500 v6503 v6505 v6507 v6509 v6511 v6514 v6516 v6517 v6519 v6520
  let ⟨v6575, v6577, v6580, v6582, v6585, v6587, v6590, v6592, v6595, v6597, v6599, v6601, v6603, v6606, v6608, v6611, v6613, v6616, v6618,
      c3_i32_510⟩ ← k1_part122 i arg2 harg2 arg3 harg3 arg4 harg4 arg5 harg5 arg6 harg6 arg7 harg7 r0 r1 r2 v2389 v6524 v6526 v6529 v6531 v6534 v6536
      v6539 v6541 v6544 v6546 v6549 v6551 v6553 v6555 v6557 v6560 v6562 v6565 v6567 v6568 v6569
  let ⟨v6623, v6626, v6628, v6631, v6633, v6636, v6638, v6641, v6643, v6645, v6647, v6649, v6652, v6654, v6657, v6659, v6662, v6664, v6665, v6667,
      v6668⟩ ← k1_part123 i arg2 harg2 arg3 harg3 arg4 harg4 arg5 harg5 arg6 harg6 arg7 harg7 r0 r1 r2 v2389 v6575 v6577 v6580 v6582 v6585 v6587
      v6590 v6592 v6595 v6597 v6599 v6601 v6603 v6606 v6608 v6611 v6613 v6616 v6618 c3_i32_510
  let ⟨v6672, v6674, v6677, v6679, v6682, v6684, v6687, v6689, v6691, v6693, v6695, v6698, v6700, v6703, v6705, v6708, v6710, v6713, v6715, v6716,
      v6717⟩ ← k1_part124 i arg2 harg2 arg3 harg3 arg4 harg4 arg5 harg5 arg6 harg6 arg7 harg7 r0 r1 r2 v2389 v6623 v6626 v6628 v6631 v6633 v6636
      v6638 v6641 v6643 v6645 v6647 v6649 v6652 v6654 v6657 v6659 v6662 v6664 v6665 v6667 v6668
  let ⟨v6723, v6725, v6728, v6730, v6733, v6735, v6737, v6739, v6741, v6744, v6746, v6749, v6751, v6754, v6756, v6759, v6761, v6764, v6766,
      c5_i32_536⟩ ← k1_part125 i arg2 harg2 arg3 harg3 arg4 harg4 arg5 harg5 arg6 harg6 arg7 harg7 r0 r1 r2 v2389 v6672 v6674 v6677 v6679 v6682 v6684
      v6687 v6689 v6691 v6693 v6695 v6698 v6700 v6703 v6705 v6708 v6710 v6713 v6715 v6716 v6717
  let ⟨v6771, v6774, v6776, v6779, v6781, v6783, v6785, v6787, v6790, v6792, v6795, v6797, v6800, v6802, v6805, v6807, v6810, v6812, v6813, v6815,
      v6816⟩ ← k1_part126 i arg2 harg2 arg3 harg3 arg4 harg4 arg5 harg5 arg6 harg6 arg7 harg7 r0 r1 r2 v2389 v6723 v6725 v6728 v6730 v6733 v6735
      v6737 v6739 v6741 v6744 v6746 v6749 v6751 v6754 v6756 v6759 v6761 v6764 v6766 c5_i32_536
  let ⟨v6820, v6822, v6825, v6827, v6829, v6831, v6833, v6836, v6838, v6841, v6843, v6846, v6848, v6851, v6853, v6856, v6858, v6861, v6863, v6864,
      v6865⟩ ← k1_part127 i arg2 harg2 arg3 harg3 arg4 harg4 arg5 harg5 arg6 harg6 arg7 harg7 r0 r1 r2 v2389 v6771 v6774 v6776 v6779 v6781 v6783
      v6785 v6787 v6790 v6792 v6795 v6797 v6800 v6802 v6805 v6807 v6810 v6812 v6813 v6815 v6816
  let ⟨v6871, v6873, v6875, v6877, v6879, v6882, v6884, v6887, v6889, v6892, v6894, v6897, v6899, v6902, v6904, v6907, v6909, v6912, v6914,
      c7_i32_562⟩ ← k1_part128 i arg2 harg2 arg3 harg3 arg4 harg4 arg5 harg5 arg6 harg6 arg7 harg7 r0 r1 r2 v2389 v6820 v6822 v6825 v6827 v6829 v6831
      v6833 v6836 v6838 v6841 v6843 v6846 v6848 v6851 v6853 v6856 v6858 v6861 v6863 v6864 v6865
  let ⟨v6919, v6928, v6930, v6933, v6935, v6938, v6940, v6943, v6945, v6948, v6950, v6953, v6955, v6958, v6960, v6961, v6963, v6964⟩ ← k1_part129 i
      arg2 harg2 arg3 harg3 arg4 harg4 arg5 harg5 arg6 harg6 arg7 harg7 r0 r1 r2 v2389 v6871 v6873 v6875 v6877 v6879 v6882 v6884 v6887 v6889 v6892
      v6894 v6897 v6899 v6902 v6904 v6907 v6909 v6912 v6914 c7_i32_562
  let ⟨v6974, v6976, v6979, v6981, v6984, v6986, v6989, v6991, v6994, v6996, v6999, v7001, v7004, v7006, v7009, v7011, v7013⟩ ← k1_part130 i arg2
      harg2 arg3 harg3 arg4 harg4 arg5 harg5 arg6 harg6 arg7 harg7 r0 r1 r2 v3178 v6919 v6928 v6930 v6933 v6935 v6938 v6940 v6943 v6945 v6948 v6950
      v6953 v6955 v6958 v6960 v6961 v6963 v6964
  let ⟨v7020, v7022, v7025, v7027, v7030, v7032, v7035, v7037, v7040, v7042, v7045, v7047, v7050, v7052, v7055, v7057, v7059, v7061, v7062⟩ ←
      k1_part131 i arg2 harg2 arg3 harg3 arg4 harg4 arg5 harg5 arg6 harg6 arg7 harg7 r0 r1 r2 v3178 v6974 v6976 v6979 v6981 v6984 v6986 v6989 v6991
      v6994 v6996 v6999 v7001 v7004 v7006 v7009 v7011 v7013
  let ⟨v7066, v7068, v7071, v7073, v7076, v7078, v7081, v7083, v7086, v7088, v7091, v7093, v7096, v7098, v7101, v7103, v7105, v7107, v7109, v7110,
      v7111⟩ ← k1_part132 i arg2 harg2 arg3 harg3 arg4 harg4 arg5 harg5 arg6 harg6 arg7 harg7 r0 r1 r2 v3178 v7020 v7022 v7025 v7027 v7030 v7032
      v7035 v7037 v7040 v7042 v7045 v7047 v7050 v7052 v7055 v7057 v7059 v7061 v7062
  let ⟨v7117, v7119, v7122, v7124, v7127, v7129, v7132, v7134, v7137, v7139, v7142, v7144, v7147, v7149, v7151, v7153, v7155, v7158, v7160,
      c1_i32_604⟩ ← k1_part133 i arg2 harg2 arg3 harg3 arg4 harg4 arg5 harg5 arg6 harg6 arg7 harg7 r0 r1 r2 v3178 v7066 v7068 v7071 v7073 v7076 v7078
      v7081 v7083 v7086 v7088 v7091 v7093 v7096 v7098 v7101 v7103 v7105 v7107 v7109 v7110 v7111
  let ⟨v7165, v7168, v7170, v7173, v7175, v7178, v7180, v7183, v7185, v7188, v7190, v7193, v7195, v7197, v7199, v7201, v7204, v7206, v7207, v7209,
      v7210⟩ ← k1_part134 i arg2 harg2 arg3 harg3 arg4 harg4 arg5 harg5 arg6 harg6 arg7 harg7 r0 r1 r2 v3178 v7117 v7119 v7122 v7124 v7127 v7129
      v7132 v7134 v7137 v7139 v7142 v7144 v7147 v7149 v7151 v7153 v7155 v7158 v7160 c1_i32_604
  let ⟨v7214, v7216, v7219, v7221, v7224, v7226, v7229, v7231, v7234, v7236, v7239, v7241, v7243, v7245, v7247, v7250, v7252, v7255, v7257, v7258,
      v7259⟩ ← k1_part135 i arg2 harg2 arg3 harg3 arg4 harg4 arg5 harg5 arg6 harg6 arg7 harg7 r0 r1 r2 v3178 v7165 v7168 v7170 v7173 v7175 v7178
      v7180 v7183 v7185 v7188 v7190 v7193 v7195 v7197 v7199 v7201 v7204 v7206 v7207 v7209 v7210
  let ⟨v7265, v7267, v7270, v7272, v7275, v7277, v7280, v7282, v7285, v7287, v7289, v7291, v7293, v7296, v7298, v7301, v7303, v7306, v7308,
      c3_i32_630⟩ ← k1_part136 i arg2 harg2 arg3 harg3 arg4 harg4 arg5 harg5 arg6 harg6 arg7 harg7 r0 r1 r2 v3178 v7214 v7216 v7219 v7221 v7224 v7226
      v7229 v7231 v7234 v7236 v7239 v7241 v7243 v7245 v7247 v7250 v7252 v7255 v7257 v7258 v7259
  let ⟨v7313, v7316, v7318, v7321, v7323, v7326, v7328, v7331, v7333, v7335, v7337, v7339, v7342, v7344, v7347, v7349, v7352, v7354, v7355, v7357,
      v7358⟩ ← k1_part137 i arg2 harg2 arg3 harg3 arg4 harg4 arg5 harg5 arg6 harg6 arg7 harg7 r0 r1 r2 v3178 v7265 v7267 v7270 v7272 v7275 v7277
      v7280 v7282 v7285 v7287 v7289 v7291 v7293 v7296 v7298 v7301 v7303 v7306 v7308 c3_i32_630
  let ⟨v7362, v7364, v7367, v7369, v7372, v7374, v7377, v7379, v7381, v7383, v7385, v7388, v7390, v7393, v7395, v7398, v7400, v7403, v7405, v7406,
      v7407⟩ ← k1_part138 i arg2 harg2 arg3 harg3 arg4 harg4 arg5 harg5 arg6 harg6 arg7 harg7 r0 r1 r2 v3178 v7313 v7316 v7318 v7321 v7323 v7326
      v7328 v7331 v7333 v7335 v7337 v7339 v7342 v7344 v7347 v7349 v7352 v7354 v7355 v7357 v7358
  let ⟨v7413, v7415, v7418, v7420, v7423, v7425, v7427, v7429, v7431, v7434, v7436, v7439, v7441, v7444, v7446, v7449, v7451, v7454, v7456,
      c5_i32_656⟩ ← k1_part139 i arg2 harg2 arg3 harg3 arg4 harg4 arg5 harg5 arg6 harg6 arg7 harg7 r0 r1 r2 v3178 v7362 v7364 v7367 v7369 v7372 v7374
      v7377 v7379 v7381 v7383 v7385 v7388 v7390 v7393 v7395 v7398 v7400 v7403 v7405 v7406 v7407
  let ⟨v7461, v7464, v7466, v7469, v7471, v7473, v7475, v7477, v7480, v7482, v7485, v7487, v7490, v7492, v7495, v7497, v7500, v7502, v7503, v7505,
      v7506⟩ ← k1_part140 i arg2 harg2 arg3 harg3 arg4 harg4 arg5 harg5 arg6 harg6 arg7 harg7 r0 r1 r2 v3178 v7413 v7415 v7418 v7420 v7423 v7425
      v7427 v7429 v7431 v7434 v7436 v7439 v7441 v7444 v7446 v7449 v7451 v7454 v7456 c5_i32_656
  let ⟨v7510, v7512, v7515, v7517, v7519, v7521, v7523, v7526, v7528, v7531, v7533, v7536, v7538, v7541, v7543, v7546, v7548, v7551, v7553, v7554,
      v7555⟩ ← k1_part141 i arg2 harg2 arg3 harg3 arg4 harg4 arg5 harg5 arg6 harg6 arg7 harg7 r0 r1 r2 v3178 v7461 v7464 v7466 v7469 v7471 v7473
      v7475 v7477 v7480 v7482 v7485 v7487 v7490 v7492 v7495 v7497 v7500 v7502 v7503 v7505 v7506
  let ⟨v7561, v7563, v7565, v7567, v7569, v7572, v7574, v7577, v7579, v7582, v7584, v7587, v7589, v7592, v7594, v7597, v7599, v7602, v7604,
      c7_i32_682⟩ ← k1_part142 i arg2 harg2 arg3 harg3 arg4 harg4 arg5 harg5 arg6 harg6 arg7 harg7 r0 r1 r2 v3178 v7510 v7512 v7515 v7517 v7519 v7521
      v7523 v7526 v7528 v7531 v7533 v7536 v7538 v7541 v7543 v7546 v7548 v7551 v7553 v7554 v7555
  let ⟨v7609, v7618, v7620, v7623, v7625, v7628, v7630, v7633, v7635, v7638, v7640, v7643, v7645, v7648, v7650, v7651, v7653, v7654⟩ ← k1_part143 i
      arg2 harg2 arg3 harg3 arg4 harg4 arg5 harg5 arg6 harg6 arg7 harg7 r0 r1 r2 v3178 v7561 v7563 v7565 v7567 v7569 v7572 v7574 v7577 v7579 v7582
      v7584 v7587 v7589 v7592 v7594 v7597 v7599 v7602 v7604 c7_i32_682
  let ⟨v7664, v7666, v7669, v7671, v7674, v7676, v7679, v7681, v7684, v7686, v7689, v7691, v7694, v7696, v7699, v7701, v7703⟩ ← k1_part144 i arg2
      harg2 arg3 harg3 arg4 harg4 arg5 harg5 arg6 harg6 arg7 harg7 r0 r1 r2 v3178 v7609 v7618 v7620 v7623 v7625 v7628 v7630 v7633 v7635 v7638 v7640
      v7643 v7645 v7648 v7650 v7651 v7653 v7654
  let ⟨v7710, v7712, v7715, v7717, v7720, v7722, v7725, v7727, v7730, v7732, v7735, v7737, v7740, v7742, v7745, v7747, v7749, v7751, v7752⟩ ←
      k1_part145 i arg2 harg2 arg3 harg3 arg4 harg4 arg5 harg5 arg6 harg6 arg7 harg7 r0 r1 r2 v3967 v7664 v7666 v7669 v7671 v7674 v7676 v7679 v7681
      v7684 v7686 v7689 v7691 v7694 v7696 v7699 v7701 v7703
  let ⟨v7756, v7758, v7761, v7763, v7766, v7768, v7771, v7773, v7776, v7778, v7781, v7783, v7786, v7788, v7791, v7793, v7795, v7797, v7799, v7800,
      v7801⟩ ← k1_part146 i arg2 harg2 arg3 harg3 arg4 harg4 arg5 harg5 arg6 harg6 arg7 harg7 r0 r1 r2 v3967 v7710 v7712 v7715 v7717 v7720 v7722
      v7725 v7727 v7730 v7732 v7735 v7737 v7740 v7742 v7745 v7747 v7749 v7751 v7752
  let ⟨v7807, v7809, v7812, v7814, v7817, v7819, v7822, v7824, v7827, v7829, v7832, v7834, v7837, v7839, v7841, v7843, v7845, v7848, v7850,
      c1_i32_724⟩ ← k1_part147 i arg2 harg2 arg3 harg3 arg4 harg4 arg5 harg5 arg6 harg6 arg7 harg7 r0 r1 r2 v3967 v7756 v7758 v7761 v7763 v7766 v7768
      v7771 v7773 v7776 v7778 v7781 v7783 v7786 v7788 v7791 v7793 v7795 v7797 v7799 v7800 v7801
  let ⟨v7855, v7858, v7860, v7863, v7865, v7868, v7870, v7873, v7875, v7878, v7880, v7883, v7885, v7887, v7889, v7891, v7894, v7896, v7897, v7899,
      v7900⟩ ← k1_part148 i arg2 harg2 arg3 harg3 arg4 harg4 arg5 harg5 arg6 harg6 arg7 harg7 r0 r1 r2 v3967 v7807 v7809 v7812 v7814 v7817 v7819
      v7822 v7824 v7827 v7829 v7832 v7834 v7837 v7839 v7841 v7843 v7845 v7848 v7850 c1_i32_724
  let ⟨v7904, v7906, v7909, v7911, v7914, v7916, v7919, v7921, v7924, v7926, v7929, v7931, v7933, v7935, v7937, v7940, v7942, v7945, v7947, v7948,
      v7949⟩ ← k1_part149 i arg2 harg2 arg3 harg3 arg4 harg4 arg5 harg5 arg6 harg6 arg7 harg7 r0 r1 r2 v3967 v7855 v7858 v7860 v7863 v7865 v7868
      v7870 v7873 v7875 v7878 v7880 v7883 v7885 v7887 v7889 v7891 v7894 v7896 v7897 v7899 v7900
  let ⟨v7955, v7957, v7960, v7962, v7965, v7967, v7970, v7972, v7975, v7977, v7979, v7981, v7983, v7986, v7988, v7991, v7993, v7996, v7998,
      c3_i32_750⟩ ← k1_part150 i arg2 harg2 arg3 harg3 arg4 harg4 arg5 harg5 arg6 harg6 arg7 harg7 r0 r1 r2 v3967 v7904 v7906 v7909 v7911 v7914 v7916
      v7919 v7921 v7924 v7926 v7929 v7931 v7933 v7935 v7937 v7940 v7942 v7945 v7947 v7948 v7949
  let ⟨v8003, v8006, v8008, v8011, v8013, v8016, v8018, v8021, v8023, v8025, v8027, v8029, v8032, v8034, v8037, v8039, v8042, v8044, v8045, v8047,
      v8048⟩ ← k1_part151 i arg2 harg2 arg3 harg3 arg4 harg4 arg5 harg5 arg6 harg6 arg7 harg7 r0 r1 r2 v3967 v7955 v7957 v7960 v7962 v7965 v7967
      v7970 v7972 v7975 v7977 v7979 v7981 v7983 v7986 v7988 v7991 v7993 v7996 v7998 c3_i32_750
  let ⟨v8052, v8054, v8057, v8059, v8062, v8064, v8067, v8069, v8071, v8073, v8075, v8078, v8080, v8083, v8085, v8088, v8090, v8093, v8095, v8096,
      v8097⟩ ← k1_part152 i arg2 harg2 arg3 harg3 arg4 harg4 arg5 harg5 arg6 harg6 arg7 harg7 r0 r1 r2 v3967 v8003 v8006 v8008 v8011 v8013 v8016
      v8018 v8021 v8023 v8025 v8027 v8029 v8032 v8034 v8037 v8039 v8042 v8044 v8045 v8047 v8048
  let ⟨v8103, v8105, v8108, v8110, v8113, v8115, v8117, v8119, v8121, v8124, v8126, v8129, v8131, v8134, v8136, v8139, v8141, v8144, v8146,
      c5_i32_776⟩ ← k1_part153 i arg2 harg2 arg3 harg3 arg4 harg4 arg5 harg5 arg6 harg6 arg7 harg7 r0 r1 r2 v3967 v8052 v8054 v8057 v8059 v8062 v8064
      v8067 v8069 v8071 v8073 v8075 v8078 v8080 v8083 v8085 v8088 v8090 v8093 v8095 v8096 v8097
  let ⟨v8151, v8154, v8156, v8159, v8161, v8163, v8165, v8167, v8170, v8172, v8175, v8177, v8180, v8182, v8185, v8187, v8190, v8192, v8193, v8195,
      v8196⟩ ← k1_part154 i arg2 harg2 arg3 harg3 arg4 harg4 arg5 harg5 arg6 harg6 arg7 harg7 r0 r1 r2 v3967 v8103 v8105 v8108 v8110 v8113 v8115
      v8117 v8119 v8121 v8124 v8126 v8129 v8131 v8134 v8136 v8139 v8141 v8144 v8146 c5_i32_776
  let ⟨v8200, v8202, v8205, v8207, v8209, v8211, v8213, v8216, v8218, v8221, v8223, v8226, v8228, v8231, v8233, v8236, v8238, v8241, v8243, v8244,
      v8245⟩ ← k1_part155 i arg2 harg2 arg3 harg3 arg4 harg4 arg5 harg5 arg6 harg6 arg7 harg7 r0 r1 r2 v3967 v8151 v8154 v8156 v8159 v8161 v8163
      v8165 v8167 v8170 v8172 v8175 v8177 v8180 v8182 v8185 v8187 v8190 v8192 v8193 v8195 v8196
  let ⟨v8251, v8253, v8255, v8257, v8259, v8262, v8264, v8267, v8269, v8272, v8274, v8277, v8279, v8282, v8284, v8287, v8289, v8292, v8294,
      c7_i32_802⟩ ← k1_part156 i arg2 harg2 arg3 harg3 arg4 harg4 arg5 harg5 arg6 harg6 arg7 harg7 r0 r1 r2 v3967 v8200 v8202 v8205 v8207 v8209 v8211
      v8213 v8216 v8218 v8221 v8223 v8226 v8228 v8231 v8233 v8236 v8238 v8241 v8243 v8244 v8245
  let ⟨v8299, v8308, v8310, v8313, v8315, v8318, v8320, v8323, v8325, v8328, v8330, v8333, v8335, v8338, v8340, v8341, v8343, v8344⟩ ← k1_part157 i
      arg2 harg2 arg3 harg3 arg4 harg4 arg5 harg5 arg6 harg6 arg7 harg7 r0 r1 r2 v3967 v8251 v8253 v8255 v8257 v8259 v8262 v8264 v8267 v8269 v8272
      v8274 v8277 v8279 v8282 v8284 v8287 v8289 v8292 v8294 c7_i32_802
  let ⟨v8354, v8356, v8359, v8361, v8364, v8366, v8369, v8371, v8374, v8376, v8379, v8381, v8384, v8386, v8389, v8391, v8393⟩ ← k1_part158 i arg2
      harg2 arg3 harg3 arg4 harg4 arg5 harg5 arg6 harg6 arg7 harg7 r0 r1 r2 v3967 v8299 v8308 v8310 v8313 v8315 v8318 v8320 v8323 v8325 v8328 v8330
      v8333 v8335 v8338 v8340 v8341 v8343 v8344
  let ⟨v8400, v8402, v8405, v8407, v8410, v8412, v8415, v8417, v8420, v8422, v8425, v8427, v8430, v8432, v8435, v8437, v8439, v8441, v8442⟩ ←
      k1_part159 i arg2 harg2 arg3 harg3 arg4 harg4 arg5 harg5 arg6 harg6 arg7 harg7 r0 r1 r2 v3967 v4756 v8354 v8356 v8359 v8361 v8364 v8366 v8369
      v8371 v8374 v8376 v8379 v8381 v8384 v8386 v8389 v8391 v8393
  let ⟨v8446, v8448, v8451, v8453, v8456, v8458, v8461, v8463, v8466, v8468, v8471, v8473, v8476, v8478, v8481, v8483, v8485, v8487, v8489, v8490,
      v8491⟩ ← k1_part160 i arg2 harg2 arg3 harg3 arg4 harg4 arg5 harg5 arg6 harg6 arg7 harg7 r0 r1 r2 v4756 v8400 v8402 v8405 v8407 v8410 v8412
      v8415 v8417 v8420 v8422 v8425 v8427 v8430 v8432 v8435 v8437 v8439 v8441 v8442
  let ⟨v8497, v8499, v8502, v8504, v8507, v8509, v8512, v8514, v8517, v8519, v8522, v8524, v8527, v8529, v8531, v8533, v8535, v8538, v8540,
      c1_i32_844⟩ ← k1_part161 i arg2 harg2 arg3 harg3 arg4 harg4 arg5 harg5 arg6 harg6 arg7 harg7 r0 r1 r2 v4756 v8446 v8448 v8451 v8453 v8456 v8458
      v8461 v8463 v8466 v8468 v8471 v8473 v8476 v8478 v8481 v8483 v8485 v8487 v8489 v8490 v8491
  let ⟨v8545, v8548, v8550, v8553, v8555, v8558, v8560, v8563, v8565, v8568, v8570, v8573, v8575, v8577, v8579, v8581, v8584, v8586, v8587, v8589,
      v8590⟩ ← k1_part162 i arg2 harg2 arg3 harg3 arg4 harg4 arg5 harg5 arg6 harg6 arg7 harg7 r0 r1 r2 v4756 v8497 v8499 v8502 v8504 v8507 v8509
      v8512 v8514 v8517 v8519 v8522 v8524 v8527 v8529 v8531 v8533 v8535 v8538 v8540 c1_i32_844
  let ⟨v8594, v8596, v8599, v8601, v8604, v8606, v8609, v8611, v8614, v8616, v8619, v8621, v8623, v8625, v8627, v8630, v8632, v8635, v8637, v8638,
      v8639⟩ ← k1_part163 i arg2 harg2 arg3 harg3 arg4 harg4 arg5 harg5 arg6 harg6 arg7 harg7 r0 r1 r2 v4756 v8545 v8548 v8550 v8553 v8555 v8558
      v8560 v8563 v8565 v8568 v8570 v8573 v8575 v8577 v8579 v8581 v8584 v8586 v8587 v8589 v8590
  let ⟨v8645, v8647, v8650, v8652, v8655, v8657, v8660, v8662, v8665, v8667, v8669, v8671, v8673, v8676, v8678, v8681, v8683, v8686, v8688,
      c3_i32_870⟩ ← k1_part164 i arg2 harg2 arg3 harg3 arg4 harg4 arg5 harg5 arg6 harg6 arg7 harg7 r0 r1 r2 v4756 v8594 v8596 v8599 v8601 v8604 v8606
      v8609 v8611 v8614 v8616 v8619 v8621 v8623 v8625 v8627 v8630 v8632 v8635 v8637 v8638 v8639
  let ⟨v8693, v8696, v8698, v8701, v8703, v8706, v8708, v8711, v8713, v8715, v8717, v8719, v8722, v8724, v8727, v8729, v8732, v8734, v8735, v8737,
      v8738⟩ ← k1_part165 i arg2 harg2 arg3 harg3 arg4 harg4 arg5 harg5 arg6 harg6 arg7 harg7 r0 r1 r2 v4756 v8645 v8647 v8650 v8652 v8655 v8657
      v8660 v8662 v8665 v8667 v8669 v8671 v8673 v8676 v8678 v8681 v8683 v8686 v8688 c3_i32_870
  let ⟨v8742, v8744, v8747, v8749, v8752, v8754, v8757, v8759, v8761, v8763, v8765, v8768, v8770, v8773, v8775, v8778, v8780, v8783, v8785, v8786,
      v8787⟩ ← k1_part166 i arg2 harg2 arg3 harg3 arg4 harg4 arg5 harg5 arg6 harg6 arg7 harg7 r0 r1 r2 v4756 v8693 v8696 v8698 v8701 v8703 v8706
      v8708 v8711 v8713 v8715 v8717 v8719 v8722 v8724 v8727 v8729 v8732 v8734 v8735 v8737 v8738
  let ⟨v8793, v8795, v8798, v8800, v8803, v8805, v8807, v8809, v8811, v8814, v8816, v8819, v8821, v8824, v8826, v8829, v8831, v8834, v8836,
      c5_i32_896⟩ ← k1_part167 i arg2 harg2 arg3 harg3 arg4 harg4 arg5 harg5 arg6 harg6 arg7 harg7 r0 r1 r2 v4756 v8742 v8744 v8747 v8749 v8752 v8754
      v8757 v8759 v8761 v8763 v8765 v8768 v8770 v8773 v8775 v8778 v8780 v8783 v8785 v8786 v8787
  let ⟨v8841, v8844, v8846, v8849, v8851, v8853, v8855, v8857, v8860, v8862, v8865, v8867, v8870, v8872, v8875, v8877, v8880, v8882, v8883, v8885,
      v8886⟩ ← k1_part168 i arg2 harg2 arg3 harg3 arg4 harg4 arg5 harg5 arg6 harg6 arg7 harg7 r0 r1 r2 v4756 v8793 v8795 v8798 v8800 v8803 v8805
      v8807 v8809 v8811 v8814 v8816 v8819 v8821 v8824 v8826 v8829 v8831 v8834 v8836 c5_i32_896
  let ⟨v8890, v8892, v8895, v8897, v8899, v8901, v8903, v8906, v8908, v8911, v8913, v8916, v8918, v8921, v8923, v8926, v8928, v8931, v8933, v8934,
      v8935⟩ ← k1_part169 i arg2 harg2 arg3 harg3 arg4 harg4 arg5 harg5 arg6 harg6 arg7 harg7 r0 r1 r2 v4756 v8841 v8844 v8846 v8849 v8851 v8853
      v8855 v8857 v8860 v8862 v8865 v8867 v8870 v8872 v8875 v8877 v8880 v8882 v8883 v8885 v8886
  let ⟨v8941, v8943, v8945, v8947, v8949, v8952, v8954, v8957, v8959, v8962, v8964, v8967, v8969, v8972, v8974, v8977, v8979, v8982, v8984,
      c7_i32_922⟩ ← k1_part170 i arg2 harg2 arg3 harg3 arg4 harg4 arg5 harg5 arg6 harg6 arg7 harg7 r0 r1 r2 v4756 v8890 v8892 v8895 v8897 v8899 v8901
      v8903 v8906 v8908 v8911 v8913 v8916 v8918 v8921 v8923 v8926 v8928 v8931 v8933 v8934 v8935
  let ⟨v8989, v8998, v9000, v9003, v9005, v9008, v9010, v9013, v9015, v9018, v9020, v9023, v9025, v9028, v9030, v9031, v9033, v9034⟩ ← k1_part171 i
      arg2 harg2 arg3 harg3 arg4 harg4 arg5 harg5 arg6 harg6 arg7 harg7 r0 r1 r2 v4756 v8941 v8943 v8945 v8947 v8949 v8952 v8954 v8957 v8959 v8962
      v8964 v8967 v8969 v8972 v8974 v8977 v8979 v8982 v8984 c7_i32_922
  let ⟨v9044, v9046, v9049, v9051, v9054, v9056, v9059, v9061, v9064, v9066, v9069, v9071, v9074, v9076, v9079, v9081, v9083⟩ ← k1_part172 i arg2
      harg2 arg3 harg3 arg4 harg4 arg5 harg5 arg6 harg6 arg7 harg7 r0 r1 r2 v4756 v8989 v8998 v9000 v9003 v9005 v9008 v9010 v9013 v9015 v9018 v9020
      v9023 v9025 v9028 v9030 v9031 v9033 v9034
  let ⟨v9090, v9092, v9095, v9097, v9100, v9102, v9105, v9107, v9110, v9112, v9115, v9117, v9120, v9122, v9125, v9127, v9129, v9131, v9132⟩ ←
      k1_part173 i arg2 harg2 arg3 harg3 arg4 harg4 arg5 harg5 arg6 harg6 arg7 harg7 r0 r1 r2 v4756 v9044 v9046 v9049 v9051 v9054 v9056 v9059 v9061
      v9064 v9066 v9069 v9071 v9074 v9076 v9079 v9081 v9083
  let ⟨v9136, v9138, v9141, v9143, v9146, v9148, v9151, v9153, v9156, v9158, v9161, v9163, v9166, v9168, v9171, v9173, v9177, v9179, v9181⟩ ←
      k1_part174 i arg2 harg2 arg3 harg3 arg4 harg4 arg5 harg5 arg6 harg6 arg7 harg7 r0 r1 r2 v9090 v9092 v9095 v9097 v9100 v9102 v9105 v9107 v9110
      v9112 v9115 v9117 v9120 v9122 v9125 v9127 v9129 v9131 v9132
  let ⟨v9184, v9191, v9202, v9209, v9220, v9227, v9229⟩ ← k1_part175 i arg2 harg2 arg3 harg3 arg4 harg4 arg5 harg5 arg6 harg6 arg7 harg7 r0 r1 r2
      v9136 v9138 v9141 v9143 v9146 v9148 v9151 v9177 v9179 v9181
  let ⟨v9238, v9245, v9256, v9263, v9273, v9274, v9275⟩ ← k1_part176 i arg2 harg2 arg3 harg3 arg4 harg4 arg5 harg5 arg6 harg6 arg7 harg7 r0 r1 r2
      v9151 v9153 v9156 v9158 v9161 v9229
  let ⟨v9281, v9292, v9299, v9310, v9317, v9319, v9321⟩ ← k1_part177 i arg2 harg2 arg3 harg3 arg4 harg4 arg5 harg5 arg6 harg6 arg7 harg7 r0 r1 r2
      v9163 v9166 v9168 v9171 v9173 v9273 v9274 v9275
  k [v811, v1600, v2389, v3178, v3967, v4756]
    [v9184, v9202, v9220, v9238, v9256, v9274, v9292, v9310]
    [v9191, v9209, v9227, v9245, v9263, v9281, v9299, v9317] v9319 v9321

set_option smartUnfolding false in
set_option maxRecDepth 1000000 in
set_option maxHeartbeats 0 in
/-- On the subcore that works the printed kernel is the two parts. -/
theorem body_cut (h : First i) :
    cc1__sc_params_body (F := F) i arg2 harg2 arg3 harg3 arg4 harg4 arg5 harg5 arg6 harg6 arg7 harg7 r0 r1 r2
      = before i arg2 harg2 arg3 harg3 arg4 harg4 arg5 harg5 arg6 harg6 arg7 harg7 r0 r1 r2 (after i arg2 harg2 arg3 harg3 arg4 harg4 arg5 harg5 arg6 harg6 arg7 harg7 r0 r1 r2) := by
  delta cc1__sc_params_body
  exact (dif_pos h).trans rfl

set_option maxRecDepth 1000000 in
/-- A subcore that is not the one that works returns at once. -/
theorem body_rest (h : ¬ First i) :
    cc1__sc_params_body (F := F) i arg2 harg2 arg3 harg3 arg4 harg4 arg5 harg5 arg6 harg6 arg7 harg7 r0 r1 r2 = .ret ⟨⟩ := by
  delta cc1__sc_params_body
  exact (dif_neg h).trans rfl

end Cert.KernelIdeal

end
-- ==== Proof.CutBefore.lean ====
module

public import proofs.«01_k».proof.Proof.Cut

@[expose] public section

/-!
# The printed parts before the cut are the program by loops
-/

noncomputable section

namespace Cert.KernelIdeal

open Idealize.ShloMosaic Idealize.SL.Sem
open Facts₀ Facts

variable {F : FTy → Type} [FloatOps F] [Named F] [Facts]

variable (i : grid1.Coords) (arg2 : Memref sig .scVector .hbm S4944 .f32) (harg2 : arg2.IsWhole) (arg3 : Memref sig .scVector .hbm S1536 .f32) (harg3 : arg3.IsWhole)
  (arg4 : Memref sig .scVector .hbm S1536 .f32) (harg4 : arg4.IsWhole) (arg5 : Memref sig .scVector .vmem S4944 .f32) (harg5 : arg5.IsWhole)
  (arg6 : Memref sig .scVector .vmem S1536 .f32) (harg6 : arg6.IsWhole) (arg7 : Memref sig .scVector .vmem S1536 .f32) (harg7 : arg7.IsWhole)
  (r0 r1 r2 : DmaSems sig S_)

set_option smartUnfolding false in
set_option maxRecDepth 1000000 in
set_option maxHeartbeats 0 in
/-- Up to the cut: the operand fetched, the groups found and the two tables computed. -/
theorem before_eq (k : List (IVec S16 32) → List (FVec F S16 .f32) → List (FVec F S16 .f32) → FVec F S16 .f32 → FVec F S16 .f32 →
      Params.P F nD τ sig Λ₀ ((i 0).castLE hcore1) ((i 1).castLE hsub1) PUnit) :
    before (F := F) i arg2 harg2 arg3 harg3 arg4 harg4 arg5 harg5 arg6 harg6 arg7 harg7 r0 r1 r2 k
      = (.op (.enqueueDma arg2 (.here arg5) (.dma r0.sem) harg2.wordExact harg5.wordExact ⟨Or.inl rfl, trivial⟩) fun _ =>
        .op (.waitDma2 r0.sem arg2 arg5 harg2.wordExact harg5.wordExact) fun _ =>
        Params.tables arg5 (Named.named κ "inv_hw" 0x37A72F05#32) k) :=
  Eq.trans rfl rfl

end Cert.KernelIdeal

end
-- ==== Proof.CutAfter.lean ====
module

public import proofs.«01_k».proof.Proof.Cut

@[expose] public section

/-!
# The printed parts after the cut are the program by loops
-/

noncomputable section

namespace Cert.KernelIdeal

open Idealize.ShloMosaic Idealize.SL.Sem
open Facts₀ Facts

variable {F : FTy → Type} [FloatOps F] [Named F] [Facts]

variable (i : grid1.Coords) (arg2 : Memref sig .scVector .hbm S4944 .f32) (harg2 : arg2.IsWhole) (arg3 : Memref sig .scVector .hbm S1536 .f32) (harg3 : arg3.IsWhole)
  (arg4 : Memref sig .scVector .hbm S1536 .f32) (harg4 : arg4.IsWhole) (arg5 : Memref sig .scVector .vmem S4944 .f32) (harg5 : arg5.IsWhole)
  (arg6 : Memref sig .scVector .vmem S1536 .f32) (harg6 : arg6.IsWhole) (arg7 : Memref sig .scVector .vmem S1536 .f32) (harg7 : arg7.IsWhole)
  (r0 r1 r2 : DmaSems sig S_)

set_option smartUnfolding false in
set_option maxRecDepth 1000000 in
set_option maxHeartbeats 0 in
/-- From the cut on: every channel's scale and shift written, and the two results copied out. -/
theorem after_eq (gs : List (IVec S16 32)) (gm ry : List (FVec F S16 .f32)) (w0 w1 : FVec F S16 .f32) :
    after (F := F) i arg2 harg2 arg3 harg3 arg4 harg4 arg5 harg5 arg6 harg6 arg7 harg7 r0 r1 r2 gs gm ry w0 w1
      = Params.writes arg5 arg6 arg7 gs gm ry w0 w1
        (.op (.enqueueDma arg6 (.here arg3) (.dma r1.sem) harg6.wordExact harg3.wordExact ⟨Or.inl rfl, trivial⟩) fun _ =>
        .op (.waitDma2 r1.sem arg6 arg3 harg6.wordExact harg3.wordExact) fun _ =>
        .op (.enqueueDma arg7 (.here arg4) (.dma r2.sem) harg7.wordExact harg4.wordExact ⟨Or.inl rfl, trivial⟩) fun _ =>
        .op (.waitDma2 r2.sem arg7 arg4 harg7.wordExact harg4.wordExact) fun _ =>
        .ret ⟨⟩) :=
  Eq.trans rfl rfl

end Cert.KernelIdeal

end
-- ==== Proof.BodyIdeal.lean ====
module

public import proofs.«01_k».proof.Proof.CutBefore
public import proofs.«01_k».proof.Proof.CutAfter

@[expose] public section

/-!
# The printed parameter kernel is the program by loops
-/

noncomputable section

namespace Cert.KernelIdeal

open Idealize.ShloMosaic Idealize.SL.Sem
open Facts₀ Facts

variable {F : FTy → Type} [FloatOps F] [Named F] [Facts]

variable (i : grid1.Coords) (arg2 : Memref sig .scVector .hbm S4944 .f32) (harg2 : arg2.IsWhole) (arg3 : Memref sig .scVector .hbm S1536 .f32) (harg3 : arg3.IsWhole)
  (arg4 : Memref sig .scVector .hbm S1536 .f32) (harg4 : arg4.IsWhole) (arg5 : Memref sig .scVector .vmem S4944 .f32) (harg5 : arg5.IsWhole)
  (arg6 : Memref sig .scVector .vmem S1536 .f32) (harg6 : arg6.IsWhole) (arg7 : Memref sig .scVector .vmem S1536 .f32) (harg7 : arg7.IsWhole)
  (r0 r1 r2 : DmaSems sig S_)

/-- On the subcore that works the printed kernel is `Params.program`. -/
theorem body_first (h : First i) :
    cc1__sc_params_body (F := F) i arg2 harg2 arg3 harg3 arg4 harg4 arg5 harg5 arg6 harg6 arg7 harg7 r0 r1 r2
      = Params.program (Named.named κ "inv_hw" 0x37A72F05#32) arg2 harg2 arg3 harg3 arg4 harg4 arg5 harg5 arg6 harg6 arg7 harg7 r0 r1 r2 := by
  rw [body_cut i arg2 harg2 arg3 harg3 arg4 harg4 arg5 harg5 arg6 harg6 arg7 harg7 r0 r1 r2 h, before_eq]
  unfold Params.program
  have e : after (F := F) i arg2 harg2 arg3 harg3 arg4 harg4 arg5 harg5 arg6 harg6 arg7 harg7 r0 r1 r2 = _ :=
    funext fun gs => funext fun gm => funext fun ry => funext fun w0 => funext fun w1 =>
      after_eq (F := F) i arg2 harg2 arg3 harg3 arg4 harg4 arg5 harg5 arg6 harg6 arg7 harg7 r0 r1 r2 gs gm ry w0 w1
  rw [e]

end Cert.KernelIdeal

end
-- ==== Proof.Loops.lean ====
module

public import proofs.«01_k».proof.Proof.Structured
public import Idealize.ShloMosaic.Lib.SparseCore.Ops
public import Idealize.ShloMosaic.Lib.Tactic

@[expose] public section

/-!
# The parameter kernel's loops, run

Each loop of `Params.program` as a rule: from the packed operand's buffer (and, for the writes, the two output buffers)
the loop goes on with the values the buffer holds there. `rowOf`, `rowsOf`, `pairsOf`, `groupsOf` are those values, and
`wroteA`, `wroteB` the outputs after the writes.
-/

noncomputable section

namespace Cert.Params

open Idealize.ShloMosaic Idealize.SL Idealize.SL.RA Idealize.SL.BI Idealize.SL.Sem
open scoped Idealize.SL.BI
open Idealize.SL.BI.BIBase Idealize.SL.BI.Laws Idealize.SL.ProofMode

variable {F : FTy → Type} [FloatOps F]
variable {nD : Nat} {τ : Topo} {sig : RefSig} {Λ : Labels} {cc : Fin τ.nSC} {ss : Fin τ.nSub}

section Values

variable (rd : ℕ → V F)

/-- The rows a `lds` reads, by what is read at each offset. -/
def rowsOf (s : ℕ) : ℕ → ℕ → List (V F)
  | 0, _ => []
  | n + 1, o => rd o :: rowsOf s n (o + s)

/-- The groups a `chunks` computes. -/
def groupsOf (c : F .f32) (fb : V F) (fw : List (V F)) : ℕ → ℕ → List (IVec S16 32)
  | 0, _ => []
  | n + 1, o => groups fb fw (((rowsOf rd 96 8 o).zip (rowsOf (fun a => rd (a + 768)) 96 8 o)).map fun p => (mean c p.1, var c p.1 p.2))
      :: groupsOf c fb fw n (o + 16)

/-- All the groups. -/
def allGroups (c : F .f32) : List (IVec S16 32) := groupsOf rd c (rd 128) (rowsOf rd 16 8 0) 6 3408

/-- The means by groups, the reciprocal standard deviations by groups, the weights and the biases. -/
def allMeans (c : F .f32) : List (V F) := gmeans (allGroups rd c) (rowsOf rd 16 96 336) [0, 1, 2, 3, 4, 5, 6, 7]
def allRstds (c : F .f32) : List (V F) :=
  grstds (allGroups rd c) (rowsOf rd 16 96 336) (rowsOf (fun a => rd (a + 1536)) 16 96 336) [0, 1, 2, 3, 4, 5, 6, 7]
def weights : List (V F) := rd 144 :: rd 160 :: rowsOf rd 16 4 176
def biases : List (V F) := rowsOf rd 16 6 240

/-- A channel's scale and shift, by what is read at each offset. -/
def scales (c : F .f32) : ℕ → V F := scale (allGroups rd c) (allRstds rd c) (weights rd)
def shifts (c : F .f32) : ℕ → V F := shift (allGroups rd c) (allMeans rd c) (allRstds rd c) (weights rd) (biases rd)

end Values

variable (d : Dev nD)

/-- The sixteen words of a packed operand from `o` on. -/
def rowOf (pk : Memref sig .scVector .vmem S4944 .f32) (f : Buf (Elt F) (pk.view.loc (SparseCore.V d cc ss))) (o : ℕ) : V F :=
  shapeCast S16 (pk.view.readAt (Elt F) (Rect.unit (s := S4944) ![o % 4929] S16.size (inbPack o)).toLoadRect f) casts16

/-- An output with sixteen words written at `o`. -/
def put (m : Memref sig .scVector .vmem S1536 .f32) (o : ℕ) (v : V F) (f : Buf (Elt F) (m.view.loc (SparseCore.V d cc ss))) :
    Buf (Elt F) (m.view.loc (SparseCore.V d cc ss)) :=
  (m.access (Rect.unit (s := S1536) ![o % 1521] S16.size (inbOut o))).write (Elt F) f (shapeCast S16 v casts16) Finset.univ

/-- An output with `v c` written for each of `n` channels from `c` on. -/
def puts (m : Memref sig .scVector .vmem S1536 .f32) (v : ℕ → V F) :
    ℕ → ℕ → Buf (Elt F) (m.view.loc (SparseCore.V d cc ss)) → Buf (Elt F) (m.view.loc (SparseCore.V d cc ss))
  | 0, _, f => f
  | n + 1, c, f => puts m v n (c + 1) (put d m (16 * c) (v c) f)

variable {Ix : Type} [DecidableEq Ix] {Name : Type} [DecidableEq Name] {U : Type} [URA U] {Lvl : Type} [Preorder Lvl]
local notation "𝕄" => MT nD τ sig Ix (Elt F) Name U Lvl
/-- A buffer of the tile, held whole at its contents. -/
abbrev held {s : Shape} (m : Memref sig .scVector .vmem s .f32) (f : Buf (Elt F) (m.view.loc (SparseCore.V d cc ss))) : sProp 𝕄 :=
  m.view.loc (SparseCore.V d cc ss) ↦{fullShare} f
/-- A program of the tile run to a post. -/
abbrev run {α : Type} (defs : Defs nD τ sig (Elt F) Λ) (𝒱 : Variants) (bd : Option 𝒱.V) (E : Set Name)
    (p : P F nD τ sig Λ cc ss α) (Q : α → sProp 𝕄) : sProp 𝕄 :=
  wp frame (wpE defs 𝒱 (SparseCore.V d cc ss) bd) E p Q
variable {defs : Defs nD τ sig (Elt F) Λ} (𝒱 : Variants) (bd : Option 𝒱.V) (E : Set Name) {α : Type} {Q : α → sProp (MT nD τ sig Ix (Elt F) Name U Lvl)}
variable (pk : Memref sig .scVector .vmem S4944 .f32) (oA oB : Memref sig .scVector .vmem S1536 .f32)
variable (f : Buf (Elt F) (pk.view.loc (SparseCore.V d cc ss)))

theorem wp_ld (o : ℕ) (k : V F → P F nD τ sig Λ cc ss α) :
    (held d pk f : sProp 𝕄)
      ⊢ iprop(((held d pk f) -∗ run d defs 𝒱 bd E (k (rowOf d pk f o)) Q)
        -∗ run d defs 𝒱 bd E (ld pk o k) Q) :=
  wp_load (defs := defs) 𝒱 (SparseCore.V d cc ss) bd E (m := pk) (f := f) (q := fullShare) (S := Finset.univ)
    (r := (Rect.unit (s := S4944) ![o % 4929] S16.size (inbPack o)).toLoadRect) (k := fun x => k (shapeCast S16 x casts16))
    (Finset.subset_univ _)

theorem wp_lds (s n o : ℕ) (k : List (V F) → P F nD τ sig Λ cc ss α) :
    (held d pk f : sProp 𝕄)
      ⊢ iprop(((held d pk f)
          -∗ run d defs 𝒱 bd E (k (rowsOf (rowOf d pk f) s n o)) Q)
        -∗ run d defs 𝒱 bd E (lds pk s n o k) Q) := by
  induction n generalizing o k with
  | zero => iintro H Hk; iapply Hk; iexact H
  | succ n ih =>
    iintro H Hk
    iapply (wp_ld d 𝒱 bd E pk f o _) $$ H; iintro H
    iapply (ih (o + s) _) $$ H; iintro H
    iapply Hk; iexact H

theorem wp_ldps (δ s n o : ℕ) (k : List (V F) → List (V F) → P F nD τ sig Λ cc ss α) :
    (held d pk f : sProp 𝕄)
      ⊢ iprop(((held d pk f)
          -∗ run d defs 𝒱 bd E
            (k (rowsOf (rowOf d pk f) s n o) (rowsOf (fun a => rowOf d pk f (a + δ)) s n o)) Q)
        -∗ run d defs 𝒱 bd E (ldps pk δ s n o k) Q) := by
  induction n generalizing o k with
  | zero => iintro H Hk; iapply Hk; iexact H
  | succ n ih =>
    iintro H Hk
    iapply (wp_ld d 𝒱 bd E pk f o _) $$ H; iintro H
    iapply (wp_ld d 𝒱 bd E pk f (o + δ) _) $$ H; iintro H
    iapply (ih (o + s) _) $$ H; iintro H
    iapply Hk; iexact H

theorem wp_chunks (c : F .f32) (fb : V F) (fw : List (V F)) (n o : ℕ) (k : List (IVec S16 32) → P F nD τ sig Λ cc ss α) :
    (held d pk f : sProp 𝕄)
      ⊢ iprop(((held d pk f)
          -∗ run d defs 𝒱 bd E (k (groupsOf (rowOf d pk f) c fb fw n o)) Q)
        -∗ run d defs 𝒱 bd E (chunks pk c fb fw n o k) Q) := by
  induction n generalizing o k with
  | zero => iintro H Hk; iapply Hk; iexact H
  | succ n ih =>
    iintro H Hk
    iapply (wp_ldps d 𝒱 bd E pk f 768 96 8 o _) $$ H; iintro H
    iapply (ih (o + 16) _) $$ H; iintro H
    iapply Hk; iexact H

theorem wp_tables (c : F .f32) (k : List (IVec S16 32) → List (V F) → List (V F) → V F → V F → P F nD τ sig Λ cc ss α) :
    (held d pk f : sProp 𝕄)
      ⊢ iprop(((held d pk f)
          -∗ run d defs 𝒱 bd E
            (k (allGroups (rowOf d pk f) c)
              (gmeans (allGroups (rowOf d pk f) c) (rowsOf (rowOf d pk f) 16 96 336) [0, 1, 2, 3, 4, 5, 6, 7])
              (grstds (allGroups (rowOf d pk f) c) (rowsOf (rowOf d pk f) 16 96 336)
                (rowsOf (fun a => rowOf d pk f (a + 1536)) 16 96 336) [0, 1, 2, 3, 4, 5, 6, 7])
              (rowOf d pk f 144) (rowOf d pk f 160)) Q)
        -∗ run d defs 𝒱 bd E (tables pk c k) Q) := by
  iintro H Hk
  iapply (wp_ld d 𝒱 bd E pk f 128 _) $$ H; iintro H
  iapply (wp_lds d 𝒱 bd E pk f 16 8 0 _) $$ H; iintro H
  iapply (wp_chunks d 𝒱 bd E pk f c _ _ 6 3408 _) $$ H; iintro H
  iapply (wp_ldps d 𝒱 bd E pk f 1536 16 96 336 _) $$ H; iintro H
  iapply (wp_ld d 𝒱 bd E pk f 144 _) $$ H; iintro H
  iapply (wp_ld d 𝒱 bd E pk f 160 _) $$ H; iintro H
  iapply Hk; iexact H

theorem wp_st (m : Memref sig .scVector .vmem S1536 .f32) (g : Buf (Elt F) (m.view.loc (SparseCore.V d cc ss))) (o : ℕ) (v : V F)
    (k : P F nD τ sig Λ cc ss α) :
    (held d m g : sProp 𝕄)
      ⊢ iprop((held d m (put d m o v g) -∗ run d defs 𝒱 bd E k Q)
        -∗ run d defs 𝒱 bd E (st m o v k) Q) := by
  iintro H Hk
  iapply (wp_load 𝒱 (SparseCore.V d cc ss) bd E (m := m) (q := fullShare) (f := g) (Finset.subset_univ _)) $$ H; iintro H
  iapply (wp_store 𝒱 (SparseCore.V d cc ss) bd E (m := m) (r := Rect.unit (s := S1536) ![o % 1521] S16.size (inbOut o)) (f := g)
    (Finset.subset_univ _)) $$ H; iintro H
  iapply Hk; iexact H

theorem wp_outs (gs : List (IVec S16 32)) (gm ry w b : List (V F)) (n c : ℕ)
    (fA : Buf (Elt F) (oA.view.loc (SparseCore.V d cc ss))) (fB : Buf (Elt F) (oB.view.loc (SparseCore.V d cc ss)))
    (k : P F nD τ sig Λ cc ss α) :
    (iprop((held d oA fA) ∗ (held d oB fB)) : sProp 𝕄)
      ⊢ iprop(((held d oA (puts d oA (scale gs ry w) n c fA)
            ∗ held d oB (puts d oB (shift gs gm ry w b) n c fB))
          -∗ run d defs 𝒱 bd E k Q)
        -∗ run d defs 𝒱 bd E (outs oA oB gs gm ry w b n c k) Q) := by
  induction n generalizing c fA fB k with
  | zero => iintro H Hk; iapply Hk; iexact H
  | succ n ih =>
    iintro ⟨HA, HB⟩ Hk
    iapply (wp_st d 𝒱 bd E oA fA (16 * c) _ _) $$ HA; iintro HA
    iapply (wp_st d 𝒱 bd E oB fB (16 * c) _ _) $$ HB; iintro HB
    iapply (ih (c + 1) _ _ _) $$ [HA HB]
    · isplitl [HA]; · iexact HA
      iexact HB
    iintro ⟨HA, HB⟩
    iapply Hk
    isplitl [HA]; · iexact HA
    iexact HB

theorem wp_writes (gs : List (IVec S16 32)) (gm ry : List (V F)) (w0 w1 : V F)
    (fA : Buf (Elt F) (oA.view.loc (SparseCore.V d cc ss))) (fB : Buf (Elt F) (oB.view.loc (SparseCore.V d cc ss)))
    (k : P F nD τ sig Λ cc ss α) :
    (iprop((held d pk f) ∗ (held d oA fA)
        ∗ (held d oB fB)) : sProp 𝕄)
      ⊢ iprop((((held d pk f)
            ∗ held d oA (puts d oA (scale gs ry (w0 :: w1 :: rowsOf (rowOf d pk f) 16 4 176)) 96 0 fA)
            ∗ held d oB (puts d oB (shift gs gm ry (w0 :: w1 :: rowsOf (rowOf d pk f) 16 4 176) (rowsOf (rowOf d pk f) 16 6 240)) 96 0 fB))
          -∗ run d defs 𝒱 bd E k Q)
        -∗ run d defs 𝒱 bd E (writes pk oA oB gs gm ry w0 w1 k) Q) := by
  iintro ⟨H, HA, HB⟩ Hk
  iapply (wp_lds d 𝒱 bd E pk f 16 4 176 _) $$ H; iintro H
  iapply (wp_lds d 𝒱 bd E pk f 16 6 240 _) $$ H; iintro H
  iapply (wp_outs d 𝒱 bd E oA oB gs gm ry _ _ 96 0 fA fB k) $$ [HA HB]
  · isplitl [HA]; · iexact HA
    iexact HB
  iintro ⟨HA, HB⟩
  iapply Hk
  isplitl [H]; · iexact H
  isplitl [HA]; · iexact HA
  iexact HB

end Cert.Params

end
-- ==== Proof.Launch.lean ====
module

public import proofs.«01_k».proof.Proof.BodyIdeal
public import proofs.«01_k».proof.Proof.Loops
public import proofs.«01_k».proof.Proof.Gen.KernelIdeal
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

/-!
# The kernel's program as its launch sees it

The SparseCore call's table, the algebra the proof's ghost state lives in (the call's handshakes, the two pipelines'
rounds, the transfers' counters), and what the handshakes carry: the packed operand and the two result buffers, whole,
to the one tile that works.
-/

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds, the two pipelines' rounds, and the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

instance EP_landsIn : (EP (F := F)).LandsIn (upEmb : UEmb _ 𝕄) := by unfold EP embR; infer_instance

/-! ## What the handshakes carry -/

/-- The packed operand, the scales and the shifts, in the main memory. -/
abbrev kLoc (d : Dev nD) : Loc nD τ sig := (SparseCore.T d).loc main_v18
abbrev aLoc (d : Dev nD) : Loc nD τ sig := (SparseCore.T d).loc main_v19_0
abbrev bLoc (d : Dev nD) : Loc nD τ sig := (SparseCore.T d).loc main_v19_1

/-- The tile's memrefs: the three arrays in the main memory and the three scratch buffers. -/
abbrev mK : Memref sig .scVector .hbm S4944 .f32 := Memref.whole main_v18_scv
abbrev mA : Memref sig .scVector .hbm S1536 .f32 := Memref.whole main_v19_0_scv
abbrev mB : Memref sig .scVector .hbm S1536 .f32 := Memref.whole main_v19_1_scv
abbrev sK : Memref sig .scVector .vmem S4944 .f32 := Memref.whole cc1_scratch0
abbrev sA : Memref sig .scVector .vmem S1536 .f32 := Memref.whole cc1_scratch1
abbrev sB : Memref sig .scVector .vmem S1536 .f32 := Memref.whole cc1_scratch2

variable [FloatOps F]

/-- The sixteen words of a packed operand from `o` on. -/
def words (f : S4944.Idx → F .f32) (o : ℕ) : Params.V F := fun l =>
  f ((Rect.unit (s := S4944) ![o % 4929] S16.size (Params.inbPack o)).emb l)

/-- The packed operand, the scales, the shifts. -/
abbrev kPts (d : Dev nD) (f : S4944.Idx → F .f32) : sProp 𝕄 := kLoc d ↦{fullShare} (f : Buf (Elt F) (kLoc d))
abbrev aPts (d : Dev nD) (f : S1536.Idx → F .f32) : sProp 𝕄 := aLoc d ↦{fullShare} (f : Buf (Elt F) (aLoc d))
abbrev bPts (d : Dev nD) (f : S1536.Idx → F .f32) : sProp 𝕄 := bLoc d ↦{fullShare} (f : Buf (Elt F) (bLoc d))

end Cert.KernelIdeal.Run

end
-- ==== Proof.Bodies.lean ====
module

public import proofs.«01_k».proof.Proof.Launch
public import proofs.«01_k».proof.Proof.Gen.KernelIdeal.Launch
public import proofs.«01_k».proof.Proof.Gen.KernelIdeal.Points
public import proofs.«01_k».proof.Proof.Gen.KernelIdeal.Skeleton
public import Idealize.ShloMosaic.Lib.VecWindow

@[expose] public section

/-!
# The bodies of the two TensorCore kernels

Each body from its windows' buffers at what was fetched to the same buffers with the results stored: the sums and the
sums of squares of a block's channels, and a block scaled and shifted.
-/

noncomputable section

namespace Cert.KernelIdeal.Run

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}
local notation "𝕄" => MT nD τ sig (HIx 1) (Elt F) ℕ UU ℕ
variable [FloatOps F] [Named F]

/-- A whole buffer of the TensorCore, read at `X`. -/
abbrev has (c : Dev nD) {s : Shape} (m : Memref sig .tc .vmem s .f32) (X : s.Idx → F .f32) : sProp 𝕄 :=
  owns (c : Thread nD τ) m fullShare X

theorem stats_run (c : Dev nD) (i : grid0.Coords) (M0 : Memref sig .tc .vmem S1x48x224x224 .f32) (h0 : M0.IsWhole)
    (M1 : Memref sig .tc .vmem S48x1 .f32) (h1 : M1.IsWhole) (M2 : Memref sig .tc .vmem S48x1 .f32) (h2 : M2.IsWhole)
    (X : S1x48x224x224.Idx → F .f32) (Y Z : S48x1.Idx → F .f32) (Q : PUnit → sProp 𝕄) :
    iprop(has c M0 X ∗ has c M1 Y ∗ has c M2 Z ∗ (iprop(has c M0 X ∗ has c M1 (k0_pay2 X) ∗ has c M2 (k0_pay3 X)) -∗ Q ⟨⟩))
      ⊢ wp frame (wpE (defs₀ (F := F)) Variants.none c none) Set.univ (cc0__stats_body i M0 h0 M1 h1 M2 h2) Q := by
  rw [cc0__stats_body_eq_skeleton]; unfold cc0__stats_body_skel has owns
  rw [Memref.IsWhole.set_eq_univ h0, Memref.IsWhole.set_eq_univ h1, Memref.IsWhole.set_eq_univ h2]
  iintro ⟨⟨%f0, %e0, H0⟩, ⟨%f1, -, H1⟩, ⟨%f2, -, H2⟩, Hk⟩
  sl_exec
  sl_step
  iapply Hk
  isplitl [H0]
  · iexists f0; isplitr; · ipureintro; exact e0
    iexact H0
  isplitl [H1]
  · iexists _; isplitr; swap; · iexact H1
    ipureintro; exact (View.read_writes_full M1.view f1 _ _ []).trans (congrArg k0_pay2 ((View.readAt_full M0.view f0 _).trans e0))
  iexists _; isplitr; swap; · iexact H2
  ipureintro; exact (View.read_writes_full M2.view f2 _ _ []).trans (congrArg k0_pay3 ((View.readAt_full M0.view f0 _).trans e0))

theorem norm_run (c : Dev nD) (i : grid2.Coords) (M0 : Memref sig .tc .vmem S1x48x224x224 .f32) (h0 : M0.IsWhole)
    (M1 : Memref sig .tc .vmem S48x1 .f32) (h1 : M1.IsWhole) (M2 : Memref sig .tc .vmem S48x1 .f32) (h2 : M2.IsWhole)
    (M3 : Memref sig .tc .vmem S1x48x224x224 .f32) (h3 : M3.IsWhole)
    (X Y : S1x48x224x224.Idx → F .f32) (A B : S48x1.Idx → F .f32) (Q : PUnit → sProp 𝕄) :
    iprop(has c M0 X ∗ has c M1 A ∗ has c M2 B ∗ has c M3 Y
        ∗ (iprop(has c M0 X ∗ has c M1 A ∗ has c M2 B ∗ has c M3 (k2_pay1 X A B)) -∗ Q ⟨⟩))
      ⊢ wp frame (wpE (defs₀ (F := F)) Variants.none c none) Set.univ (cc2__norm_body i M0 h0 M1 h1 M2 h2 M3 h3) Q := by
  rw [cc2__norm_body_eq_skeleton]; unfold cc2__norm_body_skel has owns
  rw [Memref.IsWhole.set_eq_univ h0, Memref.IsWhole.set_eq_univ h1, Memref.IsWhole.set_eq_univ h2, Memref.IsWhole.set_eq_univ h3]
  iintro ⟨⟨%f0, %e0, H0⟩, ⟨%f1, %e1, H1⟩, ⟨%f2, %e2, H2⟩, ⟨%f3, -, H3⟩, Hk⟩
  sl_exec
  sl_step
  iapply Hk
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  iexists _; isplitr; swap; · iexact H3
  ipureintro
  refine (View.read_writes_full M3.view f3 _ _ []).trans ?_
  rw [View.readAt_full, View.readAt_full, View.readAt_full, e0, e1, e2]

end Cert.KernelIdeal.Run

end
-- ==== Proof.Regions.lean ====
module

public import proofs.«01_k».proof.Proof.Bodies
public import Idealize.ShloMosaic.Lib.Pipeline.RegionsLoop

@[expose] public section

/-!
# The two TensorCore calls over the thread's state

Each call enters with every array at a valuation and leaves with its results' arrays replaced by what its grid writes
back. Around a SparseCore call the core owes the starts still to come, whatever they are: `O`, below level `b`.
-/

noncomputable section

namespace Cert.KernelIdeal.Run

open Cert.KernelIdeal Cert.KernelIdeal.Gen
open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation)

variable {F : FTy → Type}
local notation "𝕄" => MT nD τ sig (HIx 1) (Elt F) ℕ UU ℕ
variable [FloatOps F] [Named F]

/-- Contents of every array of the TensorCore's. -/
abbrev Vals (F : FTy → Type) : Type := (c : Dev nD) → (b : Ref sig .tc) → Buf (Elt F) ((c : Thread nD τ).loc b)

variable (V : Vals F) (O : Dev nD → CellTallies nD τ sig (HIx 1)) (b : ℕ)

/-- The waits recorded so far lie at or below level `b`. -/
abbrev Low (c : Dev nD) : Set (SemLoc sig × HIx 1) := {p | (K (F := F)).lev (T c, p.1) p.2 ≤ b}

/-- The core's debts with its recorded waits low. -/
abbrev debts (c : Dev nD) : sProp 𝕄 := iprop(∃ W, ⌜(K (F := F)).WBelow (T c) W b⌝ ∗ owes (T c) (O c) W)

/-- What each window fetches at point `t`: a block of the input; for the second call also its channels' scales and
    shifts. -/
abbrev blk0 (c : Dev nD) (t : Fin cfg0.N) : S1x48x224x224.Idx → F .f32 :=
  ((cfg0.win 0).blk t).view.read (Elt F) (V c (Pipeline.arrRef spec0 0))
abbrev blk2x (c : Dev nD) (t : Fin cfg2.N) : S1x48x224x224.Idx → F .f32 :=
  ((cfg2.win 0).blk t).view.read (Elt F) (V c (Pipeline.arrRef spec2 0))
abbrev blk2a (c : Dev nD) (t : Fin cfg2.N) : S48x1.Idx → F .f32 :=
  ((cfg2.win 1).blk t).view.read (Elt F) (V c (Pipeline.arrRef spec2 1))
abbrev blk2b (c : Dev nD) (t : Fin cfg2.N) : S48x1.Idx → F .f32 :=
  ((cfg2.win 2).blk t).view.read (Elt F) (V c (Pipeline.arrRef spec2 2))

def dat0 (c : Dev nD) : Dat τ (Elt F) (HIx 1) ℕ UU ℕ cfg0 c where
  A w := V c (Pipeline.arrRef spec0 w)
  after w t := match w with
    | ⟨0, _⟩ => blk0 V c t
    | ⟨1, _⟩ => k0_pay2 (blk0 V c t)
    | ⟨2, _⟩ => k0_pay3 (blk0 V c t)
  Φ _ := Pipeline.scopedRest spec0 c
  q _ := fullShare
  owed _ := O c
  recorded _ := Low (F := F) b c

def dat2 (c : Dev nD) : Dat τ (Elt F) (HIx 1) ℕ UU ℕ cfg2 c where
  A w := V c (Pipeline.arrRef spec2 w)
  after w t := match w with
    | ⟨0, _⟩ => blk2x V c t
    | ⟨1, _⟩ => blk2a V c t
    | ⟨2, _⟩ => blk2b V c t
    | ⟨3, _⟩ => k2_pay1 (blk2x V c t) (blk2a V c t) (blk2b V c t)
  Φ _ := Pipeline.scopedRest spec2 c
  q _ := fullShare
  owed _ := O c
  recorded _ := Low (F := F) b c

theorem before0 (c : Dev nD) (t : Fin cfg0.N) (d : (cfg0.win 0).block.Idx → Elt F (cfg0.win 0).elt) :
    (dat0 V O b c).before 0 t d = blk0 V c t := by
  unfold Dat.before; rw [if_pos (fetch0_0 t)]; rfl

theorem before2_0 (c : Dev nD) (t : Fin cfg2.N) (d : (cfg2.win 0).block.Idx → Elt F (cfg2.win 0).elt) :
    (dat2 V O b c).before 0 t d = blk2x V c t := by
  unfold Dat.before; rw [if_pos (fetch2_0 t)]; rfl
theorem before2_1 (c : Dev nD) (t : Fin cfg2.N) (d : (cfg2.win 1).block.Idx → Elt F (cfg2.win 1).elt) :
    (dat2 V O b c).before 1 t d = blk2a V c t := by
  unfold Dat.before; rw [if_pos (fetch2_1 t)]; rfl
theorem before2_2 (c : Dev nD) (t : Fin cfg2.N) (d : (cfg2.win 2).block.Idx → Elt F (cfg2.win 2).elt) :
    (dat2 V O b c).before 2 t d = blk2b V c t := by
  unfold Dat.before; rw [if_pos (fetch2_2 t)]; rfl

theorem obligation0 (c : Dev nD) : BodyObligation (dat0 V O b c) (defs₀ (F := F)) 𝒱₀ none Set.univ := fun t => by
  rw [bigSep_W0, bigSep_W0]
  rw [show (dat0 V O b c).owesAt none t.succ = (dat0 V O b c).owesAt none t.castSucc from rfl,
    show (dat0 V O b c).Φ t.succ = (dat0 V O b c).Φ t.castSucc from rfl]
  iintro ⟨HΦ, Howes, ⟨%d0, H0⟩, ⟨%d1, H1⟩, ⟨%d2, H2⟩⟩
  rw [before0]
  iapply (stats_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (blk0 V c t) _ _ _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

theorem obligation2 (c : Dev nD) : BodyObligation (dat2 V O b c) (defs₀ (F := F)) 𝒱₀ none Set.univ := fun t => by
  rw [bigSep_W2, bigSep_W2]
  rw [show (dat2 V O b c).owesAt none t.succ = (dat2 V O b c).owesAt none t.castSucc from rfl,
    show (dat2 V O b c).Φ t.succ = (dat2 V O b c).Φ t.castSucc from rfl]
  iintro ⟨HΦ, Howes, ⟨%d0, H0⟩, ⟨%d1, H1⟩, ⟨%d2, H2⟩, ⟨%d3, H3⟩⟩
  rw [before2_0, before2_1, before2_2]
  iapply (norm_run c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (blk2x V c t) _ (blk2a V c t) (blk2b V c t) _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-- Proof data of a pipeline a call does not run: anything. -/
def anyDat [∀ e, Nonempty (Elt F e)] {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

variable [∀ e, Nonempty (Elt F e)] (adm : (p : Fin 2) → (pcfgs (F := F) p).Adm)

def pdats0 : (p : Fin 2) → (c : Dev nD) → Dat τ (Elt F) (HIx 1) ℕ UU ℕ (Pipeline.pin (pcfgs (F := F)) adm p) c
  | ⟨0, _⟩ => fun c => dat0 V O b c
  | ⟨1, _⟩ => fun c => anyDat c
def pdats2 : (p : Fin 2) → (c : Dev nD) → Dat τ (Elt F) (HIx 1) ℕ UU ℕ (Pipeline.pin (pcfgs (F := F)) adm p) c
  | ⟨0, _⟩ => fun c => anyDat c
  | ⟨1, _⟩ => fun c => dat2 V O b c

/-- The sums' and the sums of squares' arrays after the first call, and the result's after the second. -/
def out0_1 (c : Dev nD) : Buf (Elt F) ((c : Thread nD τ).loc main_v0_0) := (dat0 V O b c).arrAt 1 cfg0.N
def out0_2 (c : Dev nD) : Buf (Elt F) ((c : Thread nD τ).loc main_v0_1) := (dat0 V O b c).arrAt 2 cfg0.N
def out2_3 (c : Dev nD) : Buf (Elt F) ((c : Thread nD τ).loc main_v28) := (dat2 V O b c).arrAt 3 cfg2.N

/-- A wait on a kernel's own semaphore is always allowed. -/
theorem lev_none (g : GSem nD τ sig) : (K (F := F)).lev g none = 0 := rfl

variable (Vp : Vals F)

set_option backward.isDefEq.respectTransparency.types false in
/-- The first call over the thread's state. -/
def reg0 (R : Dev nD → sProp 𝕄) (hO : ∀ c g, O c g none = 0)
    (h1 : ∀ c, Vp c main_v0_0 = out0_1 V O b c) (h2 : ∀ c, Vp c main_v0_1 = out0_2 V O b c)
    (hne : ∀ c (r : Ref sig .tc), r ≠ main_v0_0 → r ≠ main_v0_1 → Vp c r = V c r) :
    Pipeline.RegionSeg (pcfgs (F := F)) adm (pdats0 V O b adm) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (obligation0 V O b c).loose
  hwaits c := Pipeline.cellsWaits_intro _ _ _ 0 c fun w s t => (K (F := F)).mayWait_none _ (hO c)
  pre c := iprop(unscopedBufs c (V c) ∗ R c ∗ debts O b c)
  post c := iprop(unscopedBufs c (Vp c) ∗ R c ∗ debts O b c)
  X _ := BI.emp
  Y _ := BI.emp
  Z c := iprop(Pipeline.unscopedRest spec0 c (V c) ∗ R c)
  hentry c := by
    rw [Pipeline.ownSems0_none]
    have hsplit := Pipeline.arrays_of_unscopedBufs (p := 0) (pcfgs (F := F)) adm (pdats0 V O b adm) launch0.win launch0.arr_whole c
      ((pdats0 V O b adm 0 c).share_full fun _ => rfl) (V c) fun _ => rfl
    iintro ⟨⟨Hub, HR, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    isplitl [Hrest] <;> iassumption
  hin c := by
    rw [show (pdats0 V O b adm 0 c).Φ 0 = Pipeline.scopedRest spec0 c from rfl]
    iintro ⟨-, -, Hr⟩; iexact Hr
  hout c := by
    rw [Pipeline.ownSems0_none, show (pdats0 V O b adm 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats0 V O b adm) ((pdats0 V O b adm 0 c).share_full fun _ => rfl) (V c) (Vp c) ((pdats0 V O b adm 0 c).arrAt · cfg0.N)
      (fun w => by
        fin_cases w
        · exact ((pdats0 V O b adm 0 c).arrAt_in 0 rfl _).trans (hne c main_arg0 (by decide) (by decide)).symm
        · exact (h1 c).symm
        · exact (h2 c).symm)
      (fun r hr => hne c r (fun h => hr (h ▸ Finset.mem_image.mpr ⟨1, Finset.mem_univ _, rfl⟩))
        (fun h => hr (h ▸ Finset.mem_image.mpr ⟨2, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr; swap; · iexact HO
    ipureintro
    intro p hp
    rcases hW hp with h | ⟨w, s, h⟩
    · exact h
    · rw [h]; exact Nat.zero_le _

set_option backward.isDefEq.respectTransparency.types false in
/-- The second call over the thread's state. -/
def reg2 (R : Dev nD → sProp 𝕄) (hO : ∀ c g, O c g none = 0)
    (h3 : ∀ c, Vp c main_v28 = out2_3 V O b c) (hne : ∀ c (r : Ref sig .tc), r ≠ main_v28 → Vp c r = V c r) :
    Pipeline.RegionSeg (pcfgs (F := F)) adm (pdats2 V O b adm) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (obligation2 V O b c).loose
  hwaits c := Pipeline.cellsWaits_intro _ _ _ 1 c fun w s t => (K (F := F)).mayWait_none _ (hO c)
  pre c := iprop(unscopedBufs c (V c) ∗ R c ∗ debts O b c)
  post c := iprop(unscopedBufs c (Vp c) ∗ R c ∗ debts O b c)
  X _ := BI.emp
  Y _ := BI.emp
  Z c := iprop(Pipeline.unscopedRest spec2 c (V c) ∗ R c)
  hentry c := by
    rw [Pipeline.ownSems0_none]
    have hsplit := Pipeline.arrays_of_unscopedBufs (p := 1) (pcfgs (F := F)) adm (pdats2 V O b adm) launch2.win launch2.arr_whole c
      ((pdats2 V O b adm 1 c).share_full fun _ => rfl) (V c) fun _ => rfl
    iintro ⟨⟨Hub, HR, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    isplitl [Hrest] <;> iassumption
  hin c := by
    rw [show (pdats2 V O b adm 1 c).Φ 0 = Pipeline.scopedRest spec2 c from rfl]
    iintro ⟨-, -, Hr⟩; iexact Hr
  hout c := by
    rw [Pipeline.ownSems0_none, show (pdats2 V O b adm 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats2 V O b adm) ((pdats2 V O b adm 1 c).share_full fun _ => rfl) (V c) (Vp c) ((pdats2 V O b adm 1 c).arrAt · cfg2.N)
      (fun w => by
        fin_cases w
        · exact ((pdats2 V O b adm 1 c).arrAt_in 0 rfl _).trans (hne c main_arg0 (by decide)).symm
        · exact ((pdats2 V O b adm 1 c).arrAt_in 1 rfl _).trans (hne c main_v23 (by decide)).symm
        · exact ((pdats2 V O b adm 1 c).arrAt_in 2 rfl _).trans (hne c main_v27 (by decide)).symm
        · exact (h3 c).symm)
      (fun r hr => hne c r (fun h => hr (h ▸ Finset.mem_image.mpr ⟨3, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr; swap; · iexact HO
    ipureintro
    intro p hp
    rcases hW hp with h | ⟨w, s, h⟩
    · exact h
    · rw [h]; exact Nat.zero_le _

theorem reg0_pre (R : Dev nD → sProp 𝕄) (hO) (h1) (h2) (hne) (c : Dev nD) :
    (reg0 V O b adm Vp R hO h1 h2 hne).pre c = iprop(unscopedBufs c (V c) ∗ R c ∗ debts O b c) := rfl
theorem reg0_post (R : Dev nD → sProp 𝕄) (hO) (h1) (h2) (hne) (c : Dev nD) :
    (reg0 V O b adm Vp R hO h1 h2 hne).post c = iprop(unscopedBufs c (Vp c) ∗ R c ∗ debts O b c) := rfl

theorem reg2_pre (R : Dev nD → sProp 𝕄) (hO) (h3) (hne) (c : Dev nD) :
    (reg2 V O b adm Vp R hO h3 hne).pre c = iprop(unscopedBufs c (V c) ∗ R c ∗ debts O b c) := rfl
theorem reg2_post (R : Dev nD → sProp 𝕄) (hO) (h3) (hne) (c : Dev nD) :
    (reg2 V O b adm Vp R hO h3 hne).post c = iprop(unscopedBufs c (Vp c) ∗ R c ∗ debts O b c) := rfl

end Cert.KernelIdeal.Run

end
-- ==== Proof.Host.lean ====
module

public import proofs.«01_k».proof.Proof.Regions

@[expose] public section

/-!
# The host operations around the three calls

`before` packs the statistics and the layer's parameters into the SparseCore call's operand; `after` takes the scales
and the shifts of the eight images back to one column each.
-/

noncomputable section

namespace Cert.KernelIdeal.Run

open Cert.KernelIdeal Cert.KernelIdeal.Gen
open Idealize.ShloMosaic
open Idealize.ShloMosaic.TcCoe
open Idealize.SL Idealize.SL.BI Idealize.SL.Sem
open scoped Idealize.SL.BI

variable {F : FTy → Type} [FloatOps F] [Named F]

/-- The operations between the statistics' call and the SparseCore call. -/
def before : List (HloOp τ sig (Elt F)) :=
  [ StableHlo.reshape main_v0_0 main_v1 (rfl : (.f32 : EltTy) = .f32) shapeCasts_S768x1_S8x96,
    StableHlo.reshape main_v0_1 main_v2 (rfl : (.f32 : EltTy) = .f32) shapeCasts_S768x1_S8x96,
    StableHlo.unary main_v1 main_v3 ((transpose S96x8 [1, 0] · transposes_S8x96_S96x8_1_0) : (⟨S8x96, .f32⟩ : BufTy).Contents (Elt F) → (⟨S96x8, .f32⟩ : BufTy).Contents (Elt F)),
    StableHlo.nullary main_cst (constant S_ .f32 0x3F800000#32),
    StableHlo.unary main_cst main_v4 (broadcastInDim S96x1 ![] bcast_S_S96x1 : (⟨S_, .f32⟩ : BufTy).Contents (Elt F) → (⟨S96x1, .f32⟩ : BufTy).Contents (Elt F)),
    StableHlo.nullary main_cst_0 (constant S_ .f32 0x00000000#32),
    StableHlo.unary main_cst_0 main_v5 (broadcastInDim S96x7 ![] bcast_S_S96x7 : (⟨S_, .f32⟩ : BufTy).Contents (Elt F) → (⟨S96x7, .f32⟩ : BufTy).Contents (Elt F)),
    StableHlo.nary ![main_v3, main_v4, main_v5] main_v6 (fun u => (concatenate S96x16 1 [⟨S96x8, (u 0 : (⟨S96x8, .f32⟩ : BufTy).Contents (Elt F))⟩, ⟨S96x1, (u 1 : (⟨S96x1, .f32⟩ : BufTy).Contents (Elt F))⟩, ⟨S96x7, (u 2 : (⟨S96x7, .f32⟩ : BufTy).Contents (Elt F))⟩] concatenates_S96x8_S96x1_S96x7_S96x16_d1 : (⟨S96x16, .f32⟩ : BufTy).Contents (Elt F))),
    StableHlo.reshape main_v6 main_v7 (rfl : (.f32 : EltTy) = .f32) shapeCasts_S96x16_S1536,
    StableHlo.unary main_v2 main_v8 ((transpose S96x8 [1, 0] · transposes_S8x96_S96x8_1_0) : (⟨S8x96, .f32⟩ : BufTy).Contents (Elt F) → (⟨S96x8, .f32⟩ : BufTy).Contents (Elt F)),
    StableHlo.nullary main_cst_1 (constant S_ .f32 0x00000000#32),
    StableHlo.unary main_cst_1 main_v9 (broadcastInDim S96x8 ![] bcast_S_S96x8 : (⟨S_, .f32⟩ : BufTy).Contents (Elt F) → (⟨S96x8, .f32⟩ : BufTy).Contents (Elt F)),
    StableHlo.binary main_v8 main_v9 main_v10 ((fun a b => concatenate S96x16 1 [⟨S96x8, a⟩, ⟨S96x8, b⟩] concatenates_S96x8_S96x8_S96x16_d1) : (⟨S96x8, .f32⟩ : BufTy).Contents (Elt F) → (⟨S96x8, .f32⟩ : BufTy).Contents (Elt F) → (⟨S96x16, .f32⟩ : BufTy).Contents (Elt F)),
    StableHlo.reshape main_v10 main_v11 (rfl : (.f32 : EltTy) = .f32) shapeCasts_S96x16_S1536,
    StableHlo.reshape main_arg1 main_v12 (rfl : (.f32 : EltTy) = .f32) shapeCasts_S8x16_S128,
    StableHlo.nullary main_c (constantI S_ 32 0#32),
    StableHlo.TRef.unary (.of main_c : StableHlo.TRef sig ⟨S_, .i32⟩) main_call0.v0 (sitofp .f32),
    StableHlo.TRef.binary (.of main_arg2 : StableHlo.TRef sig ⟨S8, .f32⟩) main_call0.v0 main_call0.v1 (fun x v => pad S16 ![0] ![8] ![0] x v pads_S8_S16_080 h_S_),
    StableHlo.reshape main_arg3 main_v14 (rfl : (.f32 : EltTy) = .f32) shapeCasts_S1x96x1x1_S96,
    StableHlo.reshape main_arg4 main_v15 (rfl : (.f32 : EltTy) = .f32) shapeCasts_S1x96x1x1_S96,
    StableHlo.reshape main_v0_0 main_v16 (rfl : (.f32 : EltTy) = .f32) shapeCasts_S768x1_S768,
    StableHlo.reshape main_v0_1 main_v17 (rfl : (.f32 : EltTy) = .f32) shapeCasts_S768x1_S768,
    StableHlo.nary ![main_v12, main_v13, main_v14, main_v15, main_v7, main_v11, main_v16, main_v17] main_v18 (fun u => (concatenate S4944 0 [⟨S128, (u 0 : (⟨S128, .f32⟩ : BufTy).Contents (Elt F))⟩, ⟨S16, (u 1 : (⟨S16, .f32⟩ : BufTy).Contents (Elt F))⟩, ⟨S96, (u 2 : (⟨S96, .f32⟩ : BufTy).Contents (Elt F))⟩, ⟨S96, (u 3 : (⟨S96, .f32⟩ : BufTy).Contents (Elt F))⟩, ⟨S1536, (u 4 : (⟨S1536, .f32⟩ : BufTy).Contents (Elt F))⟩, ⟨S1536, (u 5 : (⟨S1536, .f32⟩ : BufTy).Contents (Elt F))⟩, ⟨S768, (u 6 : (⟨S768, .f32⟩ : BufTy).Contents (Elt F))⟩, ⟨S768, (u 7 : (⟨S768, .f32⟩ : BufTy).Contents (Elt F))⟩] concatenates_S128_S16_S96_S96_S1536_S1536_S768_S768_S4944_d0 : (⟨S4944, .f32⟩ : BufTy).Contents (Elt F))) ]

/-- The operations between the SparseCore call and the last call. -/
def after : List (HloOp τ sig (Elt F)) :=
  [ StableHlo.reshape main_v19_0 main_v20 (rfl : (.f32 : EltTy) = .f32) shapeCasts_S1536_S96x16,
    StableHlo.unary main_v20 main_v21 ((extractStridedSlice S96x8 ![0, 0] · slices_S96x16_S96x8_0_0) : (⟨S96x16, .f32⟩ : BufTy).Contents (Elt F) → (⟨S96x8, .f32⟩ : BufTy).Contents (Elt F)),
    StableHlo.unary main_v21 main_v22 ((transpose S8x96 [1, 0] · transposes_S96x8_S8x96_1_0) : (⟨S96x8, .f32⟩ : BufTy).Contents (Elt F) → (⟨S8x96, .f32⟩ : BufTy).Contents (Elt F)),
    StableHlo.reshape main_v22 main_v23 (rfl : (.f32 : EltTy) = .f32) shapeCasts_S8x96_S768x1,
    StableHlo.reshape main_v19_1 main_v24 (rfl : (.f32 : EltTy) = .f32) shapeCasts_S1536_S96x16,
    StableHlo.unary main_v24 main_v25 ((extractStridedSlice S96x8 ![0, 0] · slices_S96x16_S96x8_0_0) : (⟨S96x16, .f32⟩ : BufTy).Contents (Elt F) → (⟨S96x8, .f32⟩ : BufTy).Contents (Elt F)),
    StableHlo.unary main_v25 main_v26 ((transpose S8x96 [1, 0] · transposes_S96x8_S8x96_1_0) : (⟨S96x8, .f32⟩ : BufTy).Contents (Elt F) → (⟨S8x96, .f32⟩ : BufTy).Contents (Elt F)),
    StableHlo.reshape main_v26 main_v27 (rfl : (.f32 : EltTy) = .f32) shapeCasts_S8x96_S768x1 ]

/-- The program: a call, a straight line, the SparseCore call, a straight line, a call. -/
theorem main_eq (d : Dev nD) :
    main (F := F) d = (Prog.lift (.customCall (SparseCore.inner (Pipeline.entry 0)) ()) >>= fun _ =>
      StableHlo.seq before >>= fun _ => sc.run d 0 >>= fun _ => StableHlo.seq after >>= fun _ =>
        Prog.lift (.customCall (SparseCore.inner (Pipeline.entry 1)) ()) >>= fun _ => pure ⟨⟩) := by
  rfl

end Cert.KernelIdeal.Run

end
-- ==== Proof.Tile.lean ====
module

public import proofs.«01_k».proof.Proof.Launch

@[expose] public section

/-!
# The task of one vector subcore

The one subcore that works takes the packed operand and the two result buffers, whole, and leaves the scales and the
shifts of `Params.scales` and `Params.shifts` there; every other subcore takes and leaves nothing.
-/

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

section Cells

variable (d : Dev nD) (c : Fin τ.nSC) (i : Fin τ.nSub)

abbrev cell0 : GSem nD τ sig := (V d c i, .dma cc1_scoped0.sem)
abbrev cell1 : GSem nD τ sig := (V d c i, .dma cc1_scoped1.sem)
abbrev cell2 : GSem nD τ sig := (V d c i, .dma cc1_scoped2.sem)

/-- The three semaphores the task waits on are among the subcore's own. -/
theorem ownSems0_V :
    (ownSems0 (V d c i) : sProp 𝕄)
      = iprop(semVal (cell0 d c i) 0 ∗ semVal (cell1 d c i) 0 ∗ semVal (cell2 d c i) 0
          ∗ bigSep ((((ownCells (V d c i)).erase (cell0 d c i)).erase (cell1 d c i)).erase (cell2 d c i)) fun g => semVal g 0) := by
  unfold SparseCore.Cfg.ownSems0
  rw [SparseCore.bigSep_erase' ((mem_ownCells (g := cell0 d c i)).mpr ⟨rfl, by
      show (SemLoc.dma cc1_scoped0.sem : SemLoc sig).isScoped .scVector = true; decide⟩),
    SparseCore.bigSep_erase' (Finset.mem_erase.mpr ⟨by simp [cell0, cell1]; decide, (mem_ownCells (g := cell1 d c i)).mpr ⟨rfl, by
      show (SemLoc.dma cc1_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d c i)).mpr ⟨rfl, by show (SemLoc.dma cc1_scoped2.sem : SemLoc sig).isScoped .scVector = true; decide⟩⟩⟩)]

/-- The three scratch buffers are among the subcore's own. -/
theorem ownBufs_V :
    (ownBufs (V d c i) : sProp 𝕄)
      = iprop((∃ f, (V d c i).loc cc1_scratch0 ↦{fullShare} f) ∗ (∃ f, (V d c i).loc cc1_scratch1 ↦{fullShare} f)
          ∗ (∃ f, (V d c i).loc cc1_scratch2 ↦{fullShare} f)
          ∗ bigSep ((((ownRefs (τ := τ) (.scVector c i)).erase ((Proc.scVector c i).devRef cc1_scratch0)).erase
              ((Proc.scVector c i).devRef cc1_scratch1)).erase ((Proc.scVector c i).devRef cc1_scratch2))
              fun b => iprop(∃ f, ((d, b) : Loc nD τ sig) ↦{fullShare} f)) := by
  have hne : ∀ {a b : Ref sig .scVector}, a ≠ b → (Proc.scVector c i).devRef a ≠ (Proc.scVector c i).devRef b :=
    fun h e => absurd (Proc.devRef_injective _ e) h
  unfold SparseCore.Cfg.ownBufs
  refine (SparseCore.bigSep_erase' (SparseCore.Cfg.mem_ownRefs_of_owner (p := Proc.scVector c i)
    (b := (Proc.scVector c i).devRef cc1_scratch0) rfl)).trans ?_
  rw [SparseCore.bigSep_erase' (Finset.mem_erase.mpr ⟨hne (show (cc1_scratch1 : Ref sig .scVector) ≠ cc1_scratch0 by decide),
      SparseCore.Cfg.mem_ownRefs_of_owner (p := Proc.scVector c i) (b := (Proc.scVector c i).devRef cc1_scratch1) rfl⟩),
    SparseCore.bigSep_erase' (Finset.mem_erase.mpr ⟨hne (show (cc1_scratch2 : Ref sig .scVector) ≠ cc1_scratch1 by decide),
      Finset.mem_erase.mpr ⟨hne (show (cc1_scratch2 : Ref sig .scVector) ≠ cc1_scratch0 by decide),
        SparseCore.Cfg.mem_ownRefs_of_owner (p := Proc.scVector c i) (b := (Proc.scVector c i).devRef cc1_scratch2) rfl⟩⟩)]

end Cells

variable [FloatOps F] [Named F]

/-- The value the kernel divides a channel's count by, as a factor. -/
abbrev invHw : F .f32 := Named.named κ "inv_hw" 0x37A72F05#32

section Post

variable (d : Dev nD) (c : Fin τ.nSC) (i : Fin τ.nSub)

/-- What the task leaves for the scales and for the shifts, over earlier contents `g`. -/
def leftA (k : S4944.Idx → F .f32) (g : S1536.Idx → F .f32) : S1536.Idx → F .f32 :=
  Params.puts (cc := c) (ss := i) d sA (Params.scales (Params.rowOf (cc := c) (ss := i) d sK k) invHw) 96 0 g
def leftB (k : S4944.Idx → F .f32) (g : S1536.Idx → F .f32) : S1536.Idx → F .f32 :=
  Params.puts (cc := c) (ss := i) d sB (Params.shifts (Params.rowOf (cc := c) (ss := i) d sK k) invHw) 96 0 g

/-- What the working task is given, and what it gives back. -/
abbrev GO (k : S4944.Idx → F .f32) : sProp 𝕄 := iprop(kPts d k ∗ (∃ f, aPts d f) ∗ ∃ f, bPts d f)
abbrev TD (k : S4944.Idx → F .f32) : sProp 𝕄 := iprop(kPts d k ∗ (∃ g, aPts d (leftA d c i k g)) ∗ ∃ g, bPts d (leftB d c i k g))

end Post

set_option maxHeartbeats 4000000 in
/-- The task of the subcore that works. -/
theorem tile_body (d : Dev nD) (c : Fin τ.nSC) (i : Fin τ.nSub) (k : S4944.Idx → F .f32) (hF : (K (F := F)).Facts)
    (O : CellTallies nD τ sig (HIx 1)) (W : Waits sig (HIx 1)) (hO : ∀ g, O g none = 0) :
    iprop(levAts (K (F := F)).L (K (F := F)).lev ∗ emp ∗ GO d k
        ∗ scopedBufs (V d c i) ∗ scopedSems0 (V d c i) ∗ owes (V d c i) O W)
      ⊢ wp frame (wpE (defs₀ (F := F)) 𝒱₀ (V d c i) none) Set.univ
          (Params.program invHw mK (Memref.isWhole_whole _) mA (Memref.isWhole_whole _) mB (Memref.isWhole_whole _)
            sK (Memref.isWhole_whole _) sA (Memref.isWhole_whole _) sB (Memref.isWhole_whole _) cc1_scoped0 cc1_scoped1 cc1_scoped2)
          fun _ => iprop(TD d c i k ∗ scopedBufs (V d c i) ∗ scopedSems0 (V d c i)
            ∗ ∃ W', ⌜∀ p ∈ W', p ∈ W ∨ p.2 = none⌝ ∗ owes (V d c i) O W') := by
  unfold Params.program
  generalize hr : Params.tables (F := F) (nD := nD) (τ := τ) (sig := sig) sK invHw _ = rest
  rw [(K (F := F)).scopedBufs_V hF d c i, SparseCore.Cfg.scopedSems0_V (Val := Elt F) d c i, ownSems0_V, ownBufs_V]
  iintro ⟨#Hlv, -, ⟨Hk, ⟨%fa, Ha⟩, ⟨%fb, Hb⟩⟩, ⟨⟨%gk, Gk⟩, ⟨%ga, Ga⟩, ⟨%gb, Gb⟩, Hbufs⟩, ⟨S0, S1, S2, Hsems⟩, HO⟩
  ihave Hmw := (show levAts (K (F := F)).L (K (F := F)).lev ⊢ Transfers.MayWaits (V d c i) (default : HIx 1) O from
    (K (F := F)).mayWaits_none (thr := V d c i) hO) $$ Hlv
  ihave Hk' := (Entails.of_eq (show (kPts d k : sProp 𝕄) = (mK.view.loc (V d c i) ↦{fullShare} k) from rfl)) $$ Hk
  ihave Ha' := (Entails.of_eq (show (aPts d fa : sProp 𝕄) = (mA.view.loc (V d c i) ↦{fullShare} fa) from rfl)) $$ Ha
  ihave Hb' := (Entails.of_eq (show (bPts d fb : sProp 𝕄) = (mB.view.loc (V d c i) ↦{fullShare} fb) from rfl)) $$ Hb
  ihave Gk' := (Entails.of_eq (show ((V d c i).loc cc1_scratch0 ↦{fullShare} gk : sProp 𝕄) = (sK.view.loc (V d c i) ↦{fullShare} gk) from rfl)) $$ Gk
  ihave Ga' := (Entails.of_eq (show ((V d c i).loc cc1_scratch1 ↦{fullShare} ga : sProp 𝕄) = (sA.view.loc (V d c i) ↦{fullShare} ga) from rfl)) $$ Ga
  ihave Gb' := (Entails.of_eq (show ((V d c i).loc cc1_scratch2 ↦{fullShare} gb : sProp 𝕄) = (sB.view.loc (V d c i) ↦{fullShare} gb) from rfl)) $$ Gb
  sl_exec
  have hk : View.write (Elt F) sK.view gk (tile_body.sl.dma0 k) Finset.univ = k := by
    refine (View.write_whole_univ _ _ _).trans ?_
    unfold tile_body.sl.dma0
    exact View.read_whole _ _
  rw [hk]
  subst hr
  iapply (Params.wp_tables d 𝒱₀ none Set.univ sK k invHw _) $$ Gk'; iintro Gk'
  iapply (Params.wp_writes d 𝒱₀ none Set.univ sK sA sB k _ _ _ _ _ ga gb _) $$ [Gk' Ga' Gb']
  · isplitl [Gk']; · iexact Gk'
    isplitl [Ga']; · iexact Ga'
    iexact Gb'
  iintro ⟨Gk', Ga', Gb'⟩
  unfold Params.run
  sl_exec
  have ha : View.write (Elt F) mA.view fa (tile_body.sl.dma0_1 d c i k ga) Finset.univ = leftA d c i k ga := by
    refine (View.write_whole_univ _ _ _).trans ?_
    unfold tile_body.sl.dma0_1
    exact View.read_whole _ _
  have hb : View.write (Elt F) mB.view fb (tile_body.sl.dma0_2 d c i k gb) Finset.univ = leftB d c i k gb := by
    refine (View.write_whole_univ _ _ _).trans ?_
    unfold tile_body.sl.dma0_2
    exact View.read_whole _ _
  rw [ha, hb]
  rw [wp_ret]; imodintro
  isplitl [Hk' Ha' Hb']
  · isplitl [Hk']; · iexact Hk'
    isplitl [Ha']
    · iexists ga; iexact Ha'
    iexists gb; iexact Hb'
  isplitl [Gk' Ga' Gb' Hbufs]
  · isplitl [Gk']
    · iexists k; iexact Gk'
    isplitl [Ga']
    · iexists leftA d c i k ga; iexact Ga'
    isplitl [Gb']
    · iexists leftB d c i k gb; iexact Gb'
    iexact Hbufs
  isplitl [S0 S1 S2 Hsems]
  · isplitl [S0]; · iexact S0
    isplitl [S1]; · iexact S1
    isplitl [S2]; · iexact S2
    iexact Hsems
  iexists _; iframe
  ipureintro
  intro p hp
  simp only [Finset.mem_insert] at hp
  rcases hp with h | h | h | h
  · exact .inr (congrArg Prod.snd h)
  · exact .inr (congrArg Prod.snd h)
  · exact .inr (congrArg Prod.snd h)
  · exact .inl h

end Cert.KernelIdeal.Run

end
-- ==== Proof.Payload.lean ====
module

public import proofs.«01_k».proof.Proof.Tile

@[expose] public section

/-!
# What the SparseCore call carries

The call hands the packed operand and the two result buffers to subcore 0, and nothing to the other fifteen.
-/

noncomputable section

namespace Cert.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] [Named F]

/-- The subcore that works. -/
abbrev c₀ : Fin τ.nSC := ⟨0, by decide⟩
abbrev i₀ : Fin τ.nSub := ⟨0, by decide⟩

/-- What the working subcore gives back, over whatever the result buffers held before. -/
abbrev DN (d : Dev nD) (k : S4944.Idx → F .f32) : sProp 𝕄 := TD d c₀ i₀ k

/-- Subcore `i`'s part: all of it for subcore 0, nothing for another. -/
def part (R : sProp 𝕄) (i : Fin ((K (F := F)).nSub 0)) : sProp 𝕄 := if i.val = 0 then R else iprop(emp)

instance part_storable (R : sProp 𝕄) [BI.Storable (upEmb : UEmb _ 𝕄) R] (i : Fin ((K (F := F)).nSub 0)) :
    BI.Storable (upEmb : UEmb _ 𝕄) (part R i) := by
  unfold part; split <;> infer_instance

variable (vp : Dev nD → S4944.Idx → F .f32)

/-- What the call's handshakes carry, the packed operand at `vp`. -/
def P : (K (F := F)).Pay (nD := nD) (Val := Elt F) (Name := ℕ) (U := UU) where
  st := fun q d _ => match q with | 0 => GO d (vp d)
  dn := fun q d _ => match q with | 0 => DN d (vp d)
  go := fun q d _ i => match q with | 0 => part (GO d (vp d)) i
  td := fun q d _ i => match q with | 0 => part (DN d (vp d)) i
  x := fun _ _ => iprop(emp)

instance P_storable : (P (F := F) vp).IsStorable where
  st q d _ := match q with | 0 => (inferInstance : BI.Storable (upEmb : UEmb _ 𝕄) (GO d (vp d)))
  dn q d _ := match q with | 0 => (inferInstance : BI.Storable (upEmb : UEmb _ 𝕄) (DN d (vp d)))
  go q d _ i := match q with | 0 => (inferInstance : BI.Storable (upEmb : UEmb _ 𝕄) (part (GO d (vp d)) i))
  td q d _ i := match q with | 0 => (inferInstance : BI.Storable (upEmb : UEmb _ 𝕄) (part (DN d (vp d)) i))

/-! ## The task's obligation -/

def coordsV (c : Fin (grid1.bound 0)) (s : Fin (grid1.bound 1)) : grid1.Coords :=
  fun | 0 => c | 1 => s | ⟨_ + 2, h⟩ => absurd h (Nat.not_lt.2 (Nat.le_add_left _ _))

theorem first_iff : ∀ (c : Fin (grid1.bound 0)) (s : Fin (grid1.bound 1)), First (coordsV c s) ↔ s.val = 0 := by
  show ∀ (c : Fin 1) (s : Fin 16), _
  decide

theorem defs₀_vector (c : Fin τ.nSC) (s : Fin τ.nSub) :
    defs₀ (F := F) (.scVector c s) 1 ()
      = SparseCore.onTile hcore1 hsub1 (fun c s => cc1__sc_params_body (coordsV c s)
          mK (Memref.isWhole_whole _) mA (Memref.isWhole_whole _) mB (Memref.isWhole_whole _)
          sK (Memref.isWhole_whole _) sA (Memref.isWhole_whole _) sB (Memref.isWhole_whole _) cc1_scoped0 cc1_scoped1 cc1_scoped2) ⟨⟩ c s := rfl

omit [FloatOps F] [Named F] in
theorem after_task {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; iframe HO
  ipureintro; exact fun p hp => (hW' p hp).imp_right Or.inl

set_option maxRecDepth 16384 in
theorem tileObl : (K (F := F)).TileObl (D (F := F)) 𝒱 (P vp) v₀ 0 := by
  intro d c i O W hO _ _
  simp only [show (P vp).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  by_cases h : i.val = 0
  · refine BI.Entails.trans ?_ (Entails.of_eq (congrArg (fun p => wp frame (wpE (defs₀ (F := F)) 𝒱₀ (V d ((K (F := F)).core 0 c) ((K (F := F)).sub 0 i)) none) Set.univ p _)
      (body_first (F := F) (coordsV ⟨_, hci.1⟩ ⟨_, hci.2⟩) mK (Memref.isWhole_whole _) mA (Memref.isWhole_whole _) mB (Memref.isWhole_whole _)
        sK (Memref.isWhole_whole _) sA (Memref.isWhole_whole _) sB (Memref.isWhole_whole _) cc1_scoped0 cc1_scoped1 cc1_scoped2
        ((first_iff _ _).2 h)).symm))
    obtain rfl : i = (⟨0, by decide⟩ : Fin 16) := Fin.ext h
    obtain rfl : c = (⟨0, by decide⟩ : Fin 1) := Subsingleton.elim (α := Fin 1) _ _
    exact (tile_body d c₀ i₀ (vp d) facts O W hO).trans (wp_mono frame _ _ fun _ => after_task)
  · refine BI.Entails.trans ?_ (Entails.of_eq (congrArg (fun p => wp frame (wpE (defs₀ (F := F)) 𝒱₀ (V d ((K (F := F)).core 0 c) ((K (F := F)).sub 0 i)) none) Set.univ p _)
      (body_rest (F := F) (coordsV ⟨_, hci.1⟩ ⟨_, hci.2⟩) mK (Memref.isWhole_whole _) mA (Memref.isWhole_whole _) mB (Memref.isWhole_whole _)
        sK (Memref.isWhole_whole _) sA (Memref.isWhole_whole _) sB (Memref.isWhole_whole _) cc1_scoped0 cc1_scoped1 cc1_scoped2
        (fun h' => h ((first_iff _ _).1 h'))).symm))
    change _ ⊢ wp frame (wpE (defs₀ (F := F)) 𝒱₀ (V d ((K (F := F)).core 0 c) ((K (F := F)).sub 0 i)) none) Set.univ (Prog.ret PUnit.unit) _
    rw [wp_ret]
    iintro ⟨-, Hx, Hgo, Hb, Hs, HO⟩
    imodintro
    isplitr
    · rw [show (P vp).td 0 d c i = iprop(emp) from if_neg h]; iempintro
    iframe Hb Hs
    iexists W; iframe HO
    ipureintro; exact fun p hp => .inl hp

/-! ## The call's operands split and join -/

theorem parts (R : sProp 𝕄) : (bigSep Finset.univ fun i : Fin ((K (F := F)).nSub 0) => part R i) = R := by
  have h : ∀ i ∈ (Finset.univ : Finset (Fin 16)).erase 0, part (F := F) R i = iprop(emp) := fun i hi =>
    if_neg fun e => (Finset.ne_of_mem_erase hi) (Fin.ext e)
  show (bigSep (Finset.univ : Finset (Fin 16)) fun i => part (F := F) R i) = R
  rw [SparseCore.bigSep_erase' (Finset.mem_univ (0 : Fin 16)), (bigSep_congr h).trans (bigSep_emp_const _)]
  exact BI.Entails.antisymm sep_emp.1 sep_emp.2

theorem vecSplit : (K (F := F)).VecSplit' (P vp) 0 := by
  intro d c
  show GO d (vp d) ⊢ |={Set.univ}=> iprop(
      (bigSep Finset.univ fun i : Fin ((K (F := F)).nSub 0) => part (GO d (vp d)) i)
      ∗ ((bigSep Finset.univ fun i : Fin ((K (F := F)).nSub 0) => part (DN d (vp d)) i) -∗ DN d (vp d)))
  rw [parts, parts]
  iintro H; imodintro
  isplitl [H]; · iexact H
  iintro H; iexact H

theorem st0_eq (d : Dev nD) : (bigSep Finset.univ fun c : Fin ((K (F := F)).nCore 0) => (P vp).st 0 d c) = GO d (vp d) :=
  bigSep_univ_of_subsingleton (0 : Fin 1)
theorem dn0_eq (d : Dev nD) : (bigSep Finset.univ fun c : Fin ((K (F := F)).nCore 0) => (P vp).dn 0 d c) = DN d (vp d) :=
  bigSep_univ_of_subsingleton (0 : Fin 1)

end Cert.KernelIdeal.Run

end
-- ==== Proof.Steps.lean ====
module

public import proofs.«01_k».proof.Proof.Host
public import proofs.«01_k».proof.Proof.Payload

@[expose] public section

/-!
# The program's steps over one valuation of the device's arrays

Each of the two TensorCore calls, each straight line of host operations and the SparseCore call takes the arrays at one
valuation to the arrays at the next.
-/

noncomputable section

namespace Cert.KernelIdeal.Run

open Cert.KernelIdeal Cert.KernelIdeal.Gen
open Idealize.ShloMosaic
open Idealize.ShloMosaic.TcCoe
open Idealize.ShloMosaic.SparseCore (T)
open Idealize.ShloMosaic.SparseCore.Cfg (HIx)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable [FloatOps F] [Named F]

/-! ## The arrays as one set -/

/-- The arrays of a device's TensorCore: its references that no region scopes. -/
def arrays : Finset (DevRef τ sig) :=
  ((Finset.univ : Finset (Ref sig .tc)).filter fun b => ¬ b.isScoped).map
    ⟨Proc.devRef (sig := sig) (.tc : Proc τ), Proc.devRef_injective _⟩

omit [FloatOps F] [Named F] in
theorem unscopedBufs_held (d : Dev nD) (W : Valuation τ sig (Elt F)) :
    (unscopedBufs d (fun b => W (Proc.devRef .tc b)) : sProp 𝕄) = held (T d) arrays W := by
  unfold unscopedBufs held arrays
  rw [bigSep_map]; rfl

theorem mem_arrays {b : Ref sig .tc} (h : b.isScoped = false) : Proc.devRef (τ := τ) .tc b ∈ arrays :=
  Finset.mem_map.mpr ⟨b, Finset.mem_filter.mpr ⟨Finset.mem_univ _, by simp [h]⟩, rfl⟩

/-- A valuation read as each TensorCore's. -/
abbrev valsOf (W : Dev nD → Valuation τ sig (Elt F)) : Vals F := fun c b => W c (Proc.devRef .tc b)

/-! ## The TensorCore calls -/

abbrev adm : (p : Fin 2) → (pcfgs (F := F) p).Adm := fun p => (cfgs p).toPCfg_adm

abbrev pinj : Function.Injective (Pipeline.cellOf (nD := nD) (τ := τ) (Pipeline.pin (pcfgs (F := F)) adm)) := cellOf_inj

/-- What the core owes before call `n`, and the level its waits so far lie below. -/
abbrev owedAt (n : ℕ) (c : Dev nD) : CellTallies nD τ sig (HIx 1) := (K (F := F)).Otc c n
abbrev lowAt (n : ℕ) : ℕ := 8 * SparseCore.Cfg.Blocks.fst 1 1 n

omit [FloatOps F] [Named F] in
theorem owed_none (n : ℕ) (c : Dev nD) (g : GSem nD τ sig) : owedAt (F := F) n c g none = 0 := by
  by_contra h
  have := (K (F := F)).lev_of_Otc_pos (Nat.pos_of_ne_zero h)
  rw [show (K (F := F)).lev g none = 0 from rfl] at this
  omega

/-- What the launch deals a pipeline on a core. -/
abbrev ghostOf (p : Fin 2) (c : Dev nD) : sProp 𝕄 :=
  iprop(Pipeline.cellsGhost (Pipeline.pin (pcfgs (F := F)) adm) EP p c ∗ Pipeline.toksInit (Pipeline.pin (pcfgs (F := F)) adm) EP p c)

variable [∀ e, Nonempty (Elt F e)]

set_option backward.isDefEq.respectTransparency.types false in
/-- A TensorCore call as a step of the program. -/
theorem call_step {p : Fin 2} {pdats} (R : Pipeline.RegionSeg (pcfgs (F := F)) adm pdats none defs₀ 𝒱₀ (K (F := F)).L (K (F := F)).lev p)
    (c : Dev nD) {Q : PUnit → sProp 𝕄} :
    iprop((iprop(boundary (T c) ∗ R.post c) -∗ Q ⟨⟩) ∗ boundary (T c) ∗ R.pre c ∗ levAts (K (F := F)).L (K (F := F)).lev ∗ ghostOf p c)
      ⊢ wp frame (wpE ((K (F := F)).defs (D (F := F))) 𝒱 (T c) none) Set.univ
          (Prog.lift (.customCall (SparseCore.inner (Pipeline.entry p)) ())) Q := by
  refine BI.Entails.trans ?_ ((K (F := F)).wp_liftProg (D (F := F)) 𝒱 (T c) Set.univ none
    (.op (.customCall (Pipeline.entry p) ()) .ret) Q)
  refine BI.Entails.trans ?_ (Pipeline.RegionSeg.wp (pcfgs (F := F)) adm pdats none pinj EP defs₀ 𝒱₀ (K (F := F)).L (K (F := F)).lev R c none
    (fun u hu => nomatch hu) .ret Q)
  show (_ : sProp 𝕄) ⊢ _
  iintro ⟨Hk, Hb, Hpre, Hl, Hc, Ht⟩
  isplitl [Hk]
  · iintro H
    rw [wp_ret]; imodintro
    iapply Hk; iexact H
  isplitl [Hb]; · iexact Hb
  isplitl [Hpre]; · iexact Hpre
  isplitl [Hl]; · iexact Hl
  isplitl [Hc] <;> iassumption

end Cert.KernelIdeal.Run

end
-- ==== Proof.Main.lean ====
module

public import proofs.«01_k».proof.Proof.Steps

@[expose] public section

/-!
# The program's run, whatever the arithmetic

From any launch memory the program ends with every semaphore at zero and the arrays at the last of six valuations: each
call's results, and each host operation's, over the ones before. The two result buffers of the SparseCore call enter the
last three valuations over whatever they held (`ga`, `gb`): the call overwrites them.
-/

noncomputable section

namespace Cert.KernelIdeal.Run

open Cert.KernelIdeal Cert.KernelIdeal.Gen
open Idealize.ShloMosaic
open Idealize.ShloMosaic.TcCoe
open Idealize.ShloMosaic.SparseCore (T)
open Idealize.ShloMosaic.SparseCore.Cfg (HIx)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable [FloatOps F] [Named F]

variable (m : (ℓ : Loc nD τ sig) → Buf (Elt F) ℓ) (ρ : Dev nD → PrngReg)

/-- A device's contents with one reference's replaced. -/
abbrev put (W : Valuation τ sig (Elt F)) (r : Ref sig .tc) (X : (Proc.devRef (τ := τ) .tc r).ty.Contents (Elt F)) : Valuation τ sig (Elt F) :=
  Function.update W (Proc.devRef .tc r) X

omit [FloatOps F] [Named F] in
theorem put_at (W : Valuation τ sig (Elt F)) (r : Ref sig .tc) (X) : put W r X (Proc.devRef .tc r) = X := Function.update_self _ _ _
omit [FloatOps F] [Named F] in
theorem put_ne (W : Valuation τ sig (Elt F)) {r r' : Ref sig .tc} (X) (h : r' ≠ r) : put W r X (Proc.devRef .tc r') = W (Proc.devRef .tc r') :=
  Function.update_of_ne (fun e => h (Proc.devRef_injective _ e)) _ _

/-! ## The valuations -/

def W0 (d : Dev nD) : Valuation τ sig (Elt F) := fun b => m (d, b)

section
variable [∀ e, Nonempty (Elt F e)]

/-- After the statistics' call. -/
def W1 (d : Dev nD) : Valuation τ sig (Elt F) :=
  put (put (W0 m d) main_v0_0 (out0_1 (valsOf (W0 m)) (owedAt (F := F) 0) (lowAt 0) d)) main_v0_1 (out0_2 (valsOf (W0 m)) (owedAt (F := F) 0) (lowAt 0) d)

/-- After the packing. -/
def W2 (d : Dev nD) : Valuation τ sig (Elt F) := StableHlo.after before (W1 m d)

/-- The SparseCore call's operand. -/
def packed (d : Dev nD) : S4944.Idx → F .f32 := W2 m d (Proc.devRef .tc main_v18)

variable (ga gb : Dev nD → S1536.Idx → F .f32)

/-- After the SparseCore call. -/
def W3 (d : Dev nD) : Valuation τ sig (Elt F) :=
  put (put (W2 m d) main_v19_0 (leftA d c₀ i₀ (packed m d) (ga d))) main_v19_1 (leftB d c₀ i₀ (packed m d) (gb d))

/-- After the unpacking. -/
def W4 (d : Dev nD) : Valuation τ sig (Elt F) := StableHlo.after after (W3 m ga gb d)

/-- After the last call. -/
def W5 (d : Dev nD) : Valuation τ sig (Elt F) :=
  put (W4 m ga gb d) main_v28 (out2_3 (valsOf (W4 m ga gb)) (owedAt (F := F) 1) (lowAt 1) d)

/-! ## The steps -/

/-- What a core holds of a call's protocol besides its debts. -/
theorem tcSt_split (d : Dev nD) (n : ℕ) : ∃ R : sProp 𝕄, (K (F := F)).tcSt EH d n = iprop(debts (owedAt (F := F) n) (lowAt n) d ∗ R) := by
  unfold SparseCore.Cfg.tcSt; exact ⟨_, rfl⟩

set_option backward.isDefEq.respectTransparency.types false in
theorem step0 (d : Dev nD) {Q : PUnit → sProp 𝕄} :
    iprop(((boundary (T d) ∗ held (T d) arrays (W1 m d) ∗ (K (F := F)).tcSt EH d 0) -∗ Q ⟨⟩)
        ∗ boundary (T d) ∗ held (T d) arrays (W0 m d) ∗ (K (F := F)).tcSt EH d 0 ∗ levAts (K (F := F)).L (K (F := F)).lev ∗ ghostOf 0 d)
      ⊢ wp frame (wpE ((K (F := F)).defs (D (F := F))) 𝒱 (T d) none) Set.univ
          (Prog.lift (.customCall (SparseCore.inner (Pipeline.entry 0)) ())) Q := by
  obtain ⟨R, hR⟩ := tcSt_split (F := F) d 0
  rw [hR, ← unscopedBufs_held, ← unscopedBufs_held]
  refine BI.Entails.trans ?_ (call_step (reg0 (valsOf (W0 m)) (owedAt (F := F) 0) (lowAt 0) adm (valsOf (W1 m)) (fun _ => R)
    (fun c g => owed_none 0 c g) (fun c => (put_ne _ _ (by decide)).trans (put_at _ _ _)) (fun c => put_at _ _ _)
    (fun c r h1 h2 => (put_ne _ _ h2).trans (put_ne _ _ h1))) d)
  rw [reg0_pre, reg0_post]
  show (_ : sProp 𝕄) ⊢ _
  iintro ⟨Hk, Hb, Hu, ⟨Hd, HR⟩, Hl, Hg⟩
  isplitl [Hk]
  · iintro ⟨Hb, Hu, HR, Hd⟩
    iapply Hk
    isplitl [Hb]; · iexact Hb
    isplitl [Hu]; · iexact Hu
    isplitl [Hd] <;> iassumption
  isplitl [Hb]; · iexact Hb
  isplitl [Hu HR Hd]
  · isplitl [Hu]; · iexact Hu
    isplitl [HR] <;> iassumption
  isplitl [Hl] <;> iassumption

set_option backward.isDefEq.respectTransparency.types false in
theorem step2 (d : Dev nD) {Q : PUnit → sProp 𝕄} :
    iprop(((boundary (T d) ∗ held (T d) arrays (W5 m ga gb d) ∗ (K (F := F)).tcSt EH d 1) -∗ Q ⟨⟩)
        ∗ boundary (T d) ∗ held (T d) arrays (W4 m ga gb d) ∗ (K (F := F)).tcSt EH d 1 ∗ levAts (K (F := F)).L (K (F := F)).lev ∗ ghostOf 1 d)
      ⊢ wp frame (wpE ((K (F := F)).defs (D (F := F))) 𝒱 (T d) none) Set.univ
          (Prog.lift (.customCall (SparseCore.inner (Pipeline.entry 1)) ())) Q := by
  obtain ⟨R, hR⟩ := tcSt_split (F := F) d 1
  rw [hR, ← unscopedBufs_held, ← unscopedBufs_held]
  refine BI.Entails.trans ?_ (call_step (reg2 (valsOf (W4 m ga gb)) (owedAt (F := F) 1) (lowAt 1) adm (valsOf (W5 m ga gb)) (fun _ => R)
    (fun c g => owed_none 1 c g) (fun c => put_at _ _ _) (fun c r h => put_ne _ _ h)) d)
  rw [reg2_pre, reg2_post]
  show (_ : sProp 𝕄) ⊢ _
  iintro ⟨Hk, Hb, Hu, ⟨Hd, HR⟩, Hl, Hg⟩
  isplitl [Hk]
  · iintro ⟨Hb, Hu, HR, Hd⟩
    iapply Hk
    isplitl [Hb]; · iexact Hb
    isplitl [Hu]; · iexact Hu
    isplitl [Hd] <;> iassumption
  isplitl [Hb]; · iexact Hb
  isplitl [Hu HR Hd]
  · isplitl [Hu]; · iexact Hu
    isplitl [HR] <;> iassumption
  isplitl [Hl] <;> iassumption

/-- The SparseCore call's three arrays. -/
def triple : Finset (DevRef τ sig) := {Proc.devRef .tc main_v18, Proc.devRef .tc main_v19_0, Proc.devRef .tc main_v19_1}

theorem triple_sub : triple ⊆ arrays := by
  intro b hb
  simp only [triple, Finset.mem_insert, Finset.mem_singleton] at hb
  rcases hb with rfl | rfl | rfl <;> exact mem_arrays rfl

omit [FloatOps F] [Named F] [∀ e, Nonempty (Elt F e)] in
theorem held_triple (d : Dev nD) (W : Valuation τ sig (Elt F)) :
    (held (T d) triple W : sProp 𝕄) = iprop((kLoc d ↦{fullShare} W (Proc.devRef .tc main_v18))
      ∗ (aLoc d ↦{fullShare} W (Proc.devRef .tc main_v19_0)) ∗ (bLoc d ↦{fullShare} W (Proc.devRef .tc main_v19_1))) := by
  unfold held triple
  rw [SparseCore.bigSep_insert' (by decide), SparseCore.bigSep_insert' (by decide), bigSep_singleton]

theorem held_rest (d : Dev nD) :
    (held (T d) (arrays \ triple) (W3 m ga gb d) : sProp 𝕄) = held (T d) (arrays \ triple) (W2 m d) :=
  StableHlo.held_congr _ fun b hb => by
    have hb := (Finset.mem_sdiff.mp hb).2
    simp only [triple, Finset.mem_insert, Finset.mem_singleton, not_or] at hb
    exact (Function.update_of_ne hb.2.2 _ _).trans (Function.update_of_ne hb.2.1 _ _)

theorem held_done (d : Dev nD) :
    (held (T d) arrays (W3 m ga gb d) : sProp 𝕄) = iprop((kPts d (packed m d) ∗ aPts d (leftA d c₀ i₀ (packed m d) (ga d))
      ∗ bPts d (leftB d c₀ i₀ (packed m d) (gb d))) ∗ held (T d) (arrays \ triple) (W2 m d)) := by
  have h18 : W3 m ga gb d (Proc.devRef .tc main_v18) = packed m d := (put_ne _ _ (by decide)).trans (put_ne _ _ (by decide))
  have hA : W3 m ga gb d (Proc.devRef .tc main_v19_0) = leftA d c₀ i₀ (packed m d) (ga d) := (put_ne _ _ (by decide)).trans (put_at _ _ _)
  have hB : W3 m ga gb d (Proc.devRef .tc main_v19_1) = leftB d c₀ i₀ (packed m d) (gb d) := put_at _ _ _
  rw [StableHlo.held_sub_split _ triple_sub, held_triple, held_rest, h18, hA, hB]

set_option backward.isDefEq.respectTransparency.types false in
theorem step1 (κ : GSem nD τ sig → ℕ) (d : Dev nD) {Q : PUnit → sProp 𝕄} :
    iprop((∀ ga gb, (held (T d) arrays (W3 m ga gb d) ∗ (K (F := F)).tcSt EH d 1) -∗ Q ⟨⟩)
        ∗ held (T d) arrays (W2 m d) ∗ (K (F := F)).tcSt EH d 0 ∗ (K (F := F)).ctx EH (P (packed m)) κ)
      ⊢ wp frame (wpE ((K (F := F)).defs (D (F := F))) 𝒱 (T d) none) Set.univ (sc.run d 0) Q := by
  rw [StableHlo.held_sub_split _ triple_sub, held_triple]
  iintro ⟨Hk, ⟨⟨H18, Ha, Hb⟩, Hrest⟩, Hst, #Hctx⟩
  iapply ((K (F := F)).wp_run (D (F := F)) 𝒱 (EH := EH) (P := P (packed m)) κ d 0)
  isplitr; · iexact Hctx
  isplitl [Hst]; · iexact Hst
  isplitl [H18 Ha Hb]
  · rw [st0_eq]
    isplitl [H18]; · iexact H18
    isplitl [Ha]
    · iexists _; iexact Ha
    · iexists _; iexact Hb
  iintro ⟨Hst, Hdn⟩
  ihave Hdn' := (Entails.of_eq (dn0_eq (packed m) d)) $$ Hdn
  icases Hdn' with ⟨H18, ⟨%ga, Ha⟩, ⟨%gb, Hb⟩⟩
  ispecialize Hk $$ %(fun _ => ga)
  ispecialize Hk $$ %(fun _ => gb)
  iapply Hk
  isplitr [Hst]; swap; · iexact Hst
  iapply (Entails.of_eq (held_done m (fun _ => ga) (fun _ => gb) d).symm)
  isplitr [Hrest]; swap; · iexact Hrest
  isplitl [H18]; · iexact H18
  isplitl [Ha]
  · iexact Ha
  · iexact Hb

end

end Cert.KernelIdeal.Run

end
-- ==== Proof.Run.lean ====
module

public import proofs.«01_k».proof.Proof.Main

@[expose] public section

/-!
# Every execution ends at the last valuation

The launch deals each core the calls' protocol and the two pipelines' ghost state; the core runs the five steps; the
final state's arrays are the last valuation's, and every semaphore is zero.
-/

noncomputable section

namespace Cert.KernelIdeal.Run

open Cert.KernelIdeal Cert.KernelIdeal.Gen
open Idealize.ShloMosaic
open Idealize.ShloMosaic.TcCoe
open Idealize.ShloMosaic.SparseCore (T)
open Idealize.ShloMosaic.SparseCore.Cfg (HIx)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ
variable [FloatOps F] [Named F]
variable (m : (ℓ : Loc nD τ sig) → Buf (Elt F) ℓ) (ρ : Dev nD → PrngReg)

/-! ## The launch's ghost state -/

def u₀ : UU := (initOf (K (F := F)).hsCells (K (F := F)).hsToks,
  (initOf (Pipeline.cells (Pipeline.pin (pcfgs (F := F)) adm) pinj) (Pipeline.launchToks (Pipeline.pin (pcfgs (F := F)) adm) pinj), 1))

/-- Both pipelines' ghost state on a core. -/
def ghosts (d : Dev nD) : sProp 𝕄 := iprop(ghostOf 0 d ∗ ghostOf 1 d)

theorem ghosts_intro :
    iprop((bigSep Finset.univ fun c : Dev nD => bigSep Finset.univ fun p => Pipeline.cellsGhost (Pipeline.pin (pcfgs (F := F)) adm) EP p c)
      ∗ (bigSep Finset.univ fun c : Dev nD => bigSep Finset.univ fun p => (Pipeline.toksInit (Pipeline.pin (pcfgs (F := F)) adm) EP p c : sProp 𝕄)))
      ⊢ bigSep Finset.univ fun d : Dev nD => ghosts d := by
  rw [← bigSep_sep']
  refine bigSep_mono fun d _ => ?_
  rw [show (Finset.univ : Finset (Fin 2)) = {0, 1} from rfl, SparseCore.bigSep_insert' (by decide), bigSep_singleton,
    SparseCore.bigSep_insert' (by decide), bigSep_singleton]
  unfold ghosts
  show (_ : sProp 𝕄) ⊢ _
  iintro ⟨⟨H0, H1⟩, ⟨T0, T1⟩⟩
  isplitl [H0 T0]
  · isplitl [H0] <;> iassumption
  · isplitl [H1] <;> iassumption

variable [∀ e, Nonempty (Elt F e)]

omit [FloatOps F] [Named F] [∀ e, Nonempty (Elt F e)] in
theorem no_tokens {I : Type} (s : Finset I) : (bigSep s fun _ => iprop(emp)) = (iprop(emp) : sProp 𝕄) := bigSep_emp_const s

theorem deal : (ownU (u₀ (F := F)) : sProp 𝕄)
    ⊢ |={Set.univ}=> iprop(BI.own (EH (initOf (K (F := F)).hsCells (K (F := F)).hsToks)) ∗ (bigSep Finset.univ fun d : Dev nD => ghosts d)
        ∗ bigSep Finset.univ fun thr : Thread nD τ => bigSep Finset.univ fun q : Fin 1 => (P (packed m)).x q thr) := by
  unfold u₀
  iintro Hu
  ihave H := (ownU_pair (initOf (K (F := F)).hsCells (K (F := F)).hsToks)
    ((initOf (Pipeline.cells (Pipeline.pin (pcfgs (F := F)) adm) pinj) (Pipeline.launchToks (Pipeline.pin (pcfgs (F := F)) adm) pinj), 1) : UP × Counters)) $$ Hu
  icases H with ⟨HH, HR⟩
  ihave H := (own_pair_emb embR (initOf (Pipeline.cells (Pipeline.pin (pcfgs (F := F)) adm) pinj) (Pipeline.launchToks (Pipeline.pin (pcfgs (F := F)) adm) pinj) : UP) (1 : Counters)) $$ HR
  icases H with ⟨HP, -⟩
  imod (Pipeline.fund_ghost (Pipeline.pin (pcfgs (F := F)) adm) EP pinj) $$ HP with HG
  imodintro
  isplitl [HH]; · iexact HH
  isplitl [HG]; · iapply ghosts_intro; iexact HG
  rw [show (bigSep Finset.univ fun thr : Thread nD τ => bigSep Finset.univ fun q : Fin 1 => (P (F := F) (packed m)).x q thr) = bigSep Finset.univ fun _ => iprop(emp) from
    bigSep_congr fun _ _ => bigSep_univ_of_subsingleton (0 : Fin 1), no_tokens]
  iempintro

/-! ## The core's program -/

/-- A host operation touches no scoped buffer. -/
theorem sub_arrays {op : HloOp τ sig (Elt F)} (h : op.bufs ⊆ StableHlo.tcRefs τ sig) : op.bufs ⊆ arrays := by
  intro b hb
  obtain ⟨r, -, rfl⟩ := Finset.mem_map.mp (h hb)
  exact mem_arrays (op.no_scoped _ hb)

theorem before_sub : ∀ op ∈ before (F := F), op.bufs ⊆ arrays := by
  have h : (before (F := F)).Forall fun op => op.bufs ⊆ StableHlo.tcRefs τ sig := by
    unfold before
    simp only [List.forall_cons, List.Forall, StableHlo.TRef.unary, StableHlo.TRef.binary, StableHlo.reshape_bufs_sub, StableHlo.unary_bufs_sub,
      StableHlo.binary_bufs_sub, StableHlo.nullary_bufs_sub, StableHlo.nary_bufs_sub, and_true]
  exact fun op hop => sub_arrays (List.forall_iff_forall_mem.1 h op hop)

theorem after_sub : ∀ op ∈ after (F := F), op.bufs ⊆ arrays := by
  have h : (after (F := F)).Forall fun op => op.bufs ⊆ StableHlo.tcRefs τ sig := by
    unfold after
    simp only [List.forall_cons, List.Forall, StableHlo.reshape_bufs_sub, StableHlo.unary_bufs_sub, and_true]
  exact fun op hop => sub_arrays (List.forall_iff_forall_mem.1 h op hop)

/-- What a core's program leaves: its arrays at the last valuation. -/
def left (d : Dev nD) : sProp 𝕄 := iprop(∃ ga gb, held (T d) arrays (W5 m ga gb d))

set_option backward.isDefEq.respectTransparency.types false in
theorem main_runs (κ : GSem nD τ sig → ℕ) (d : Dev nD) :
    iprop((K (F := F)).ctx EH (P (packed m)) κ ∗ (K (F := F)).tcSt EH d 0 ∗ (K (F := F)).tcRes m ρ d ∗ ghosts d)
      ⊢ wp frame (wpE ((K (F := F)).defs (D (F := F))) 𝒱 (T d) none) Set.univ (main d)
          fun _ => iprop((K (F := F)).tcSt EH d 1 ∗ left m d ∗ (K (F := F)).tcEnd d) := by
  unfold SparseCore.Cfg.tcRes SparseCore.Cfg.tcEnd ghosts
  have e : (unscopedBufs d (fun b => m ((SparseCore.T d).loc b)) : sProp 𝕄) = held (T d) arrays (W0 m d) := unscopedBufs_held d (W0 m d)
  rw [main_eq, wp_bind, e]
  iintro ⟨#Hctx, Hst, ⟨Hb, Hu, Hts, -⟩, ⟨Hg0, Hg1⟩⟩
  ihave #Hl := (SparseCore.Cfg.ctx_levAts κ) $$ Hctx
  iapply (step0 m d)
  isplitr [Hb Hu Hst Hg0]; swap
  · isplitl [Hb]; · iexact Hb
    isplitl [Hu]; · iexact Hu
    isplitl [Hst]; · iexact Hst
    isplitr; · iexact Hl
    iexact Hg0
  iintro ⟨Hb, Hu, Hst⟩
  iapply (StableHlo.wp_seq 𝒱 none Set.univ d arrays _ before before_sub
    (List.forall_iff_forall_mem.1 (StableHlo.forall_fresh_of_map rfl)) (W1 m d)) $$ [Hb Hu]
  · isplitl [Hb] <;> iassumption
  iintro ⟨Hb, Hu⟩
  rw [wp_bind]
  iapply (step1 m κ d)
  isplitr [Hu Hst]; swap
  · isplitl [Hu]; · iexact Hu
    isplitl [Hst]; · iexact Hst
    iexact Hctx
  iintro %ga %gb ⟨Hu, Hst⟩
  iapply (StableHlo.wp_seq 𝒱 none Set.univ d arrays _ after after_sub
    (List.forall_iff_forall_mem.1 (StableHlo.forall_fresh_of_map rfl)) (W3 m ga gb d)) $$ [Hb Hu]
  · isplitl [Hb] <;> iassumption
  iintro ⟨Hb, Hu⟩
  rw [wp_bind]
  iapply (step2 m ga gb d)
  isplitr [Hb Hu Hst Hg1]; swap
  · isplitl [Hb]; · iexact Hb
    isplitl [Hu]; · iexact Hu
    isplitl [Hst]; · iexact Hst
    isplitr; · iexact Hl
    iexact Hg1
  iintro ⟨Hb, Hu, Hst⟩
  rw [wp_pure]; imodintro
  isplitl [Hst]; · iexact Hst
  isplitl [Hu]
  · unfold left; iexists ga; iexists gb; iexact Hu
  isplitl [Hb] <;> iassumption

/-! ## The program -/

/-- A final state of a device: its arrays at the last valuation. -/
def endsAt (d : Dev nD) (mem : (ℓ : Loc nD τ sig) → Buf (Elt F) ℓ) : Prop :=
  ∃ ga gb, ∀ b ∈ arrays, mem (d, b) = W5 m ga gb d b

theorem read_left (d : Dev nD) (s' : Phys nD τ sig (Elt F)) : iprop(left m d ∗ SI s') ⊢ (⌜endsAt m d s'.mem.mem⌝ : sProp 𝕄) := by
  unfold left held
  iintro ⟨⟨%ga, %gb, H⟩, HSI⟩
  ihave %h := (SI_pointsTo_bufs_agree (qs := fun _ => fullShare) arrays) $$ [HSI H]
  · isplitl [HSI]; · iexact HSI
    iexact H
  ipureintro
  exact ⟨ga, gb, h⟩

theorem run_main :
    θ_run (Cert.KernelIdeal.defs (F := F)) (Cert.KernelIdeal.threads (F := F)) ⟨m, fun _ => 0, ρ⟩
      (fun r => (∀ c : Dev nD, endsAt m c r.2.mem) ∧ r.2.sem = fun _ => 0) :=
  SparseCore.Cfg.θ_run_sc_quiescent (K := K (F := F)) (D := D (F := F)) (𝒱 := 𝒱) (EH := EH) (P := P (packed m)) (A := ∅) facts v₀
    (fun q hq => match q with | 0 => nomatch hq)
    (fun q _ => match q with | 0 => tileObl (packed m))
    (fun q _ => match q with | 0 => SparseCore.Cfg.VecSplit.of_plain (vecSplit (packed m)))
    m ρ main ghosts (left m) (u₀ (F := F)) (sep_elim_left.trans (deal m)) (main_runs m ρ) (fun d s' => endsAt m d s'.mem.mem)
    (read_left m) _ (fun _ h hz => ⟨h, hz⟩)

end Cert.KernelIdeal.Run

end
-- ==== Proof.Twin.lean ====
module

public import proofs.«01_k».proof.KernelIdeal
public import proofs.«01_k».proof.Kernel
public import proofs.«01_k».proof.Proof.Gen.Kernel
public import proofs.«01_k».proof.Proof.Gen.KernelIdeal

@[expose] public section

/-!
# The program and its idealization are one program

They differ in one constant: the idealization reads it by name. With the names read as the constants' own bits the two
are the same text.
-/

noncomputable section

namespace Cert.Twin

open Idealize.ShloMosaic

variable {F : FTy → Type} [FloatOps F]

/-- A named constant read as its bits. -/
@[reducible] def bitsNamed : Named F := ⟨fun _ _ _ b => Scalar.ofBits _ b⟩

theorem sig_eq : Cert.Kernel.sig = Cert.KernelIdeal.sig := rfl

set_option smartUnfolding false in
set_option maxRecDepth 1000000 in
set_option maxHeartbeats 0 in
theorem main_eq : @Cert.Kernel.main F _ Cert.Kernel.Gen.facts = @Cert.KernelIdeal.main F _ Cert.KernelIdeal.Gen.facts := Eq.trans rfl rfl

set_option smartUnfolding false in
set_option maxRecDepth 1000000 in
set_option maxHeartbeats 0 in
theorem defs_eq : @Cert.Kernel.defs F _ Cert.Kernel.Gen.facts = @Cert.KernelIdeal.defs F _ bitsNamed Cert.KernelIdeal.Gen.facts := Eq.trans rfl rfl

end Cert.Twin

end
-- ==== Proof.Frames.lean ====
module

public import proofs.«01_k».proof.Defs
public import proofs.«01_k».proof.Proof.Run
public import proofs.«01_k».proof.Proof.Twin

@[expose] public section

/-!
# The frames

No step of the program writes an argument's array.
-/

noncomputable section

namespace Cert.KernelIdeal.Run

open Cert.KernelIdeal Cert.KernelIdeal.Gen
open Idealize.ShloMosaic
open Idealize.ShloMosaic.TcCoe
open Idealize.SL.Sem

variable {F : FTy → Type} [FloatOps F] [Named F] [∀ e, Nonempty (Elt F e)]
variable (m : (ℓ : Loc nD τ sig) → Buf (Elt F) ℓ) (ρ : Dev nD → PrngReg)

/-- What the host operations write, in order. -/
def beforeOut : List (Ref sig .tc) := [main_v1, main_v2, main_v3, main_cst, main_v4, main_cst_0, main_v5, main_v6, main_v7, main_v8, main_cst_1,
  main_v9, main_v10, main_v11, main_v12, main_c, main_call0_v0, main_v13, main_v14, main_v15, main_v16, main_v17, main_v18]
def afterOut : List (Ref sig .tc) := [main_v20, main_v21, main_v22, main_v23, main_v24, main_v25, main_v26, main_v27]

omit [∀ e, Nonempty (Elt F e)] in
theorem before_kept (W : Valuation τ sig (Elt F)) {r : Ref sig .tc} (h : r ∉ beforeOut) :
    StableHlo.after before W (Proc.devRef .tc r) = W (Proc.devRef .tc r) :=
  StableHlo.after_of_writes_sub before W (StableHlo.forall_writes_sub_of_map (W := beforeOut) rfl) h

omit [∀ e, Nonempty (Elt F e)] in
theorem after_kept (W : Valuation τ sig (Elt F)) {r : Ref sig .tc} (h : r ∉ afterOut) :
    StableHlo.after after W (Proc.devRef .tc r) = W (Proc.devRef .tc r) :=
  StableHlo.after_of_writes_sub after W (StableHlo.forall_writes_sub_of_map (W := afterOut) rfl) h

/-- A reference the program writes nowhere. -/
def kept (r : Ref sig .tc) : Prop :=
  r ∉ beforeOut ∧ r ∉ afterOut ∧ r ∉ [main_v0_0, main_v0_1, main_v19_0, main_v19_1, main_v28] ∧ r.isScoped = false

instance (r : Ref sig .tc) : Decidable (kept r) := by unfold kept; infer_instance

theorem W5_kept (ga gb : Dev nD → S1536.Idx → F .f32) (d : Dev nD) {r : Ref sig .tc} (h : kept r) :
    W5 m ga gb d (Proc.devRef .tc r) = m (d, Proc.devRef .tc r) := by
  obtain ⟨hb, ha, hr, -⟩ := h
  simp only [List.mem_cons, List.not_mem_nil, or_false, not_or] at hr
  rw [W5, put_ne _ _ hr.2.2.2.2, W4, after_kept _ ha, W3, put_ne _ _ hr.2.2.2.1, put_ne _ _ hr.2.2.1, W2, before_kept _ hb, W1,
    put_ne _ _ hr.2.1, put_ne _ _ hr.1]
  rfl

theorem endsAt_kept {d : Dev nD} {mem : (ℓ : Loc nD τ sig) → Buf (Elt F) ℓ} (h : endsAt m d mem) {r : Ref sig .tc} (hr : kept r) :
    mem (d, Proc.devRef .tc r) = m (d, Proc.devRef .tc r) := by
  obtain ⟨ga, gb, h⟩ := h
  rw [h _ (mem_arrays hr.2.2.2), W5_kept m ga gb d hr]

/-- The program ends with its arguments as they were and every semaphore at zero. -/
theorem frame :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run _ _ _).mono (fun _ h => ⟨fun c => ⟨endsAt_kept m (h.1 c) (r := main_arg0) (by decide), endsAt_kept m (h.1 c) (r := main_arg1) (by decide),
    endsAt_kept m (h.1 c) (r := main_arg2) (by decide), endsAt_kept m (h.1 c) (r := main_arg3) (by decide),
    endsAt_kept m (h.1 c) (r := main_arg4) (by decide)⟩, h.2⟩) (run_main m ρ)

end Cert.KernelIdeal.Run

namespace Cert.Frames

open Idealize.ShloMosaic
open Idealize.SL.Sem

theorem frame_KernelIdeal : Cert.quiescent_KernelIdeal (hKernelIdeal := Cert.KernelIdeal.Gen.facts) :=
  fun m g _ => Cert.KernelIdeal.Run.frame (F := Ideal) m g

/-- The program itself is its idealization with the named constant read as its bits. -/
theorem frame_Kernel : Cert.quiescent_Kernel (hKernel := Cert.Kernel.Gen.facts) := by
  intro m g _
  have h := @Cert.KernelIdeal.Run.frame Bits _ Cert.Twin.bitsNamed _ m g
  unfold Cert.Kernel.threads
  rw [Cert.Twin.defs_eq, Cert.Twin.main_eq]
  exact h

end Cert.Frames

end
-- ==== Proof.Reference.lean ====
module

public import proofs.«01_k».proof.Proof.Gen.ReferenceIdeal
public import Idealize.ShloMosaic.Lib.Pipeline.Frame

@[expose] public section

/-!
# The reference's run

Its operations in order, in seven stretches, and what a run of them leaves: every value at the fold of the operations
over the launch's memory.
-/

noncomputable section

namespace Cert.ReferenceIdeal.Run

open Cert.ReferenceIdeal Cert.ReferenceIdeal.Gen
open Idealize.ShloMosaic
open Idealize.ShloMosaic.TcCoe
open Idealize.SL.Sem

variable {F : FTy → Type} [FloatOps F]

/-- The channels' means and variances, and the score of every group: `%0` to `%11`. -/
def channel : List (HloOp τ sig (Elt F)) :=
  [ StableHlo.unary main_arg0 main_v0 ((transpose S96x8x224x224 [1, 0, 2, 3] · transposes_S8x96x224x224_S96x8x224x224_1_0_2_3) : (⟨S8x96x224x224, .f32⟩ : BufTy).Contents (Elt F) → (⟨S96x8x224x224, .f32⟩ : BufTy).Contents (Elt F)),
    StableHlo.reshape main_v0 main_v1 (rfl : (.f32 : EltTy) = .f32) shapeCasts_S96x8x224x224_S96x8x50176,
    StableHlo.nullary main_cst (constant S_ .f32 0x00000000#32),
    StableHlo.binary main_v1 main_cst main_v2 ((fun x v => Host.reduceAdd x v reducesTo_S96x8x50176_S96x8_d2 h_S_) : (⟨S96x8x50176, .f32⟩ : BufTy).Contents (Elt F) → (⟨S_, .f32⟩ : BufTy).Contents (Elt F) → (⟨S96x8, .f32⟩ : BufTy).Contents (Elt F)),
    StableHlo.nullary main_cst_0 (constant S_ .f32 0x47440000#32),
    StableHlo.unary main_cst_0 main_v3 (broadcastInDim S96x8 ![] bcast_S_S96x8 : (⟨S_, .f32⟩ : BufTy).Contents (Elt F) → (⟨S96x8, .f32⟩ : BufTy).Contents (Elt F)),
    StableHlo.binary main_v2 main_v3 main_v4 (Host.divf : (⟨S96x8, .f32⟩ : BufTy).Contents (Elt F) → (⟨S96x8, .f32⟩ : BufTy).Contents (Elt F) → (⟨S96x8, .f32⟩ : BufTy).Contents (Elt F)),
    StableHlo.nullary main_c (constantI S_ 32 1#32),
    StableHlo.TRef.nullary main_call0.cst (constant S_ .f32 0x00000000#32),
    StableHlo.TRef.binary (.of main_v1 : StableHlo.TRef sig ⟨S96x8x50176, .f32⟩) main_call0.cst main_call0.v0 (fun x v => Host.reduceAdd x v reducesTo_S96x8x50176_S96x8_d2 h_S_),
    StableHlo.TRef.unary main_call0.v0 main_call0.v1 (broadcastInDim S96x8x1 ![0, 1] bcast_S96x8_S96x8x1_0_1),
    StableHlo.TRef.nullary main_call0.cst_0 (constant S_ .f32 0x47440000#32),
    StableHlo.TRef.unary main_call0.cst_0 main_call0.v2 (broadcastInDim S96x8x1 ![] bcast_S_S96x8x1),
    StableHlo.TRef.binary main_call0.v1 main_call0.v2 main_call0.v3 Host.divf,
    StableHlo.TRef.unary main_call0.v3 main_call0.v4 (broadcastInDim S96x8x50176 ![0, 1, 2] bcast_S96x8x1_S96x8x50176_0_1_2),
    StableHlo.TRef.binary (.of main_v1 : StableHlo.TRef sig ⟨S96x8x50176, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47440000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S96x8x50176_S96x8_d2 h_S_),
    StableHlo.TRef.unary main_call0.v8 main_call0.v10 (broadcastInDim S96x8 ![] bcast_S_S96x8),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S96x8 ![] bcast_S_S96x8),
    StableHlo.TRef.ternary main_call0.v12 main_call0.v11 main_call0.call0.v1 main_call0.call0.v2 (fun p a b => select (broadcastInDim S96x8 ![] bcast_S_S96x8 p) a b),
    StableHlo.binary main_v4 main_v5 main_v6 ((fun a b => concatenate S96x16 1 [⟨S96x8, a⟩, ⟨S96x8, b⟩] concatenates_S96x8_S96x8_S96x16_d1) : (⟨S96x8, .f32⟩ : BufTy).Contents (Elt F) → (⟨S96x8, .f32⟩ : BufTy).Contents (Elt F) → (⟨S96x16, .f32⟩ : BufTy).Contents (Elt F)),
    StableHlo.unary main_arg1 main_v7 ((transpose S16x8 [1, 0] · transposes_S8x16_S16x8_1_0) : (⟨S8x16, .f32⟩ : BufTy).Contents (Elt F) → (⟨S16x8, .f32⟩ : BufTy).Contents (Elt F)),
    StableHlo.binary main_v6 main_v7 main_v8 ((fun l r => Host.dotGeneral dot_S96x16_S16x8_S96x8_1_0_0_1_n_n none l r) : (⟨S96x16, .f32⟩ : BufTy).Contents (Elt F) → (⟨S16x8, .f32⟩ : BufTy).Contents (Elt F) → (⟨S96x8, .f32⟩ : BufTy).Contents (Elt F)),
    StableHlo.unary main_arg2 main_v9 (broadcastInDim S1x8 ![1] bcast_S8_S1x8_1 : (⟨S8, .f32⟩ : BufTy).Contents (Elt F) → (⟨S1x8, .f32⟩ : BufTy).Contents (Elt F)),
    StableHlo.unary main_v9 main_v10 (broadcastInDim S96x8 ![0, 1] bcast_S1x8_S96x8_0_1 : (⟨S1x8, .f32⟩ : BufTy).Contents (Elt F) → (⟨S96x8, .f32⟩ : BufTy).Contents (Elt F)),
    StableHlo.binary main_v8 main_v10 main_v11 (addf : (⟨S96x8, .f32⟩ : BufTy).Contents (Elt F) → (⟨S96x8, .f32⟩ : BufTy).Contents (Elt F) → (⟨S96x8, .f32⟩ : BufTy).Contents (Elt F)) ]

/-- The probabilities of the groups, and the likeliest: `%12` to `%24`. -/
def choice : List (HloOp τ sig (Elt F)) :=
  [ StableHlo.nullary main_cst_1 (constant S_ .f32 0xFF800000#32),
    StableHlo.binary main_v11 main_cst_1 main_v12 ((fun x v => Host.reduce FloatOps.maximumf x v reducesTo_S96x8_S96_d1 h_S_) : (⟨S96x8, .f32⟩ : BufTy).Contents (Elt F) → (⟨S_, .f32⟩ : BufTy).Contents (Elt F) → (⟨S96, .f32⟩ : BufTy).Contents (Elt F)),
    StableHlo.nullary main_cst_2 (constant S_ .f32 0xFF800000#32),
    StableHlo.unary main_cst_2 main_v13 (broadcastInDim S96 ![] bcast_S_S96 : (⟨S_, .f32⟩ : BufTy).Contents (Elt F) → (⟨S96, .f32⟩ : BufTy).Contents (Elt F)),
    StableHlo.binary main_v13 main_v12 main_v14 (maximumf : (⟨S96, .f32⟩ : BufTy).Contents (Elt F) → (⟨S96, .f32⟩ : BufTy).Contents (Elt F) → (⟨S96, .f32⟩ : BufTy).Contents (Elt F)),
    StableHlo.unary main_v14 main_v15 (broadcastInDim S96x1 ![0] bcast_S96_S96x1_0 : (⟨S96, .f32⟩ : BufTy).Contents (Elt F) → (⟨S96x1, .f32⟩ : BufTy).Contents (Elt F)),
    StableHlo.unary main_v15 main_v16 (broadcastInDim S96x8 ![0, 1] bcast_S96x1_S96x8_0_1 : (⟨S96x1, .f32⟩ : BufTy).Contents (Elt F) → (⟨S96x8, .f32⟩ : BufTy).Contents (Elt F)),
    StableHlo.binary main_v11 main_v16 main_v17 (subf : (⟨S96x8, .f32⟩ : BufTy).Contents (Elt F) → (⟨S96x8, .f32⟩ : BufTy).Contents (Elt F) → (⟨S96x8, .f32⟩ : BufTy).Contents (Elt F)),
    StableHlo.unary main_v17 main_v18 (Host.exp : (⟨S96x8, .f32⟩ : BufTy).Contents (Elt F) → (⟨S96x8, .f32⟩ : BufTy).Contents (Elt F)),
    StableHlo.nullary main_cst_3 (constant S_ .f32 0x00000000#32),
    StableHlo.binary main_v18 main_cst_3 main_v19 ((fun x v => Host.reduceAdd x v reducesTo_S96x8_S96_d1 h_S_) : (⟨S96x8, .f32⟩ : BufTy).Contents (Elt F) → (⟨S_, .f32⟩ : BufTy).Contents (Elt F) → (⟨S96, .f32⟩ : BufTy).Contents (Elt F)),
    StableHlo.unary main_v19 main_v20 (broadcastInDim S96x1 ![0] bcast_S96_S96x1_0 : (⟨S96, .f32⟩ : BufTy).Contents (Elt F) → (⟨S96x1, .f32⟩ : BufTy).Contents (Elt F)),
    StableHlo.unary main_v20 main_v21 (broadcastInDim S96x8 ![0, 1] bcast_S96x1_S96x8_0_1 : (⟨S96x1, .f32⟩ : BufTy).Contents (Elt F) → (⟨S96x8, .f32⟩ : BufTy).Contents (Elt F)),
    StableHlo.binary main_v18 main_v21 main_v22 (Host.divf : (⟨S96x8, .f32⟩ : BufTy).Contents (Elt F) → (⟨S96x8, .f32⟩ : BufTy).Contents (Elt F) → (⟨S96x8, .f32⟩ : BufTy).Contents (Elt F)),
    StableHlo.TRef.nullary main_call1.v0 (iotaInDim S96x8 32 1),
    StableHlo.TRef.nullary main_call1.cst (constant S_ .f32 0xFF800000#32),
    StableHlo.TRef.nullary main_call1.c (constantI S_ 32 0#32),
    StableHlo.TRef.quaternary (.of main_v22 : StableHlo.TRef sig ⟨S96x8, .f32⟩) main_call1.v0 main_call1.cst main_call1.c main_call1.v1_0 (fun x y u v j => (Host.argReduce reducer_argmax_f32_i32 x y u v reducesTo_S96x8_S96_d1 h_S_ j).1),
    StableHlo.TRef.quaternary (.of main_v22 : StableHlo.TRef sig ⟨S96x8, .f32⟩) main_call1.v0 main_call1.cst main_call1.c main_call1.v1_1 (fun x y u v j => (Host.argReduce reducer_argmax_f32_i32 x y u v reducesTo_S96x8_S96_d1 h_S_ j).2),
    StableHlo.TRef.unary (.of main_v23 : StableHlo.TRef sig ⟨S96, .i32⟩) main_call2.v0 (broadcastInDim S96x1 ![0] bcast_S96_S96x1_0),
    StableHlo.TRef.nullary main_call2.v1 (iotaInDim S1x8 32 1),
    StableHlo.TRef.unary main_call2.v0 main_call2.v2 (broadcastInDim S96x8 ![0, 1] bcast_S96x1_S96x8_0_1),
    StableHlo.TRef.unary main_call2.v1 main_call2.v3 (broadcastInDim S96x8 ![0, 1] bcast_S1x8_S96x8_0_1),
    StableHlo.TRef.binary main_call2.v2 main_call2.v3 main_call2.v4 (cmpi .eq),
    StableHlo.TRef.unary main_call2.v4 main_call2.v5 (uitofp .f32) ]

/-- The sums of the groups: `%25` to `%46`. -/
def groups : List (HloOp τ sig (Elt F)) :=
  [ StableHlo.nullary main_cst_4 (constant S_ .f32 0x00000000#32),
    StableHlo.binary main_arg0 main_cst_4 main_v25 ((fun x v => Host.reduceAdd x v reducesTo_S8x96x224x224_S8x96_d2_3 h_S_) : (⟨S8x96x224x224, .f32⟩ : BufTy).Contents (Elt F) → (⟨S_, .f32⟩ : BufTy).Contents (Elt F) → (⟨S8x96, .f32⟩ : BufTy).Contents (Elt F)),
    StableHlo.binary main_arg0 main_arg0 main_v26 (mulf : (⟨S8x96x224x224, .f32⟩ : BufTy).Contents (Elt F) → (⟨S8x96x224x224, .f32⟩ : BufTy).Contents (Elt F) → (⟨S8x96x224x224, .f32⟩ : BufTy).Contents (Elt F)),
    StableHlo.nullary main_cst_5 (constant S_ .f32 0x00000000#32),
    StableHlo.binary main_v26 main_cst_5 main_v27 ((fun x v => Host.reduceAdd x v reducesTo_S8x96x224x224_S8x96_d2_3 h_S_) : (⟨S8x96x224x224, .f32⟩ : BufTy).Contents (Elt F) → (⟨S_, .f32⟩ : BufTy).Contents (Elt F) → (⟨S8x96, .f32⟩ : BufTy).Contents (Elt F)),
    StableHlo.binary main_v25 main_v24 main_v28 ((fun l r => Host.dotGeneral dot_S8x96_S96x8_S8x8_1_0_0_1_n_n none l r) : (⟨S8x96, .f32⟩ : BufTy).Contents (Elt F) → (⟨S96x8, .f32⟩ : BufTy).Contents (Elt F) → (⟨S8x8, .f32⟩ : BufTy).Contents (Elt F)),
    StableHlo.binary main_v27 main_v24 main_v29 ((fun l r => Host.dotGeneral dot_S8x96_S96x8_S8x8_1_0_0_1_n_n none l r) : (⟨S8x96, .f32⟩ : BufTy).Contents (Elt F) → (⟨S96x8, .f32⟩ : BufTy).Contents (Elt F) → (⟨S8x8, .f32⟩ : BufTy).Contents (Elt F)),
    StableHlo.nullary main_cst_6 (constant S_ .f32 0x00000000#32),
    StableHlo.binary main_v24 main_cst_6 main_v30 ((fun x v => Host.reduceAdd x v reducesTo_S96x8_S8_d0 h_S_) : (⟨S96x8, .f32⟩ : BufTy).Contents (Elt F) → (⟨S_, .f32⟩ : BufTy).Contents (Elt F) → (⟨S8, .f32⟩ : BufTy).Contents (Elt F)),
    StableHlo.nullary main_cst_7 (constant S_ .f32 0x47440000#32),
    StableHlo.unary main_cst_7 main_v31 (broadcastInDim S8 ![] bcast_S_S8 : (⟨S_, .f32⟩ : BufTy).Contents (Elt F) → (⟨S8, .f32⟩ : BufTy).Contents (Elt F)),
    StableHlo.binary main_v30 main_v31 main_v32 (mulf : (⟨S8, .f32⟩ : BufTy).Contents (Elt F) → (⟨S8, .f32⟩ : BufTy).Contents (Elt F) → (⟨S8, .f32⟩ : BufTy).Contents (Elt F)),
    StableHlo.nullary main_cst_8 (constant S_ .f32 0x3F800000#32),
    StableHlo.unary main_cst_8 main_v33 (broadcastInDim S8 ![] bcast_S_S8 : (⟨S_, .f32⟩ : BufTy).Contents (Elt F) → (⟨S8, .f32⟩ : BufTy).Contents (Elt F)),
    StableHlo.binary main_v32 main_v33 main_v34 (maximumf : (⟨S8, .f32⟩ : BufTy).Contents (Elt F) → (⟨S8, .f32⟩ : BufTy).Contents (Elt F) → (⟨S8, .f32⟩ : BufTy).Contents (Elt F)),
    StableHlo.unary main_v34 main_v35 (broadcastInDim S1x8 ![1] bcast_S8_S1x8_1 : (⟨S8, .f32⟩ : BufTy).Contents (Elt F) → (⟨S1x8, .f32⟩ : BufTy).Contents (Elt F)),
    StableHlo.unary main_v35 main_v36 (broadcastInDim S8x8 ![0, 1] bcast_S1x8_S8x8_0_1 : (⟨S1x8, .f32⟩ : BufTy).Contents (Elt F) → (⟨S8x8, .f32⟩ : BufTy).Contents (Elt F)),
    StableHlo.binary main_v28 main_v36 main_v37 (Host.divf : (⟨S8x8, .f32⟩ : BufTy).Contents (Elt F) → (⟨S8x8, .f32⟩ : BufTy).Contents (Elt F) → (⟨S8x8, .f32⟩ : BufTy).Contents (Elt F)),
    StableHlo.unary main_v32 main_v38 (broadcastInDim S1x8 ![1] bcast_S8_S1x8_1 : (⟨S8, .f32⟩ : BufTy).Contents (Elt F) → (⟨S1x8, .f32⟩ : BufTy).Contents (Elt F)),
    StableHlo.unary main_v38 main_v39 (broadcastInDim S8x8 ![0, 1] bcast_S1x8_S8x8_0_1 : (⟨S1x8, .f32⟩ : BufTy).Contents (Elt F) → (⟨S8x8, .f32⟩ : BufTy).Contents (Elt F)),
    StableHlo.binary main_v39 main_v37 main_v40 (mulf : (⟨S8x8, .f32⟩ : BufTy).Contents (Elt F) → (⟨S8x8, .f32⟩ : BufTy).Contents (Elt F) → (⟨S8x8, .f32⟩ : BufTy).Contents (Elt F)),
    StableHlo.binary main_v40 main_v37 main_v41 (mulf : (⟨S8x8, .f32⟩ : BufTy).Contents (Elt F) → (⟨S8x8, .f32⟩ : BufTy).Contents (Elt F) → (⟨S8x8, .f32⟩ : BufTy).Contents (Elt F)),
    StableHlo.binary main_v29 main_v41 main_v42 (subf : (⟨S8x8, .f32⟩ : BufTy).Contents (Elt F) → (⟨S8x8, .f32⟩ : BufTy).Contents (Elt F) → (⟨S8x8, .f32⟩ : BufTy).Contents (Elt F)),
    StableHlo.nullary main_cst_9 (constant S_ .f32 0x3F800000#32),
    StableHlo.unary main_cst_9 main_v43 (broadcastInDim S8 ![] bcast_S_S8 : (⟨S_, .f32⟩ : BufTy).Contents (Elt F) → (⟨S8, .f32⟩ : BufTy).Contents (Elt F)),
    StableHlo.binary main_v32 main_v43 main_v44 (subf : (⟨S8, .f32⟩ : BufTy).Contents (Elt F) → (⟨S8, .f32⟩ : BufTy).Contents (Elt F) → (⟨S8, .f32⟩ : BufTy).Contents (Elt F)),
    StableHlo.nullary main_cst_10 (constant S_ .f32 0x3F800000#32),
    StableHlo.unary main_cst_10 main_v45 (broadcastInDim S8 ![] bcast_S_S8 : (⟨S_, .f32⟩ : BufTy).Contents (Elt F) → (⟨S8, .f32⟩ : BufTy).Contents (Elt F)),
    StableHlo.binary main_v44 main_v45 main_v46 (maximumf : (⟨S8, .f32⟩ : BufTy).Contents (Elt F) → (⟨S8, .f32⟩ : BufTy).Contents (Elt F) → (⟨S8, .f32⟩ : BufTy).Contents (Elt F)) ]

/-- The groups' variances: `%47` to `%49`. -/
def variance : List (HloOp τ sig (Elt F)) :=
  [ StableHlo.unary main_v46 main_v47 (broadcastInDim S1x8 ![1] bcast_S8_S1x8_1 : (⟨S8, .f32⟩ : BufTy).Contents (Elt F) → (⟨S1x8, .f32⟩ : BufTy).Contents (Elt F)),
    StableHlo.unary main_v47 main_v48 (broadcastInDim S8x8 ![0, 1] bcast_S1x8_S8x8_0_1 : (⟨S1x8, .f32⟩ : BufTy).Contents (Elt F) → (⟨S8x8, .f32⟩ : BufTy).Contents (Elt F)),
    StableHlo.binary main_v42 main_v48 main_v49 (Host.divf : (⟨S8x8, .f32⟩ : BufTy).Contents (Elt F) → (⟨S8x8, .f32⟩ : BufTy).Contents (Elt F) → (⟨S8x8, .f32⟩ : BufTy).Contents (Elt F)) ]

/-- Every channel's mean, that of its group: `%50`. -/
def takeMean : List (HloOp τ sig (Elt F)) :=
  [ StableHlo.TRef.nullary main_call3.c (constantI S_ 32 0#32),
    StableHlo.TRef.unary main_call3.c main_call3.v0 (broadcastInDim S96 ![] bcast_S_S96),
    StableHlo.TRef.binary (.of main_v23 : StableHlo.TRef sig ⟨S96, .i32⟩) main_call3.v0 main_call3.v1 (cmpi .slt),
    StableHlo.TRef.nullary main_call3.c_0 (constantI S_ 32 8#32),
    StableHlo.TRef.unary main_call3.c_0 main_call3.v2 (broadcastInDim S96 ![] bcast_S_S96),
    StableHlo.TRef.binary (.of main_v23 : StableHlo.TRef sig ⟨S96, .i32⟩) main_call3.v2 main_call3.v3 addi,
    StableHlo.TRef.ternary main_call3.v1 main_call3.v3 (.of main_v23 : StableHlo.TRef sig ⟨S96, .i32⟩) main_call3.call0.v0 select,
    StableHlo.TRef.unary main_call3.call0.v0 main_call3.v5 (broadcastInDim S96x1 ![0] bcast_S96_S96x1_0),
    StableHlo.TRef.nullary main_call3.c_1 (constantI S1 32 7#32),
    StableHlo.TRef.nullary main_call3.c_2 (constantI S_ 32 0#32),
    StableHlo.TRef.unary main_call3.c_2 main_call3.v6 (broadcastInDim S96x1 ![] bcast_S_S96x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S96x1 ![0, 1] bcast_S1x1_S96x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S96x1_S96_d1 h_S_),
    StableHlo.TRef.binary (.of main_v37 : StableHlo.TRef sig ⟨S8x8, .f32⟩) main_call3.v5 main_call3.v13 (fun x i => Host.gather gather_S8x8_S96x1_S8x96_0_1_n_n_1_1_81 x i),
    StableHlo.TRef.unary main_call3.v12 main_call3.v14 (broadcastInDim S8x96 ![1] bcast_S96_S8x96_1),
    StableHlo.TRef.nullary main_call3.cst (constant S_ .f32 0x7FC00000#32),
    StableHlo.TRef.unary main_call3.cst main_call3.v15 (broadcastInDim S8x96 ![] bcast_S_S8x96),
    StableHlo.TRef.ternary main_call3.v14 main_call3.v13 main_call3.v15 main_call3.v16 select ]

/-- Every channel's variance, that of its group: `%51`. -/
def takeVar : List (HloOp τ sig (Elt F)) :=
  [ StableHlo.TRef.nullary main_call4.c (constantI S_ 32 0#32),
    StableHlo.TRef.unary main_call4.c main_call4.v0 (broadcastInDim S96 ![] bcast_S_S96),
    StableHlo.TRef.binary (.of main_v23 : StableHlo.TRef sig ⟨S96, .i32⟩) main_call4.v0 main_call4.v1 (cmpi .slt),
    StableHlo.TRef.nullary main_call4.c_0 (constantI S_ 32 8#32),
    StableHlo.TRef.unary main_call4.c_0 main_call4.v2 (broadcastInDim S96 ![] bcast_S_S96),
    StableHlo.TRef.binary (.of main_v23 : StableHlo.TRef sig ⟨S96, .i32⟩) main_call4.v2 main_call4.v3 addi,
    StableHlo.TRef.ternary main_call4.v1 main_call4.v3 (.of main_v23 : StableHlo.TRef sig ⟨S96, .i32⟩) main_call4.call0.v0 select,
    StableHlo.TRef.unary main_call4.call0.v0 main_call4.v5 (broadcastInDim S96x1 ![0] bcast_S96_S96x1_0),
    StableHlo.TRef.nullary main_call4.c_1 (constantI S1 32 7#32),
    StableHlo.TRef.nullary main_call4.c_2 (constantI S_ 32 0#32),
    StableHlo.TRef.unary main_call4.c_2 main_call4.v6 (broadcastInDim S96x1 ![] bcast_S_S96x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S96x1 ![0, 1] bcast_S1x1_S96x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S96x1_S96_d1 h_S_),
    StableHlo.TRef.binary (.of main_v49 : StableHlo.TRef sig ⟨S8x8, .f32⟩) main_call4.v5 main_call4.v13 (fun x i => Host.gather gather_S8x8_S96x1_S8x96_0_1_n_n_1_1_81 x i),
    StableHlo.TRef.unary main_call4.v12 main_call4.v14 (broadcastInDim S8x96 ![1] bcast_S96_S8x96_1),
    StableHlo.TRef.nullary main_call4.cst (constant S_ .f32 0x7FC00000#32),
    StableHlo.TRef.unary main_call4.cst main_call4.v15 (broadcastInDim S8x96 ![] bcast_S_S8x96),
    StableHlo.TRef.ternary main_call4.v14 main_call4.v13 main_call4.v15 main_call4.v16 select ]

/-- The normalized image: `%52` to `%64`. -/
def result : List (HloOp τ sig (Elt F)) :=
  [ StableHlo.unary main_v50 main_v52 (broadcastInDim S8x96x1x1 ![0, 1] bcast_S8x96_S8x96x1x1_0_1 : (⟨S8x96, .f32⟩ : BufTy).Contents (Elt F) → (⟨S8x96x1x1, .f32⟩ : BufTy).Contents (Elt F)),
    StableHlo.unary main_v52 main_v53 (broadcastInDim S8x96x224x224 ![0, 1, 2, 3] bcast_S8x96x1x1_S8x96x224x224_0_1_2_3 : (⟨S8x96x1x1, .f32⟩ : BufTy).Contents (Elt F) → (⟨S8x96x224x224, .f32⟩ : BufTy).Contents (Elt F)),
    StableHlo.binary main_arg0 main_v53 main_v54 (subf : (⟨S8x96x224x224, .f32⟩ : BufTy).Contents (Elt F) → (⟨S8x96x224x224, .f32⟩ : BufTy).Contents (Elt F) → (⟨S8x96x224x224, .f32⟩ : BufTy).Contents (Elt F)),
    StableHlo.unary main_v51 main_v55 (broadcastInDim S8x96x1x1 ![0, 1] bcast_S8x96_S8x96x1x1_0_1 : (⟨S8x96, .f32⟩ : BufTy).Contents (Elt F) → (⟨S8x96x1x1, .f32⟩ : BufTy).Contents (Elt F)),
    StableHlo.nullary main_cst_11 (constant S_ .f32 0x3727C5AC#32),
    StableHlo.unary main_cst_11 main_v56 (broadcastInDim S8x96x1x1 ![] bcast_S_S8x96x1x1 : (⟨S_, .f32⟩ : BufTy).Contents (Elt F) → (⟨S8x96x1x1, .f32⟩ : BufTy).Contents (Elt F)),
    StableHlo.binary main_v55 main_v56 main_v57 (addf : (⟨S8x96x1x1, .f32⟩ : BufTy).Contents (Elt F) → (⟨S8x96x1x1, .f32⟩ : BufTy).Contents (Elt F) → (⟨S8x96x1x1, .f32⟩ : BufTy).Contents (Elt F)),
    StableHlo.unary main_v57 main_v58 (Host.sqrt : (⟨S8x96x1x1, .f32⟩ : BufTy).Contents (Elt F) → (⟨S8x96x1x1, .f32⟩ : BufTy).Contents (Elt F)),
    StableHlo.unary main_v58 main_v59 (broadcastInDim S8x96x224x224 ![0, 1, 2, 3] bcast_S8x96x1x1_S8x96x224x224_0_1_2_3 : (⟨S8x96x1x1, .f32⟩ : BufTy).Contents (Elt F) → (⟨S8x96x224x224, .f32⟩ : BufTy).Contents (Elt F)),
    StableHlo.binary main_v54 main_v59 main_v60 (Host.divf : (⟨S8x96x224x224, .f32⟩ : BufTy).Contents (Elt F) → (⟨S8x96x224x224, .f32⟩ : BufTy).Contents (Elt F) → (⟨S8x96x224x224, .f32⟩ : BufTy).Contents (Elt F)),
    StableHlo.unary main_arg3 main_v61 (broadcastInDim S8x96x224x224 ![0, 1, 2, 3] bcast_S1x96x1x1_S8x96x224x224_0_1_2_3 : (⟨S1x96x1x1, .f32⟩ : BufTy).Contents (Elt F) → (⟨S8x96x224x224, .f32⟩ : BufTy).Contents (Elt F)),
    StableHlo.binary main_v60 main_v61 main_v62 (mulf : (⟨S8x96x224x224, .f32⟩ : BufTy).Contents (Elt F) → (⟨S8x96x224x224, .f32⟩ : BufTy).Contents (Elt F) → (⟨S8x96x224x224, .f32⟩ : BufTy).Contents (Elt F)),
    StableHlo.unary main_arg4 main_v63 (broadcastInDim S8x96x224x224 ![0, 1, 2, 3] bcast_S1x96x1x1_S8x96x224x224_0_1_2_3 : (⟨S1x96x1x1, .f32⟩ : BufTy).Contents (Elt F) → (⟨S8x96x224x224, .f32⟩ : BufTy).Contents (Elt F)),
    StableHlo.binary main_v62 main_v63 main_v64 (addf : (⟨S8x96x224x224, .f32⟩ : BufTy).Contents (Elt F) → (⟨S8x96x224x224, .f32⟩ : BufTy).Contents (Elt F) → (⟨S8x96x224x224, .f32⟩ : BufTy).Contents (Elt F)) ]

/-- All of them. -/
def ops : List (HloOp τ sig (Elt F)) :=
  channel ++ choice ++ groups ++ variance ++ takeMean ++ takeVar ++ result

theorem main_eq (d : Dev nD) : main (F := F) d = StableHlo.seq ops := by
  rfl

/-! What the stretches write, in order. -/

def channelOut : List (Ref sig .tc) := [main_v0, main_v1, main_cst, main_v2, main_cst_0, main_v3, main_v4,
  main_c, main_call0_cst, main_call0_v0, main_call0_v1, main_call0_cst_0, main_call0_v2, main_call0_v3,
  main_call0_v4, main_call0_v5, main_call0_v6, main_call0_v7, main_call0_cst_1, main_call0_v8, main_call0_cst_2,
  main_call0_v9, main_call0_v10, main_call0_v11, main_call0_cst_3, main_call0_v12, main_call0_cst_4, main_call0_call0_v0,
  main_call0_call0_v1, main_v5, main_v6, main_v7, main_v8, main_v9, main_v10, main_v11]
def choiceOut : List (Ref sig .tc) := [main_cst_1, main_v12, main_cst_2, main_v13, main_v14, main_v15,
  main_v16, main_v17, main_v18, main_cst_3, main_v19, main_v20, main_v21, main_v22, main_call1_v0, main_call1_cst,
  main_call1_c, main_call1_v1_0, main_v23, main_call2_v0, main_call2_v1, main_call2_v2, main_call2_v3, main_call2_v4,
  main_v24]
def groupsOut : List (Ref sig .tc) := [main_cst_4, main_v25, main_v26, main_cst_5, main_v27, main_v28,
  main_v29, main_cst_6, main_v30, main_cst_7, main_v31, main_v32, main_cst_8, main_v33, main_v34, main_v35,
  main_v36, main_v37, main_v38, main_v39, main_v40, main_v41, main_v42, main_cst_9, main_v43, main_v44,
  main_cst_10, main_v45, main_v46]
def varianceOut : List (Ref sig .tc) := [main_v47, main_v48, main_v49]
def takeMeanOut : List (Ref sig .tc) := [main_call3_c, main_call3_v0, main_call3_v1, main_call3_c_0, main_call3_v2,
  main_call3_v3, main_call3_v4, main_call3_v5, main_call3_c_1, main_call3_c_2, main_call3_v6, main_call3_v7,
  main_call3_v8, main_call3_v9, main_call3_v10, main_call3_v11, main_call3_c_3, main_call3_v12, main_call3_v13,
  main_call3_v14, main_call3_cst, main_call3_v15, main_v50]
def takeVarOut : List (Ref sig .tc) := [main_call4_c, main_call4_v0, main_call4_v1, main_call4_c_0, main_call4_v2,
  main_call4_v3, main_call4_v4, main_call4_v5, main_call4_c_1, main_call4_c_2, main_call4_v6, main_call4_v7,
  main_call4_v8, main_call4_v9, main_call4_v10, main_call4_v11, main_call4_c_3, main_call4_v12, main_call4_v13,
  main_call4_v14, main_call4_cst, main_call4_v15, main_v51]
def resultOut : List (Ref sig .tc) := [main_v52, main_v53, main_v54, main_v55, main_cst_11, main_v56,
  main_v57, main_v58, main_v59, main_v60, main_v61, main_v62, main_v63, main_v64]

theorem channel_kept (W : Valuation τ sig (Elt F)) {r : Ref sig .tc} (h : r ∉ channelOut) :
    StableHlo.after channel W (Proc.devRef .tc r) = W (Proc.devRef .tc r) :=
  StableHlo.after_of_writes_sub channel W (StableHlo.forall_writes_sub_of_map (W := channelOut) rfl) h

theorem choice_kept (W : Valuation τ sig (Elt F)) {r : Ref sig .tc} (h : r ∉ choiceOut) :
    StableHlo.after choice W (Proc.devRef .tc r) = W (Proc.devRef .tc r) :=
  StableHlo.after_of_writes_sub choice W (StableHlo.forall_writes_sub_of_map (W := choiceOut) rfl) h

theorem groups_kept (W : Valuation τ sig (Elt F)) {r : Ref sig .tc} (h : r ∉ groupsOut) :
    StableHlo.after groups W (Proc.devRef .tc r) = W (Proc.devRef .tc r) :=
  StableHlo.after_of_writes_sub groups W (StableHlo.forall_writes_sub_of_map (W := groupsOut) rfl) h

theorem variance_kept (W : Valuation τ sig (Elt F)) {r : Ref sig .tc} (h : r ∉ varianceOut) :
    StableHlo.after variance W (Proc.devRef .tc r) = W (Proc.devRef .tc r) :=
  StableHlo.after_of_writes_sub variance W (StableHlo.forall_writes_sub_of_map (W := varianceOut) rfl) h

theorem takeMean_kept (W : Valuation τ sig (Elt F)) {r : Ref sig .tc} (h : r ∉ takeMeanOut) :
    StableHlo.after takeMean W (Proc.devRef .tc r) = W (Proc.devRef .tc r) :=
  StableHlo.after_of_writes_sub takeMean W (StableHlo.forall_writes_sub_of_map (W := takeMeanOut) rfl) h

theorem takeVar_kept (W : Valuation τ sig (Elt F)) {r : Ref sig .tc} (h : r ∉ takeVarOut) :
    StableHlo.after takeVar W (Proc.devRef .tc r) = W (Proc.devRef .tc r) :=
  StableHlo.after_of_writes_sub takeVar W (StableHlo.forall_writes_sub_of_map (W := takeVarOut) rfl) h

theorem result_kept (W : Valuation τ sig (Elt F)) {r : Ref sig .tc} (h : r ∉ resultOut) :
    StableHlo.after result W (Proc.devRef .tc r) = W (Proc.devRef .tc r) :=
  StableHlo.after_of_writes_sub result W (StableHlo.forall_writes_sub_of_map (W := resultOut) rfl) h

/-- The operations touch references of the TensorCore only. -/
theorem ops_sub : (ops : List (HloOp τ sig (Elt F))).Forall fun op => op.bufs ⊆ StableHlo.tcRefs τ sig := by
  simp only [ops, channel, choice, groups, variance, takeMean, takeVar, result, List.cons_append, List.nil_append, List.forall_cons, List.Forall, StableHlo.TRef.nullary, StableHlo.TRef.unary,
    StableHlo.TRef.binary, StableHlo.TRef.ternary, StableHlo.TRef.quaternary, StableHlo.reshape_bufs_sub, StableHlo.nullary_bufs_sub,
    StableHlo.unary_bufs_sub, StableHlo.binary_bufs_sub, StableHlo.ternary_bufs_sub, StableHlo.quaternary_bufs_sub, and_true]

/-- Each of them determines its results. -/
theorem ops_fresh : ∀ op ∈ (ops : List (HloOp τ sig (Elt F))), op.fresh = ∅ :=
  List.forall_iff_forall_mem.1 (StableHlo.forall_fresh_of_map (ops := ops) rfl)

/-- What is left at the end, over the launch's memory. -/
def final (m : (ℓ : Loc nD τ sig) → Buf (Elt F) ℓ) (d : Dev nD) : Valuation τ sig (Elt F) :=
  StableHlo.after ops (StableHlo.launchContents m d)

/-- The run: every value at the fold of the operations. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = final m d (Proc.devRef .tc b) :=
  StableHlo.run_seq (by decide) (by decide) defs main (fun _ => ops) main_eq (fun _ => ops_sub) m ρ (fun _ => ops_fresh)

/-- A value no operation writes. -/
theorem final_kept (m : (ℓ : Loc nD τ sig) → Buf (Elt F) ℓ) (d : Dev nD) {r : Ref sig .tc}
    (h : r ∉ channelOut ++ choiceOut ++ groupsOut ++ varianceOut ++ takeMeanOut ++ takeVarOut ++ resultOut) : final m d (Proc.devRef .tc r) = m (d, Proc.devRef .tc r) := by
  simp only [List.mem_append, not_or] at h
  obtain ⟨⟨⟨⟨⟨⟨h1, h2⟩, h3⟩, h4⟩, h5⟩, h6⟩, h7⟩ := h
  simp only [final, ops, StableHlo.after_append]
  rw [result_kept _ h7, takeVar_kept _ h6, takeMean_kept _ h5, variance_kept _ h4, groups_kept _ h3, choice_kept _ h2, channel_kept _ h1]

/-- The arguments are among those. -/
theorem arguments_kept (m : (ℓ : Loc nD τ sig) → Buf (Elt F) ℓ) (d : Dev nD) {mem : (ℓ : Loc nD τ sig) → Buf (Elt F) ℓ}
    (h : ∀ b : Ref sig .tc, mem ((d.tc : Thread nD τ).loc b) = final m d (Proc.devRef .tc b)) :
    mem ((d.tc : Thread nD τ).loc main_arg0) = m ((d.tc : Thread nD τ).loc main_arg0)
      ∧ mem ((d.tc : Thread nD τ).loc main_arg1) = m ((d.tc : Thread nD τ).loc main_arg1)
      ∧ mem ((d.tc : Thread nD τ).loc main_arg2) = m ((d.tc : Thread nD τ).loc main_arg2)
      ∧ mem ((d.tc : Thread nD τ).loc main_arg3) = m ((d.tc : Thread nD τ).loc main_arg3)
      ∧ mem ((d.tc : Thread nD τ).loc main_arg4) = m ((d.tc : Thread nD τ).loc main_arg4) :=
  ⟨(h main_arg0).trans (final_kept m d (r := main_arg0) (by decide)), (h main_arg1).trans (final_kept m d (r := main_arg1) (by decide)),
    (h main_arg2).trans (final_kept m d (r := main_arg2) (by decide)), (h main_arg3).trans (final_kept m d (r := main_arg3) (by decide)),
    (h main_arg4).trans (final_kept m d (r := main_arg4) (by decide))⟩

end Cert.ReferenceIdeal.Run

end
-- ==== Proof.Consts.lean ====
module

public import Idealize.ShloMosaic.Lib.IdealHost
public import Mathlib.Tactic.Field
public import Mathlib.Tactic.Ring
public import Mathlib.Tactic.Linarith

@[expose] public section

/-!
# Constants and operations on extended reals that are real

What the constants' bits denote, and what the operations give on real operands.
-/

noncomputable section

namespace Cert.Real

open Idealize.ShloMosaic

/-- What is added to a variance before its root. -/
def eps : ℝ := 10995116 / 2 ^ 40

theorem eps_pos : 0 < eps := by unfold eps; norm_num

theorem bits_hw : Ideal.ofBits .f32 0x47440000#32 = ((50176 : ℝ) : EReal) := by
  simp [Ideal.ofBits, Ideal.ieee, -EReal.coe_mul]; norm_num

theorem bits_hw1 : Ideal.ofBits .f32 0x4743FF00#32 = ((50175 : ℝ) : EReal) := by
  simp [Ideal.ofBits, Ideal.ieee, -EReal.coe_mul]; norm_num

theorem bits_one : Ideal.ofBits .f32 0x3F800000#32 = ((1 : ℝ) : EReal) := by
  simp [Ideal.ofBits, Ideal.ieee, -EReal.coe_mul]; norm_num

theorem bits_eps : Ideal.ofBits .f32 0x3727C5AC#32 = ((eps : ℝ) : EReal) := by
  simp [Ideal.ofBits, Ideal.ieee, -EReal.coe_mul, eps]; norm_num

theorem bits_lowest : Ideal.ofBits .f32 0xFF800000#32 = ⊥ := by
  simp [Ideal.ofBits, Ideal.ieee]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe (a b : ℝ) (hb : b ≠ 0) : Ideal.div (a : EReal) (b : EReal) = ((a * b⁻¹ : ℝ) : EReal) := by
  have : ((b : ℝ) : EReal) ≠ 0 := by exact_mod_cast hb
  rw [Ideal.div, if_neg this, ← EReal.coe_inv, ← EReal.coe_mul]

theorem sqrt_coe (a : ℝ) (ha : 0 ≤ a) : Ideal.sqrt (a : EReal) = ((Real.sqrt a : ℝ) : EReal) := by
  show (if a < 0 then (⊥ : EReal) else ((Real.sqrt a : ℝ) : EReal)) = _
  rw [if_neg (not_lt.2 ha)]

theorem rsqrt_coe (a : ℝ) (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.2 ha.le), if_neg ha.ne']

theorem max_coe (a b : ℝ) : max (a : EReal) (b : EReal) = ((max a b : ℝ) : EReal) := by
  rcases le_total a b with h | h
  · rw [max_eq_right h, max_eq_right (by exact_mod_cast h)]
  · rw [max_eq_left h, max_eq_left (by exact_mod_cast h)]

end Cert.Real

end
-- ==== Proof.Maths.lean ====
module
public import proofs.«01_k».proof.Proof.Consts
public import Mathlib.Tactic.Field
public import Mathlib.Tactic.Ring
public import Mathlib.Tactic.Linarith
public import Mathlib.Tactic.Positivity
@[expose] public section

/-!
# The mathematics both sides compute

Everything here is about real numbers, but for a bias, which may be infinite: the sums of one sample's channel, its mean and variance, the score of a channel
for every group, the first group of the largest score, and the statistics of a group.
-/

noncomputable section

namespace Cert.Maths

open Finset

/-- `k` is the first place at which the list is largest. -/
def IsFirstMax {α : Type} [LinearOrder α] (l : Fin 8 → α) (k : Fin 8) : Prop := (∀ j, l j ≤ l k) ∧ ∀ j, j < k → l j < l k

theorem IsFirstMax.unique {α : Type} [LinearOrder α] {l : Fin 8 → α} {a b : Fin 8} (ha : IsFirstMax l a) (hb : IsFirstMax l b) : a = b := by
  rcases lt_trichotomy a b with h | h | h
  · exact absurd (hb.2 a h) (not_lt.2 (ha.1 b))
  · exact h
  · exact absurd (ha.2 b h) (not_lt.2 (hb.1 a))

/-- A strictly increasing rescaling of the list keeps its first largest place. -/
theorem IsFirstMax.of_le_iff {α β : Type} [LinearOrder α] [LinearOrder β] {l : Fin 8 → α} {p : Fin 8 → β} {k : Fin 8} (h : ∀ i j, p i ≤ p j ↔ l i ≤ l j) (hp : IsFirstMax p k) :
    IsFirstMax l k :=
  ⟨fun j => (h j k).1 (hp.1 j), fun j hj => lt_of_not_ge fun hc => absurd ((h k j).2 hc) (not_le.2 (hp.2 j hj))⟩

/-- Every list has one. -/
theorem exists_firstMax {α : Type} [LinearOrder α] (l : Fin 8 → α) : ∃ k, IsFirstMax l k := by
  obtain ⟨m, -, hm⟩ := Finset.exists_max_image univ l ⟨0, mem_univ _⟩
  have hne : (univ.filter fun k => ∀ j, l j ≤ l k).Nonempty := ⟨m, mem_filter.2 ⟨mem_univ _, fun j => hm j (mem_univ _)⟩⟩
  have hk := (mem_filter.1 (min'_mem _ hne)).2
  refine ⟨_, hk, fun j hj => lt_of_not_ge fun hc => absurd (min'_le _ j (mem_filter.2 ⟨mem_univ _, fun i => (hk i).trans hc⟩)) (not_le.2 hj)⟩

section stats

variable (x : Fin 8 → Fin 96 → Fin 224 → Fin 224 → ℝ)

/-- The sum of one sample's channel. -/
def sumX (n : Fin 8) (c : Fin 96) : ℝ := ∑ h, ∑ w, x n c h w

/-- The sum of the squares of one sample's channel. -/
def sumQ (n : Fin 8) (c : Fin 96) : ℝ := ∑ h, ∑ w, x n c h w * x n c h w

def mean (n : Fin 8) (c : Fin 96) : ℝ := sumX x n c * (50176)⁻¹

def var (n : Fin 8) (c : Fin 96) : ℝ := (sumQ x n c - mean x n c * mean x n c * 50176) * (50175)⁻¹

/-- The variance about the mean, written as the sum of the squared deviations. -/
theorem sum_dev (n : Fin 8) (c : Fin 96) :
    (∑ h, ∑ w, (x n c h w - mean x n c) * (x n c h w - mean x n c)) * (50175)⁻¹ = var x n c := by
  have e : ∀ h w, (x n c h w - mean x n c) * (x n c h w - mean x n c)
      = x n c h w * x n c h w - 2 * mean x n c * x n c h w + mean x n c * mean x n c := fun h w => by ring
  have hs : sumX x n c = mean x n c * 50176 := by unfold mean; ring
  simp only [e, Finset.sum_add_distrib, Finset.sum_sub_distrib, ← Finset.mul_sum]
  change (sumQ x n c - 2 * mean x n c * sumX x n c + _) * _ = _
  rw [hs]
  simp only [Finset.sum_const, Finset.card_univ, Fintype.card_fin, nsmul_eq_mul, var]
  push_cast
  ring

variable (fw : Fin 8 → Fin 16 → ℝ) (fb : Fin 8 → EReal)

/-- The score of channel `c` for group `k`, before the bias. -/
def score (c : Fin 96) (k : Fin 8) : ℝ :=
  (∑ n : Fin 8, mean x n c * fw k ⟨n, by omega⟩) + (∑ n : Fin 8, var x n c * fw k ⟨8 + n, by omega⟩)

/-- The score of channel `c` for group `k`. -/
def logit (c : Fin 96) (k : Fin 8) : EReal := (score x fw c k : EReal) + fb k

variable (g : Fin 96 → Fin 8)

def gS (k n : Fin 8) : ℝ := ∑ c, if g c = k then sumX x n c else 0

def gQ (k n : Fin 8) : ℝ := ∑ c, if g c = k then sumQ x n c else 0

def gN (k : Fin 8) : ℝ := (∑ c, if g c = k then (1 : ℝ) else 0) * 50176

def gmean (k n : Fin 8) : ℝ := gS x g k n / max (gN g k) 1

def gvar (k n : Fin 8) : ℝ :=
  (gQ x g k n - gN g k * gmean x g k n * gmean x g k n) / max (gN g k - 1) 1

section
variable {g} {g' : Fin 96 → Fin 8} (h : ∀ c c', g c = g c' ↔ g' c = g' c') (n : Fin 8) (c : Fin 96)
include h

/-- A group's statistics are those of its channels, whatever its number. -/
theorem gN_congr : gN g (g c) = gN g' (g' c) := by
  unfold gN
  exact congrArg (· * _) (Finset.sum_congr rfl fun d _ => if_congr (h d c) rfl rfl)

theorem gmean_congr : gmean x g (g c) n = gmean x g' (g' c) n := by
  unfold gmean
  rw [gN_congr h c]
  exact congrArg (· / _) (Finset.sum_congr rfl fun d _ => if_congr (h d c) rfl rfl)

theorem gvar_congr : gvar x g (g c) n = gvar x g' (g' c) n := by
  unfold gvar
  rw [gN_congr h c, gmean_congr x h n c]
  exact congrArg (fun q => (q - _) / _) (Finset.sum_congr rfl fun d _ => if_congr (h d c) rfl rfl)
end

theorem one_le_gN {k : Fin 8} {c : Fin 96} (h : g c = k) : 1 ≤ gN g k := by
  have : (1 : ℝ) ≤ ∑ c, if g c = k then (1 : ℝ) else 0 := by
    refine le_trans ?_ (Finset.single_le_sum (f := fun c => if g c = k then (1 : ℝ) else 0) (fun i _ => ?_)
      (Finset.mem_univ c))
    · simp [h]
    · split <;> norm_num
  unfold gN; nlinarith

/-- The squared deviations of a group about any value add up to this, which is therefore not negative. -/
theorem dev_nonneg (k n : Fin 8) (m : ℝ) : 0 ≤ gQ x g k n - 2 * m * gS x g k n + m * m * gN g k := by
  have e : gQ x g k n - 2 * m * gS x g k n + m * m * gN g k
      = ∑ c, if g c = k then ∑ h, ∑ w, (x n c h w - m) * (x n c h w - m) else 0 := by
    unfold gQ gS gN
    rw [Finset.mul_sum, ← mul_assoc, mul_right_comm, Finset.mul_sum, ← Finset.sum_sub_distrib,
      ← Finset.sum_add_distrib]
    refine Finset.sum_congr rfl fun c _ => ?_
    split
    · have e : ∀ h w, (x n c h w - m) * (x n c h w - m)
          = x n c h w * x n c h w - 2 * m * x n c h w + m * m := fun h w => by ring
      simp only [e, Finset.sum_add_distrib, Finset.sum_sub_distrib, ← Finset.mul_sum, Finset.sum_const,
        Finset.card_univ, Fintype.card_fin, nsmul_eq_mul]
      unfold sumQ sumX
      push_cast
      ring
    · ring
  rw [e]
  refine Finset.sum_nonneg fun c _ => ?_
  split
  · exact Finset.sum_nonneg fun h _ => Finset.sum_nonneg fun w _ => mul_self_nonneg _
  · exact le_rfl

/-- The variance of a group that has a channel is not negative. -/
theorem gvar_nonneg (n : Fin 8) (c : Fin 96) : 0 ≤ gvar x g (g c) n := by
  have h1 := one_le_gN g (k := g c) rfl
  have h2 := dev_nonneg x g (g c) n (gS x g (g c) n / gN g (g c))
  unfold gvar gmean
  rw [max_eq_left h1]
  refine div_nonneg ?_ (le_trans zero_le_one (le_max_right _ _))
  have h0 : 0 < gN g (g c) := by linarith
  have : gS x g (g c) n = gN g (g c) * (gS x g (g c) n / gN g (g c)) := by field_simp
  generalize gS x g (g c) n / gN g (g c) = m at *
  rw [this] at h2
  linarith

end stats

/-- Scaling and shifting an element is normalizing it, whatever the bias is. -/
theorem normalize (x w m a : ℝ) (b : EReal) (_ha : 0 < a) :
    (x : EReal) * ((w * (Real.sqrt a)⁻¹ : ℝ) : EReal) + (b - ((m * (w * (Real.sqrt a)⁻¹) : ℝ) : EReal))
      = (((x - m) * (Real.sqrt a)⁻¹ * w : ℝ) : EReal) + b := by
  have h : (x - m) * (Real.sqrt a)⁻¹ * w = x * (w * (Real.sqrt a)⁻¹) + -(m * (w * (Real.sqrt a)⁻¹)) := by ring
  rw [h, EReal.coe_add, ← EReal.coe_mul, sub_eq_add_neg, ← EReal.coe_neg, add_assoc, add_comm b]

end Cert.Maths
end
end
-- ==== Proof.Sums.lean ====
module

public import proofs.«01_k».proof.Proof.Maths
public import Idealize.ShloMosaic.Lib.Pointwise.Reduce
public import Idealize.ShloMosaic.Lib.Pointwise.Tactic

@[expose] public section

/-!
# Sums over a channel's positions

The positions in one row, and a sum over the last two axes of an array, are sums over rows and columns.
-/

noncomputable section

namespace Cert.Sums

open Idealize.ShloMosaic

/-- A sum over 50176 positions in one row is one over 224 rows of 224. -/
theorem sum_positions {M : Type} [AddCommMonoid M] (f : Fin 224 → Fin 224 → M) :
    ∑ k : Fin 50176, f ⟨k / 224, by omega⟩ ⟨k % 224, by omega⟩ = ∑ h, ∑ w, f h w := by
  rw [← Finset.sum_product', Finset.univ_product_univ]
  refine Fintype.sum_equiv (finProdFinEquiv (m := 224) (n := 224)).symm _ _ fun k => ?_
  rfl

/-- The host's sum over the last two axes of an array of four. -/
theorem host_sum {n0 n1 n2 n3 : ℕ} (h : (⟨4, ![n0, n1, n2, n3]⟩ : Shape).ReducesTo [2, 3] ⟨2, ![n0, n1]⟩)
    (v : (⟨4, ![n0, n1, n2, n3]⟩ : Shape).Idx → EReal) (init : EReal) (a : Fin n0) (b : Fin n1) :
    Ideal.hostReduceAdd h v init (ix2 a b) = init + ∑ c, ∑ d, v (ix4 a b c d) := by
  unfold Ideal.hostReduceAdd
  congr 1
  rw [← Finset.sum_product', Finset.univ_product_univ]
  refine Finset.sum_nbij' (fun i => ((i 2 : Fin n2), (i 3 : Fin n3))) (fun q => ix4 a b q.1 q.2) ?_ ?_ ?_ ?_ ?_
  · exact fun _ _ => Finset.mem_univ _
  · intro q _
    refine Finset.mem_filter.2 ⟨Finset.mem_univ _, funext fun x => Fin.ext ?_⟩
    match x with
    | ⟨0, _⟩ => rfl
    | ⟨1, _⟩ => rfl
  · intro i hi
    have e := (Finset.mem_filter.1 hi).2
    funext x
    apply Fin.ext
    match x with
    | ⟨0, _⟩ => exact (congrArg Fin.val (congrFun e 0)).symm
    | ⟨1, _⟩ => exact (congrArg Fin.val (congrFun e 1)).symm
    | ⟨2, _⟩ => rfl
    | ⟨3, _⟩ => rfl
  · intro q _; rfl
  · intro i hi
    have e := (Finset.mem_filter.1 hi).2
    refine congrArg v (funext fun x => Fin.ext ?_)
    match x with
    | ⟨0, _⟩ => exact congrArg Fin.val (congrFun e 0)
    | ⟨1, _⟩ => exact congrArg Fin.val (congrFun e 1)
    | ⟨2, _⟩ => rfl
    | ⟨3, _⟩ => rfl

/-- A kernel's sum over the last two axes of an array of three. -/
theorem kernel_sum {n0 n1 n2 : ℕ} (h : (⟨3, ![n0, n1, n2]⟩ : Shape).Reduces [1, 2] ⟨1, ![n0]⟩)
    (v : (⟨3, ![n0, n1, n2]⟩ : Shape).Idx → EReal) (a : Fin n0) :
    Ideal.reduceAdd h v (ix1 a) = ∑ c, ∑ d, v (ix3 a c d) := by
  unfold Ideal.reduceAdd
  rw [← Finset.sum_product', Finset.univ_product_univ]
  refine Finset.sum_nbij' (fun i => ((i 1 : Fin n1), (i 2 : Fin n2))) (fun q => ix3 a q.1 q.2) ?_ ?_ ?_ ?_ ?_
  · exact fun _ _ => Finset.mem_univ _
  · intro q _
    refine Finset.mem_filter.2 ⟨Finset.mem_univ _, funext fun x => Fin.ext ?_⟩
    match x with
    | ⟨0, _⟩ => rfl
  · intro i hi
    have e := (Finset.mem_filter.1 hi).2
    funext x
    apply Fin.ext
    match x with
    | ⟨0, _⟩ => exact (congrArg Fin.val (congrFun e 0)).symm
    | ⟨1, _⟩ => rfl
    | ⟨2, _⟩ => rfl
  · intro q _; rfl
  · intro i hi
    have e := (Finset.mem_filter.1 hi).2
    refine congrArg v (funext fun x => Fin.ext ?_)
    match x with
    | ⟨0, _⟩ => exact congrArg Fin.val (congrFun e 0)
    | ⟨1, _⟩ => rfl
    | ⟨2, _⟩ => rfl

end Cert.Sums

end
-- ==== Proof.TensorCalls.lean ====
module

public import proofs.«01_k».proof.Proof.Regions
public import proofs.«01_k».proof.Proof.Sums
public import Idealize.ShloMosaic.Lib.Pipeline.ValueKit
public import Idealize.ShloMosaic.Lib.Pointwise.Tactic
public import Idealize.ShloMosaic.Lib.Pointwise.Reduce
public import Idealize.ShloMosaic.Lib.Pointwise.Reshape

@[expose] public section

/-!
# The two TensorCore calls' results

The first call leaves each channel's sum and sum of squares; the last a scale times the input plus a shift.
-/

noncomputable section

namespace Cert.KernelIdeal.Run

open Cert.KernelIdeal Cert.KernelIdeal.Gen
open Idealize.ShloMosaic
open Idealize.ShloMosaic.TcCoe
open Idealize.ShloMosaic.SparseCore.Cfg (HIx)
open Idealize.SL Idealize.SL.Sem

variable (V : Vals Ideal) (O : Dev nD → CellTallies nD τ sig (HIx 1)) (b : ℕ)

/-- Where each window's block lies at a point: its image and its half of the channels. -/
theorem index0_0 : ∀ t : Fin cfg0.N, win0_0.index t = ![t.val / 2, t.val % 2, 0, 0] := (by decide +kernel : ∀ t : Fin grid0.N, _)
theorem index0_1 : ∀ t : Fin cfg0.N, win0_1.index t = ![t.val, 0] := (by decide +kernel : ∀ t : Fin grid0.N, _)
theorem index0_2 : ∀ t : Fin cfg0.N, win0_2.index t = ![t.val, 0] := (by decide +kernel : ∀ t : Fin grid0.N, _)

theorem pay2_apply (v : S1x48x224x224.Idx → EReal) (a : Fin 48) :
    k0_pay2 (F := Ideal) v (ix2 a 0) = ∑ h : Fin 224, ∑ w : Fin 224, v (ix4 0 a h w) := by
  unfold_payloads
  pointwise

theorem pay3_apply (v : S1x48x224x224.Idx → EReal) (a : Fin 48) :
    k0_pay3 (F := Ideal) v (ix2 a 0) = ∑ h : Fin 224, ∑ w : Fin 224, v (ix4 0 a h w) * v (ix4 0 a h w) := by
  unfold_payloads
  pointwise

/-- Per image and channel, the sum of a function over its positions; images and channels on one axis. -/
def sums (X : S8x96x224x224.Idx → EReal) : S768x1.Idx → EReal := fun i =>
  ∑ h : Fin 224, ∑ w : Fin 224, X (ix4 ⟨(i 0).val / 96, by have := (i 0).isLt; change (i 0).val < 768 at this; omega⟩ ⟨(i 0).val % 96, Nat.mod_lt _ (by decide)⟩ h w)

theorem out0_1_eq (c : Dev nD) : out0_1 V O b c = sums (V c main_arg0) := by
  refine (dat0 V O b c).arrAt_eq_of_covers 1 (sums (V c main_arg0)) (by decide +kernel) fun t hf y => ?_
  blk_simp
  show k0_pay2 (blk0 V c t) y = _
  obtain ⟨a, rfl⟩ : ∃ a : Fin 48, y = ix2 a 0 := ⟨y 0, by funext x; match x with | ⟨0, _⟩ => rfl | ⟨1, _⟩ => exact Subsingleton.elim (α := Fin 1) _ _⟩
  refine (pay2_apply _ a).trans (Finset.sum_congr rfl fun h _ => Finset.sum_congr rfl fun w _ => ?_)
  have ht : t.val < 16 := t.isLt
  blk_ext! [blk0, index0_0, index0_1]

/-- Each element's square. -/
def sq (X : S8x96x224x224.Idx → EReal) : S8x96x224x224.Idx → EReal := fun i => X i * X i

theorem out0_2_eq (c : Dev nD) : out0_2 V O b c = sums (sq (V c main_arg0)) := by
  refine (dat0 V O b c).arrAt_eq_of_covers 2 (sums (sq (V c main_arg0))) (by decide +kernel) fun t hf y => ?_
  blk_simp
  show k0_pay3 (blk0 V c t) y = _
  obtain ⟨a, rfl⟩ : ∃ a : Fin 48, y = ix2 a 0 := ⟨y 0, by funext x; match x with | ⟨0, _⟩ => rfl | ⟨1, _⟩ => exact Subsingleton.elim (α := Fin 1) _ _⟩
  refine (pay3_apply _ a).trans (Finset.sum_congr rfl fun h _ => Finset.sum_congr rfl fun w _ => ?_)
  have ht : t.val < 16 := t.isLt
  refine congrArg (fun v : EReal => v * v) ?_
  blk_ext! [blk0, index0_0, index0_2]

theorem index2_0 : ∀ t : Fin cfg2.N, win2_0.index t = ![t.val / 2, t.val % 2, 0, 0] := (by decide +kernel : ∀ t : Fin grid2.N, _)
theorem index2_1 : ∀ t : Fin cfg2.N, win2_1.index t = ![t.val, 0] := (by decide +kernel : ∀ t : Fin grid2.N, _)
theorem index2_2 : ∀ t : Fin cfg2.N, win2_2.index t = ![t.val, 0] := (by decide +kernel : ∀ t : Fin grid2.N, _)
theorem index2_3 : ∀ t : Fin cfg2.N, win2_3.index t = ![t.val / 2, t.val % 2, 0, 0] := (by decide +kernel : ∀ t : Fin grid2.N, _)

theorem pay1_apply (x : S1x48x224x224.Idx → EReal) (s t : S48x1.Idx → EReal) (a : Fin 48) (h w : Fin 224) :
    k2_pay1 (F := Ideal) x s t (ix4 0 a h w) = x (ix4 0 a h w) * s (ix2 a 0) + t (ix2 a 0) := by
  unfold_payloads
  pointwise

/-- Per image and channel one scale and one shift, on every position. -/
def scaled (X : S8x96x224x224.Idx → EReal) (A B : S768x1.Idx → EReal) : S8x96x224x224.Idx → EReal := fun i =>
  X i * A (ix2 ⟨(i 0).val * 96 + (i 1).val, by have := (i 0).isLt; have h := (i 1).isLt; change (i 0).val < 8 at this; change (i 1).val < 96 at h; omega⟩ 0)
    + B (ix2 ⟨(i 0).val * 96 + (i 1).val, by have := (i 0).isLt; have h := (i 1).isLt; change (i 0).val < 8 at this; change (i 1).val < 96 at h; omega⟩ 0)

theorem out2_3_eq (c : Dev nD) : out2_3 V O b c = scaled (V c main_arg0) (V c main_v23) (V c main_v27) := by
  refine (dat2 V O b c).arrAt_eq_of_covers 3 (scaled (V c main_arg0) (V c main_v23) (V c main_v27)) (by decide +kernel) fun t hf y => ?_
  blk_simp
  show k2_pay1 (blk2x V c t) (blk2a V c t) (blk2b V c t) y = _
  obtain ⟨a, h, w, rfl⟩ : ∃ (a : Fin 48) (h w : Fin 224), y = ix4 0 a h w := ⟨y 1, y 2, y 3, by
    funext x; match x with | ⟨0, _⟩ => exact Subsingleton.elim (α := Fin 1) _ _ | ⟨1, _⟩ => rfl | ⟨2, _⟩ => rfl | ⟨3, _⟩ => rfl⟩
  have ht : t.val < 16 := t.isLt
  refine (pay1_apply _ _ _ a h w).trans ?_
  refine congrArg₂ (fun u v : EReal => u + v) (congrArg₂ (fun u v : EReal => u * v) ?_ ?_) ?_
  · blk_ext! [blk2x, index2_0, index2_3]
  · blk_ext! [blk2a, index2_1, index2_3]
  · blk_ext! [blk2b, index2_2, index2_3]

end Cert.KernelIdeal.Run

end
-- ==== Proof.Pack.lean ====
module

public import proofs.«01_k».proof.Proof.Host
public import Idealize.ShloMosaic.Lib.StableHlo.RunRead
public import Idealize.ShloMosaic.PureOps.Ideal
public import Idealize.ShloMosaic.Lib.Pointwise.Tactic
public import Idealize.ShloMosaic.Lib.Pointwise.Reshape
public import Idealize.ShloMosaic.Lib.Pointwise.Select

@[expose] public section

/-!
# The SparseCore call's operand, entry by entry

One row of 4944 words: the groups' weights and biases, the layer's weights and biases, and the statistics three ways
round: by channel with a lane per image (the sums with a lane of ones, then the sums of squares), and by image.
-/

noncomputable section

namespace Cert.KernelIdeal.Run

open Cert.KernelIdeal Cert.KernelIdeal.Gen
open Idealize.ShloMosaic
open Idealize.ShloMosaic.TcCoe
open Idealize.SL.Sem

variable (W : Valuation τ sig (Elt Ideal))

abbrev zero : FVec Ideal S_ .f32 := constant S_ .f32 0x00000000#32
abbrev one : FVec Ideal S_ .f32 := constant S_ .f32 0x3F800000#32

/-- The sums by channel: eight images, a one, zeros. -/
def sumsT (s : FVec Ideal S768x1 .f32) : FVec Ideal S96x16 .f32 :=
  concatenate S96x16 1 [⟨S96x8, transpose S96x8 [1, 0] (shapeCast S8x96 s shapeCasts_S768x1_S8x96) transposes_S8x96_S96x8_1_0⟩,
    ⟨S96x1, broadcastInDim S96x1 ![] bcast_S_S96x1 one⟩, ⟨S96x7, broadcastInDim S96x7 ![] bcast_S_S96x7 zero⟩]
    concatenates_S96x8_S96x1_S96x7_S96x16_d1

/-- The sums of squares by channel: eight images, zeros. -/
def squaresT (q : FVec Ideal S768x1 .f32) : FVec Ideal S96x16 .f32 :=
  concatenate S96x16 1 [⟨S96x8, transpose S96x8 [1, 0] (shapeCast S8x96 q shapeCasts_S768x1_S8x96) transposes_S8x96_S96x8_1_0⟩,
    ⟨S96x8, broadcastInDim S96x8 ![] bcast_S_S96x8 zero⟩] concatenates_S96x8_S96x8_S96x16_d1

def biasT (fb : FVec Ideal S8 .f32) : FVec Ideal S16 .f32 :=
  pad S16 ![0] ![8] ![0] fb (sitofp .f32 (constantI S_ 32 0#32)) pads_S8_S16_080 h_S_

def packT (fw : FVec Ideal S8x16 .f32) (fb : FVec Ideal S8 .f32) (w b : FVec Ideal S1x96x1x1 .f32) (s q : FVec Ideal S768x1 .f32) :
    FVec Ideal S4944 .f32 :=
  concatenate S4944 0 [⟨S128, shapeCast S128 fw shapeCasts_S8x16_S128⟩, ⟨S16, biasT fb⟩, ⟨S96, shapeCast S96 w shapeCasts_S1x96x1x1_S96⟩,
    ⟨S96, shapeCast S96 b shapeCasts_S1x96x1x1_S96⟩, ⟨S1536, shapeCast S1536 (sumsT s) shapeCasts_S96x16_S1536⟩,
    ⟨S1536, shapeCast S1536 (squaresT q) shapeCasts_S96x16_S1536⟩, ⟨S768, shapeCast S768 s shapeCasts_S768x1_S768⟩,
    ⟨S768, shapeCast S768 q shapeCasts_S768x1_S768⟩] concatenates_S128_S16_S96_S96_S1536_S1536_S768_S768_S4944_d0

theorem before_packed : StableHlo.after before W (Proc.devRef .tc main_v18)
    = packT (W (Proc.devRef .tc main_arg1)) (W (Proc.devRef .tc main_arg2)) (W (Proc.devRef .tc main_arg3)) (W (Proc.devRef .tc main_arg4))
        (W (Proc.devRef .tc main_v0_0)) (W (Proc.devRef .tc main_v0_1)) := by
  unfold before
  after_reads_simp
  rfl

variable (fw : FVec Ideal S8x16 .f32) (fb : FVec Ideal S8 .f32) (w b : FVec Ideal S1x96x1x1 .f32) (s q : FVec Ideal S768x1 .f32)

theorem sumsT_image (c : Fin 96) (n : Fin 8) : sumsT s (ix2 c ⟨n.val, by omega⟩) = s (ix2 ⟨n.val * 96 + c.val, by omega⟩ 0) := by
  unfold sumsT
  pointwise
theorem sumsT_one (c : Fin 96) : sumsT s (ix2 c 8) = 1 := by
  unfold sumsT
  pointwise
theorem squaresT_image (c : Fin 96) (n : Fin 8) : squaresT q (ix2 c ⟨n.val, by omega⟩) = q (ix2 ⟨n.val * 96 + c.val, by omega⟩ 0) := by
  unfold squaresT
  pointwise
theorem biasT_apply (k : Fin 8) : biasT fb (ix1 ⟨k.val, by omega⟩) = fb (ix1 k) := by
  unfold biasT
  pointwise

theorem pack_rule (k : Fin 8) (l : Fin 16) : packT fw fb w b s q (ix1 ⟨k.val * 16 + l.val, by omega⟩) = fw (ix2 k l) := by
  unfold packT
  pointwise
  rw [dif_pos (by omega)]
theorem pack_ruleBias (k : Fin 8) : packT fw fb w b s q (ix1 ⟨128 + k.val, by omega⟩) = fb (ix1 k) := by
  unfold packT biasT
  pointwise
  repeat rw [dif_neg (by omega)]
  rw [dif_pos (by omega), dif_pos (by omega)]
  exact congrArg _ (congrArg ix1 (Fin.ext (by simp only; omega)))
theorem pack_weight (c : Fin 96) : packT fw fb w b s q (ix1 ⟨144 + c.val, by omega⟩) = w (ix4 0 c 0 0) := by
  unfold packT
  pointwise
  repeat rw [dif_neg (by omega)]
  rw [dif_pos (by omega)]
  exact congrArg _ (congrArg (fun a => ix4 0 a 0 0) (Fin.ext (by simp only; omega)))
theorem pack_bias (c : Fin 96) : packT fw fb w b s q (ix1 ⟨240 + c.val, by omega⟩) = b (ix4 0 c 0 0) := by
  unfold packT
  pointwise
  repeat rw [dif_neg (by omega)]
  rw [dif_pos (by omega)]
  exact congrArg _ (congrArg (fun a => ix4 0 a 0 0) (Fin.ext (by simp only; omega)))
theorem pack_sums (c : Fin 96) (l : Fin 16) : packT fw fb w b s q (ix1 ⟨336 + (c.val * 16 + l.val), by omega⟩) = sumsT s (ix2 c l) := by
  unfold packT
  pointwise
  repeat rw [dif_neg (by omega)]
  rw [dif_pos (by omega)]
  exact congrArg _ (congrArg₂ ix2 (Fin.ext (by simp only; omega)) (Fin.ext (by simp only; omega)))
theorem pack_squares (c : Fin 96) (l : Fin 16) : packT fw fb w b s q (ix1 ⟨1872 + (c.val * 16 + l.val), by omega⟩) = squaresT q (ix2 c l) := by
  unfold packT
  pointwise
  repeat rw [dif_neg (by omega)]
  rw [dif_pos (by omega)]
  exact congrArg _ (congrArg₂ ix2 (Fin.ext (by simp only; omega)) (Fin.ext (by simp only; omega)))
theorem pack_sum (i : Fin 768) : packT fw fb w b s q (ix1 ⟨3408 + i.val, by omega⟩) = s (ix2 i 0) := by
  unfold packT
  pointwise
  repeat rw [dif_neg (by omega)]
  rw [dif_pos (by omega)]
  exact congrArg _ (congrArg₂ ix2 (Fin.ext (by simp only; omega)) rfl)
theorem pack_square (i : Fin 768) : packT fw fb w b s q (ix1 ⟨4176 + i.val, by omega⟩) = q (ix2 i 0) := by
  unfold packT
  pointwise
  repeat rw [dif_neg (by omega)]
  exact congrArg _ (congrArg₂ ix2 (Fin.ext (by simp only; omega)) rfl)

end Cert.KernelIdeal.Run

end
-- ==== Proof.Unpack.lean ====
module

public import proofs.«01_k».proof.Proof.Tile
public import proofs.«01_k».proof.Proof.Host
public import Idealize.ShloMosaic.Lib.StableHlo.RunRead
public import Idealize.ShloMosaic.PureOps.Ideal
public import Idealize.ShloMosaic.Lib.Pointwise.Tactic
public import Idealize.ShloMosaic.Lib.Pointwise.Reshape
public import Idealize.ShloMosaic.Lib.Pointwise.Select

@[expose] public section

/-!
# The SparseCore call's results, entry by entry

The call writes sixteen words for each of the ninety-six channels, one after the other: together they cover a result
buffer. The host operations after it keep eight of each sixteen, one per image.
-/

noncomputable section

namespace Cert.Params

open Idealize.ShloMosaic
open Idealize.SL Idealize.SL.Sem

variable {F : FTy → Type} [FloatOps F]
variable {nD : Nat} {τ : Topo} {sig : RefSig} {cc : Fin τ.nSC} {ss : Fin τ.nSub} (d : Dev nD)
variable (m : Memref sig .scVector .vmem S1536 .f32)

/-- A word of a row of sixteen, of the packed operand and of a result. -/
theorem emb_out (o : ℕ) (ho : o + 16 ≤ 1536) (l : Fin 16) :
    (Rect.unit (s := S1536) ![o % 1521] S16.size (inbOut o)).emb (ix1 l) = (ix1 ⟨o + l.val, by omega⟩ : S1536.Idx) := by
  funext x
  apply Fin.ext
  match x with
  | ⟨0, _⟩ => show o % 1521 + 1 * l.val = o + l.val; omega

theorem put_hit (o : ℕ) (ho : o + 16 ≤ 1536) (v : V F) (f : Buf (Elt F) (m.view.loc (SparseCore.V d cc ss))) (l : Fin 16) :
    m.view.read (Elt F) (put d m o v f) (ix1 ⟨o + l.val, by omega⟩) = v (ix1 l) := by
  rw [← emb_out o ho l]
  refine (View.read_slice_write_emb (v := m.view) _ _ _ (Finset.mem_univ _)).trans ?_
  exact congrFun (shapeCast_self _ _) _

theorem put_miss (o : ℕ) (ho : o + 16 ≤ 1536) (v : V F) (f : Buf (Elt F) (m.view.loc (SparseCore.V d cc ss))) (i : Fin 1536)
    (hi : i.val < o) :
    m.view.read (Elt F) (put d m o v f) (ix1 i) = m.view.read (Elt F) f (ix1 i) := by
  refine View.read_slice_write_of_not_mem (v := m.view) _ _ _ _ ?_
  intro h
  obtain ⟨x, _, e⟩ := Finset.mem_map.mp h
  have := congrArg Fin.val (congrFun e 0)
  change o % 1521 + 1 * (x 0).val = i.val at this
  omega

theorem puts_miss (v : ℕ → V F) : ∀ (n c : ℕ) (f : Buf (Elt F) (m.view.loc (SparseCore.V d cc ss))), c + n ≤ 96 →
    ∀ i : Fin 1536, i.val < 16 * c → m.view.read (Elt F) (puts d m v n c f) (ix1 i) = m.view.read (Elt F) f (ix1 i)
  | 0, _, _, _, _, _ => rfl
  | n + 1, c, f, h, i, hi =>
    (puts_miss v n (c + 1) _ (by omega) i (by omega)).trans (put_miss d m _ (by omega) _ _ i hi)

/-- After all the channels from `c` on, channel `e`'s words are `v e`. -/
theorem puts_apply (v : ℕ → V F) : ∀ (n c : ℕ) (f : Buf (Elt F) (m.view.loc (SparseCore.V d cc ss))), c + n ≤ 96 →
    ∀ (e : ℕ) (he : e < 96) (l : Fin 16), c ≤ e → e < c + n →
      m.view.read (Elt F) (puts d m v n c f) (ix1 ⟨16 * e + l.val, by omega⟩) = v e (ix1 l)
  | 0, _, _, _, _, _, _, _, _ => by omega
  | n + 1, c, f, h, e, he, l, h₁, h₂ => by
    rcases Nat.eq_or_lt_of_le h₁ with rfl | h₁
    · exact (puts_miss d m v n (c + 1) _ (by omega) _ (by simp only; omega)).trans (put_hit d m _ (by omega) _ _ l)
    · exact puts_apply v n (c + 1) _ (by omega) e he l h₁ (by omega)

end Cert.Params

namespace Cert.KernelIdeal.Run

open Cert.KernelIdeal Cert.KernelIdeal.Gen
open Idealize.ShloMosaic
open Idealize.ShloMosaic.TcCoe
open Idealize.SL Idealize.SL.Sem

/-- Word `l` of the sixteen from `o` on. -/
theorem rowOf_apply {F : FTy → Type} [FloatOps F] (d : Dev nD) (c : Fin τ.nSC) (i : Fin τ.nSub) (k : S4944.Idx → F .f32) (o : ℕ)
    (ho : o + 16 ≤ 4944) (l : Fin 16) :
    Params.rowOf (cc := c) (ss := i) d sK k o (ix1 l) = k (ix1 ⟨o + l.val, by omega⟩) := by
  refine (congrFun (shapeCast_self _ _) _).trans ?_
  refine congrArg k ?_
  funext x
  apply Fin.ext
  match x with
  | ⟨0, _⟩ => show o % 4929 + 1 * l.val = o + l.val; omega

section

variable {F : FTy → Type} [FloatOps F] (d : Dev nD) (c : Fin τ.nSC) (i : Fin τ.nSub)

theorem puts_sA (v : ℕ → Params.V F) (n : ℕ) (hn : n = 96) (g : S1536.Idx → F .f32) (e : Fin 96) (l : Fin 16) :
    (Params.puts (cc := c) (ss := i) d sA v n 0 g : S1536.Idx → F .f32) (ix1 ⟨16 * e.val + l.val, by omega⟩) = v e (ix1 l) :=
  Params.puts_apply (cc := c) (ss := i) d sA v n 0 g (by omega) e e.isLt l (Nat.zero_le _) (by omega)

theorem puts_sB (v : ℕ → Params.V F) (n : ℕ) (hn : n = 96) (g : S1536.Idx → F .f32) (e : Fin 96) (l : Fin 16) :
    (Params.puts (cc := c) (ss := i) d sB v n 0 g : S1536.Idx → F .f32) (ix1 ⟨16 * e.val + l.val, by omega⟩) = v e (ix1 l) :=
  Params.puts_apply (cc := c) (ss := i) d sB v n 0 g (by omega) e e.isLt l (Nat.zero_le _) (by omega)

variable [Named F] (k : S4944.Idx → F .f32) (g : S1536.Idx → F .f32) (e : Fin 96) (l : Fin 16)

theorem leftA_apply : leftA d c i k g (ix1 ⟨16 * e.val + l.val, by omega⟩)
    = Params.scales (Params.rowOf (cc := c) (ss := i) d sK k) invHw e (ix1 l) := by
  unfold leftA
  exact puts_sA d c i _ 96 rfl g e l

theorem leftB_apply : leftB d c i k g (ix1 ⟨16 * e.val + l.val, by omega⟩)
    = Params.shifts (Params.rowOf (cc := c) (ss := i) d sK k) invHw e (ix1 l) := by
  unfold leftB
  exact puts_sB d c i _ 96 rfl g e l

end

variable (W : Valuation τ sig (Elt Ideal))

/-- One column of the images' words: what the host operations make of a result buffer. -/
def columnT (x : FVec Ideal S1536 .f32) : FVec Ideal S768x1 .f32 :=
  shapeCast S768x1 (transpose S8x96 [1, 0] (extractStridedSlice S96x8 ![0, 0] (shapeCast S96x16 x shapeCasts_S1536_S96x16)
    slices_S96x16_S96x8_0_0) transposes_S96x8_S8x96_1_0) shapeCasts_S8x96_S768x1

theorem after_scale : StableHlo.after after W (Proc.devRef .tc main_v23) = columnT (W (Proc.devRef .tc main_v19_0)) := by
  unfold after
  after_reads_simp
  rfl
theorem after_shift : StableHlo.after after W (Proc.devRef .tc main_v27) = columnT (W (Proc.devRef .tc main_v19_1)) := by
  unfold after
  after_reads_simp
  rfl

theorem columnT_apply (x : FVec Ideal S1536 .f32) (n : Fin 8) (c : Fin 96) :
    columnT x (ix2 ⟨n.val * 96 + c.val, by omega⟩ 0) = x (ix1 ⟨16 * c.val + n.val, by omega⟩) := by
  unfold columnT
  pointwise
  exact congrArg x (congrArg ix1 (Fin.ext (by simp only; omega)))

end Cert.KernelIdeal.Run

end
-- ==== Proof.Lanes.lean ====
module

public import proofs.«01_k».proof.Proof.Values
public import proofs.«01_k».proof.Proof.Maths
public import Idealize.ShloMosaic.PureOps.Ideal
public import Idealize.ShloMosaic.Lib.Pointwise.Tactic

@[expose] public section

/-!
# The parameter kernel's steps at one lane, on real values and any bias
-/

noncomputable section

namespace Cert.Params

open Idealize.ShloMosaic Cert.Maths Cert.Real

theorem lane_eq {F : FTy → Type} (v : V F) (o : ℕ) : lane v o = v (ix1 ⟨o % 16, Nat.mod_lt _ (by decide)⟩) := by
  unfold lane extractAt extractStridedSlice
  refine congrArg v (funext fun a => Fin.ext ?_)
  match a with
  | ⟨0, _⟩ => rfl

theorem ilane_eq (v : IVec S16 32) (o : ℕ) : ilane v o = v (ix1 ⟨o % 16, Nat.mod_lt _ (by decide)⟩) := by
  unfold ilane extractAt extractStridedSlice
  refine congrArg v (funext fun a => Fin.ext ?_)
  match a with
  | ⟨0, _⟩ => rfl

theorem lane_fin {F : FTy → Type} (v : V F) (o : ℕ) (l : Fin 16) (h : o % 16 = l) : lane v o = v (ix1 l) := by
  rw [lane_eq]; exact congrArg v (congrArg ix1 (Fin.ext h))

variable (l : Fin 16)

theorem mean_apply (a : V Ideal) (s : ℝ) (ha : a (ix1 l) = (s : EReal)) :
    mean (((50176⁻¹ : ℝ)) : EReal) a (ix1 l) = ((s * 50176⁻¹ : ℝ) : EReal) := by
  show a (ix1 l) * ((50176⁻¹ : ℝ) : EReal) = _
  rw [ha, ← EReal.coe_mul]

theorem var_apply (a b : V Ideal) (s q : ℝ) (ha : a (ix1 l) = (s : EReal)) (hb : b (ix1 l) = (q : EReal)) :
    var (((50176⁻¹ : ℝ)) : EReal) a b (ix1 l)
      = (((q - s * 50176⁻¹ * (s * 50176⁻¹) * 50176) * 50175⁻¹ : ℝ) : EReal) := by
  show Ideal.div (b (ix1 l) - mean _ a (ix1 l) * mean _ a (ix1 l) * Ideal.ofBits .f32 0x47440000#32) (Ideal.ofBits .f32 0x4743FF00#32) = _
  rw [mean_apply l a s ha, hb, bits_hw, bits_hw1, ← EReal.coe_mul, ← EReal.coe_mul, ← EReal.coe_sub, div_coe _ _ (by norm_num)]

/-- A logit: the bias and the eight images' terms, in order. -/
theorem logit_apply (row : V Ideal) (r : ℕ → ℝ) (hr : ∀ o < 16, lane row o = (r o : EReal)) (m v : ℕ → ℝ) :
    ∀ (L : List (V Ideal × V Ideal)) (n : ℕ) (acc : V Ideal) (a : EReal), acc (ix1 l) = a → n + L.length ≤ 8 →
      (∀ i (h : i < L.length), (L[i].1 (ix1 l) : EReal) = (m (n + i) : EReal) ∧ (L[i].2 (ix1 l) : EReal) = (v (n + i) : EReal)) →
      logit row n L acc (ix1 l) = a + ((∑ i ∈ Finset.range L.length, (m (n + i) * r (n + i) + v (n + i) * r (8 + (n + i))) : ℝ) : EReal)
  | [], n, acc, a, ha, _, _ => by simpa [logit] using ha
  | (p, q) :: L, n, acc, a, ha, hn, h => by
    have h0 := h 0 (by simp)
    simp only [List.length_cons] at hn
    rw [logit, logit_apply row r hr m v L (n + 1) _ (a + ((m n * r n + v n * r (8 + n) : ℝ) : EReal)) ?_ (by omega) fun i hi => ?_]
    · rw [List.length_cons, Finset.sum_range_succ', add_assoc, ← EReal.coe_add]
      congr 2
      simp only [add_zero, Nat.add_assoc, Nat.add_comm 1]
      ring
    · show acc (ix1 l) + p (ix1 l) * lane row n + q (ix1 l) * lane row (8 + n) = _
      rw [ha, hr n (by omega), hr (8 + n) (by omega), show p (ix1 l) = (m n : EReal) from h0.1,
        show q (ix1 l) = (v n : EReal) from h0.2]
      rw [add_assoc, ← EReal.coe_mul, ← EReal.coe_mul, ← EReal.coe_add]
    · have := h (i + 1) (by simpa using hi)
      rw [show n + (i + 1) = n + 1 + i by omega] at this
      exact this

/-- Two words' comparison, chosen by. -/
theorem select_gt {α : Type} (a b : EReal) (u v : α) :
    Scalar.select (Ideal.cmp .ogt a b) u v = if b < a then u else v := by
  simp only [Ideal.cmp]
  by_cases h : b < a <;> simp [h, Scalar.select]

/-- Among the first `n` entries of a list of values, `i` is the first of the largest. -/
def FirstMaxBelow (L : ℕ → EReal) (n i : ℕ) : Prop := i < n ∧ (∀ j < n, L j ≤ L i) ∧ ∀ j < i, L j < L i

theorem best_apply (fb : V Ideal) (mv : List (V Ideal × V Ideal)) (L : ℕ → EReal) :
    ∀ (rows : List (V Ideal)) (k : ℕ) (b : V Ideal) (ix : IVec S16 32) (i : ℕ), FirstMaxBelow L k i →
      b (ix1 l) = L i → ix (ix1 l) = BitVec.ofNat 32 i →
      (∀ j (h : j < rows.length), logit rows[j] 0 mv (all (lane fb (k + j))) (ix1 l) = L (k + j)) →
      ∃ i', FirstMaxBelow L (k + rows.length) i' ∧ best fb mv k rows b ix (ix1 l) = BitVec.ofNat 32 i'
  | [], k, b, ix, i, hi, _, hx, _ => ⟨i, hi, hx⟩
  | row :: rows, k, b, ix, i, hi, hb, hx, h => by
    have h0 : logit row 0 mv (all (lane fb k)) (ix1 l) = L k := h 0 (by simp)
    have hs : ∀ {α : Type} (u v : S16.Idx → α), select (cmpf (F := Ideal) (φ := .f32) .ogt (logit row 0 mv (all (lane fb k))) b) u v (ix1 l)
        = if L i < L k then u (ix1 l) else v (ix1 l) := fun {α} u v => by
      show Scalar.select (Ideal.cmp .ogt (logit row 0 mv (all (lane fb k)) (ix1 l)) (b (ix1 l))) _ _ = _
      rw [h0, hb, select_gt]
    obtain ⟨i₁, e₁, e₂, e₃⟩ : ∃ i₁, FirstMaxBelow L (k + 1) i₁
        ∧ select (cmpf .ogt (logit row 0 mv (all (lane fb k))) b) (logit row 0 mv (all (lane fb k))) b (ix1 l) = L i₁
        ∧ select (cmpf .ogt (logit row 0 mv (all (lane fb k))) b) (broadcast S16 (BitVec.ofNat 32 k)) ix (ix1 l) = BitVec.ofNat 32 i₁ := by
      simp only [hs]
      by_cases hc : L i < L k
      · refine ⟨k, ⟨by omega, fun j hj => ?_, fun j hj => (hi.2.1 j hj).trans_lt hc⟩, ?_, ?_⟩
        · rcases Nat.lt_succ_iff_lt_or_eq.1 hj with hj | rfl
          · exact ((hi.2.1 j hj).trans_lt hc).le
          · exact le_rfl
        · rw [if_pos hc, h0]
        · rw [if_pos hc]; rfl
      · refine ⟨i, ⟨by have := hi.1; omega, fun j hj => ?_, hi.2.2⟩, ?_, ?_⟩
        · rcases Nat.lt_succ_iff_lt_or_eq.1 hj with hj | rfl
          · exact hi.2.1 j hj
          · exact not_lt.1 hc
        · rw [if_neg hc, hb]
        · rw [if_neg hc, hx]
    obtain ⟨i', h', e'⟩ := best_apply fb mv L rows (k + 1) _ _ i₁ e₁ e₂ e₃ fun j hj => by
      have := h (j + 1) (by simpa using hj)
      rw [show k + 1 + j = k + (j + 1) by omega]
      exact this
    refine ⟨i', ?_, e'⟩
    rw [List.length_cons, show k + (rows.length + 1) = k + 1 + rows.length by omega]
    exact h'

/-- Sixteen channels' groups at one: the first of its largest logit, among as many groups as there are rows. -/
theorem groups_apply (fb : V Ideal) (mv : List (V Ideal × V Ideal)) (L : ℕ → EReal) (row : V Ideal) (rows : List (V Ideal))
    (h : ∀ j (h : j < (row :: rows).length), logit (row :: rows)[j] 0 mv (all (lane fb j)) (ix1 l) = L j) :
    ∃ i, FirstMaxBelow L (rows.length + 1) i ∧ groups fb (row :: rows) mv (ix1 l) = BitVec.ofNat 32 i := by
  obtain ⟨i, hi, e⟩ := best_apply l fb mv L rows 1 (logit row 0 mv (all (lane fb 0))) (broadcast S16 0#32) 0
    ⟨by omega, fun j hj => by obtain rfl : j = 0 := by omega
                              exact le_rfl, fun j hj => by omega⟩ (h 0 (by simp)) rfl fun j hj => by
      have := h (j + 1) (by simpa using hj)
      rw [show 1 + j = j + 1 by omega]
      exact this
  exact ⟨i, by rwa [Nat.add_comm] at hi, e⟩

end Cert.Params

end
-- ==== Proof.Tables.lean ====
module

public import proofs.«01_k».proof.Proof.Lanes
public import proofs.«01_k».proof.Proof.Loops

@[expose] public section

/-!
# The parameter kernel's tables by groups, at one lane, on real values
-/

noncomputable section

namespace Cert.Params

open Idealize.ShloMosaic Cert.Maths Cert.Real

/-! ## Lists of rows -/

theorem rowsOf_length {F : FTy → Type} [FloatOps F] (rd : ℕ → V F) (s : ℕ) : ∀ n o, (rowsOf rd s n o).length = n
  | 0, _ => rfl
  | n + 1, o => congrArg (· + 1) (rowsOf_length rd s n (o + s))

theorem rowsOf_get {F : FTy → Type} [FloatOps F] (rd : ℕ → V F) (s : ℕ) : ∀ n o i (h : i < (rowsOf rd s n o).length),
    (rowsOf rd s n o)[i] = rd (o + s * i)
  | 0, _, _, h => absurd h (Nat.not_lt_zero _)
  | n + 1, o, 0, _ => by simp [rowsOf]
  | n + 1, o, i + 1, h => by
    have h' : i < (rowsOf rd s n (o + s)).length := by
      rw [rowsOf_length] at h ⊢; omega
    refine (rowsOf_get rd s n (o + s) i h').trans (congrArg rd ?_)
    rw [Nat.mul_succ]; omega

theorem nth_rowsOf {F : FTy → Type} [FloatOps F] (d : V F) (rd : ℕ → V F) (s : ℕ) : ∀ n o i, i < n →
    nth d (rowsOf rd s n o) i = rd (o + s * i)
  | 0, _, _, h => absurd h (Nat.not_lt_zero _)
  | n + 1, o, 0, _ => by simp [rowsOf, nth]
  | n + 1, o, i + 1, h => by
    refine (nth_rowsOf d rd s n (o + s) i (by omega)).trans (congrArg rd ?_)
    rw [Nat.mul_succ]; omega

theorem nth_groupsOf {F : FTy → Type} [FloatOps F] (d : IVec S16 32) (rd : ℕ → V F) (c : F .f32) (fb : V F) (fw : List (V F)) :
    ∀ n o i, i < n → nth d (groupsOf rd c fb fw n o) i
      = groups fb fw (((rowsOf rd 96 8 (o + 16 * i)).zip (rowsOf (fun a => rd (a + 768)) 96 8 (o + 16 * i))).map
          fun p => (mean c p.1, var c p.1 p.2))
  | 0, _, _, h => absurd h (Nat.not_lt_zero _)
  | n + 1, o, 0, _ => rfl
  | n + 1, o, i + 1, h => by
    refine (nth_groupsOf d rd c fb fw n (o + 16) i (by omega)).trans ?_
    rw [show o + 16 + 16 * i = o + 16 * (i + 1) by omega]

/-! ## Choosing by group -/

theorem eq_places : ∀ a b : Fin 8, Scalar.cmpi .eq (BitVec.ofNat 32 a) (BitVec.ofNat 32 b) = BitVec.ofBool (decide (a = b)) := by
  decide

theorem select_place {α : Type} (a b : Fin 8) (u v : α) :
    Scalar.select (Scalar.cmpi .eq (BitVec.ofNat 32 a) (BitVec.ofNat 32 b)) u v = if a = b then u else v := by
  rw [eq_places]
  by_cases h : a = b <;> simp [h, Scalar.select]

/-- A group's entry of a table made entry by entry. -/
theorem pickG_map {f : ℕ → V Ideal} (k : Fin 8) :
    pickG (BitVec.ofNat 32 k) ([0, 1, 2, 3, 4, 5, 6, 7].map f) = f k := by
  fin_cases k <;> rfl

variable (l : Fin 16)

/-- The sum over the channels of one group. -/
theorem accum_apply (gs : List (IVec S16 32)) (k : Fin 8) (g : ℕ → Fin 8) (r : ℕ → ℝ) :
    ∀ (rows : List (V Ideal)) (c : ℕ) (s : V Ideal) (a : ℝ), s (ix1 l) = (a : EReal) →
      (∀ i (h : i < rows.length), (rows[i] (ix1 l) : EReal) = (r (c + i) : EReal)) →
      (∀ i, i < rows.length → gid gs (c + i) = BitVec.ofNat 32 (g (c + i))) →
      accum gs k c rows s (ix1 l) = ((a + ∑ i ∈ Finset.range rows.length, if g (c + i) = k then r (c + i) else 0 : ℝ) : EReal)
  | [], c, s, a, ha, _, _ => by simpa [accum] using ha
  | row :: rows, c, s, a, ha, hr, hg => by
    have h0 : row (ix1 l) = (r c : EReal) := hr 0 (by simp)
    have g0 : gid gs c = BitVec.ofNat 32 (g c) := hg 0 (by simp)
    rw [accum, g0, select_place, accum_apply gs k g r rows (c + 1) _ (a + if g c = k then r c else 0) ?_ (fun i hi => ?_) fun i hi => ?_]
    · rw [List.length_cons, Finset.sum_range_succ']
      congr 1
      simp only [add_zero, Nat.add_assoc, Nat.add_comm 1]
      ring
    · by_cases h : g c = k
      · rw [if_pos h, if_pos h]
        show s (ix1 l) + row (ix1 l) = _
        rw [ha, h0, ← EReal.coe_add]
      · rw [if_neg h, if_neg h, ha, add_zero]
    · have := hr (i + 1) (by simpa using hi)
      rw [show c + (i + 1) = c + 1 + i by omega] at this
      exact this
    · have := hg (i + 1) (by simpa using hi)
      rw [show c + (i + 1) = c + 1 + i by omega] at this
      exact this

theorem count_apply (s : V Ideal) (n : ℝ) (hn : s (ix1 8) = (n : EReal)) : count s (ix1 l) = ((n * 50176 : ℝ) : EReal) := by
  show lane s 8 * Ideal.ofBits .f32 0x47440000#32 = _
  rw [lane_fin s 8 8 rfl, hn, bits_hw, ← EReal.coe_mul]

theorem gmean_apply (s : V Ideal) (a n : ℝ) (ha : s (ix1 l) = (a : EReal)) (hn : s (ix1 8) = (n : EReal)) :
    gmean s (ix1 l) = ((a / max (n * 50176) 1 : ℝ) : EReal) := by
  show Ideal.div (s (ix1 l)) (max (count s (ix1 l)) (Ideal.ofBits .f32 0x3F800000#32)) = _
  rw [ha, count_apply l s n hn, bits_one, max_coe, div_coe _ _ (by positivity), div_eq_mul_inv]

theorem grstd_apply (s q : V Ideal) (a b n : ℝ) (ha : s (ix1 l) = (a : EReal)) (hb : q (ix1 l) = (b : EReal))
    (hn : s (ix1 8) = (n : EReal))
    (h : 0 ≤ (b - n * 50176 * (a / max (n * 50176) 1) * (a / max (n * 50176) 1)) / max (n * 50176 - 1) 1) :
    grstd s q (ix1 l)
      = (((Real.sqrt ((b - n * 50176 * (a / max (n * 50176) 1) * (a / max (n * 50176) 1)) / max (n * 50176 - 1) 1 + eps))⁻¹ : ℝ) : EReal) := by
  show Ideal.rsqrt (Ideal.div (q (ix1 l) - count s (ix1 l) * gmean s (ix1 l) * gmean s (ix1 l))
    (max (count s (ix1 l) - Ideal.ofBits .f32 0x3F800000#32) (Ideal.ofBits .f32 0x3F800000#32)) + Ideal.ofBits .f32 0x3727C5AC#32) = _
  rw [hb, count_apply l s n hn, gmean_apply l s a n ha hn, bits_one, bits_eps, ← EReal.coe_sub, max_coe, ← EReal.coe_mul, ← EReal.coe_mul,
    ← EReal.coe_sub, div_coe _ _ (by positivity), ← div_eq_mul_inv, ← EReal.coe_add, rsqrt_coe _ (add_pos_of_nonneg_of_pos h eps_pos)]

end Cert.Params

end
-- ==== Proof.ParamsValue.lean ====
module

public import proofs.«01_k».proof.Proof.Tables

@[expose] public section

/-!
# The parameter kernel's scales and shifts, on real values
-/

noncomputable section

namespace Cert.Params

open Idealize.ShloMosaic Cert.Maths Cert.Real

/-- A function of a bounded place, zero past the bound. -/
def ext {α : Type} [Zero α] {n : ℕ} (f : Fin n → α) (i : ℕ) : α := if h : i < n then f ⟨i, h⟩ else 0

theorem ext_of_lt {α : Type} [Zero α] {n : ℕ} (f : Fin n → α) {i : ℕ} (h : i < n) : ext f i = f ⟨i, h⟩ := dif_pos h

variable (rd : ℕ → V Ideal) (x : Fin 8 → Fin 96 → Fin 224 → Fin 224 → ℝ) (fw : Fin 8 → Fin 16 → ℝ) (fb : Fin 8 → EReal)
  (w : Fin 96 → ℝ) (b : Fin 96 → EReal)

/-- What the rows of the packed operand hold. -/
structure Holds : Prop where
  rule : ∀ (k : Fin 8) (l : Fin 16), rd (16 * k.val) (ix1 l) = (fw k l : EReal)
  ruleBias : ∀ k : Fin 8, rd 128 (ix1 ⟨k.val, by omega⟩) = fb k
  weight : ∀ (j : Fin 6) (l : Fin 16), rd (144 + 16 * j.val) (ix1 l) = (w ⟨16 * j.val + l.val, by omega⟩ : EReal)
  bias : ∀ (j : Fin 6) (l : Fin 16), rd (240 + 16 * j.val) (ix1 l) = b ⟨16 * j.val + l.val, by omega⟩
  sums : ∀ (c : Fin 96) (n : Fin 8), rd (336 + 16 * c.val) (ix1 ⟨n.val, by omega⟩) = (sumX x n c : EReal)
  ones : ∀ c : Fin 96, rd (336 + 16 * c.val) (ix1 8) = ((1 : ℝ) : EReal)
  squares : ∀ (c : Fin 96) (n : Fin 8), rd (336 + 16 * c.val + 1536) (ix1 ⟨n.val, by omega⟩) = (sumQ x n c : EReal)
  sum : ∀ (n : Fin 8) (j : Fin 6) (l : Fin 16),
    rd (3408 + 16 * j.val + 96 * n.val) (ix1 l) = (sumX x n ⟨16 * j.val + l.val, by omega⟩ : EReal)
  square : ∀ (n : Fin 8) (j : Fin 6) (l : Fin 16),
    rd (3408 + 16 * j.val + 96 * n.val + 768) (ix1 l) = (sumQ x n ⟨16 * j.val + l.val, by omega⟩ : EReal)

variable {rd x fw fb w b} (H : Holds rd x fw fb w b)

/-- The reciprocal of the number of positions. -/
abbrev inv : EReal := ((50176⁻¹ : ℝ) : EReal)

section
include H

/-- The images' means and variances of sixteen channels, as the kernel lists them, at one channel. -/
theorem pairs_apply (j : Fin 6) (l : Fin 16) (i : ℕ)
    (hi : i < (((rowsOf rd 96 8 (3408 + 16 * j.val)).zip (rowsOf (fun a => rd (a + 768)) 96 8 (3408 + 16 * j.val))).map
      fun p => (mean (F := Ideal) inv p.1, var (F := Ideal) inv p.1 p.2)).length) :
    ((((rowsOf rd 96 8 (3408 + 16 * j.val)).zip (rowsOf (fun a => rd (a + 768)) 96 8 (3408 + 16 * j.val))).map
        fun p => (mean (F := Ideal) inv p.1, var (F := Ideal) inv p.1 p.2))[i].1 (ix1 l) : EReal)
        = ((ext (fun n => Maths.mean x n ⟨16 * j.val + l.val, by omega⟩) i : ℝ) : EReal)
      ∧ ((((rowsOf rd 96 8 (3408 + 16 * j.val)).zip (rowsOf (fun a => rd (a + 768)) 96 8 (3408 + 16 * j.val))).map
        fun p => (mean (F := Ideal) inv p.1, var (F := Ideal) inv p.1 p.2))[i].2 (ix1 l) : EReal)
        = ((ext (fun n => Maths.var x n ⟨16 * j.val + l.val, by omega⟩) i : ℝ) : EReal) := by
  have h8 : i < 8 := by
    rw [List.length_map, List.length_zip, rowsOf_length, rowsOf_length] at hi; omega
  rw [ext_of_lt _ h8, ext_of_lt _ h8, List.getElem_map, List.getElem_zip, rowsOf_get, rowsOf_get]
  exact ⟨mean_apply l _ _ (H.sum ⟨i, h8⟩ j l), var_apply l _ _ _ _ (H.sum ⟨i, h8⟩ j l) (H.square ⟨i, h8⟩ j l)⟩

theorem logit_value (j : Fin 6) (l : Fin 16) (k : ℕ) (hk : k < 8) :
    logit (rd (16 * k)) 0 (((rowsOf rd 96 8 (3408 + 16 * j.val)).zip (rowsOf (fun a => rd (a + 768)) 96 8 (3408 + 16 * j.val))).map
      fun p => (mean (F := Ideal) inv p.1, var (F := Ideal) inv p.1 p.2)) (all (lane (rd 128) k)) (ix1 l)
      = ext (Maths.logit x fw fb ⟨16 * j.val + l.val, by omega⟩) k := by
  rw [logit_apply l (rd (16 * k)) (ext (fw ⟨k, hk⟩)) (fun o ho => ?_) (ext fun n => Maths.mean x n ⟨16 * j.val + l.val, by omega⟩)
    (ext fun n => Maths.var x n ⟨16 * j.val + l.val, by omega⟩) _ 0 _ (fb ⟨k, hk⟩) ?_ ?_ (fun i hi => ?_)]
  · rw [List.length_map, List.length_zip, rowsOf_length, rowsOf_length, Nat.min_self, Finset.sum_range, ext_of_lt _ hk]
    unfold Maths.logit Maths.score
    rw [add_comm]
    congr 2
    rw [Finset.sum_congr rfl fun (n : Fin 8) _ => by
      rw [Nat.zero_add, ext_of_lt _ n.isLt, ext_of_lt _ n.isLt, ext_of_lt _ (show n.val < 16 by omega), ext_of_lt _ (show 8 + n.val < 16 by omega)]]
    rw [Finset.sum_add_distrib]
  · show lane (rd 128) k = _
    rw [lane_fin _ k ⟨k, by omega⟩ (Nat.mod_eq_of_lt (by omega))]
    exact H.ruleBias ⟨k, hk⟩
  · rw [List.length_map, List.length_zip, rowsOf_length, rowsOf_length]; omega
  · rw [ext_of_lt _ ho, lane_fin _ o ⟨o, ho⟩ (Nat.mod_eq_of_lt ho)]
    exact H.rule ⟨k, hk⟩ ⟨o, ho⟩
  · rw [Nat.zero_add]
    exact pairs_apply H j l i hi

/-- The kernel's group of a channel is the first of its largest logit. -/
theorem gid_first (c : Fin 96) : ∃ k : Fin 8, gid (allGroups rd inv) c = BitVec.ofNat 32 k ∧ IsFirstMax (Maths.logit x fw fb c) k := by
  obtain ⟨j, l, rfl⟩ : ∃ (j : Fin 6) (l : Fin 16), c = ⟨16 * j.val + l.val, by omega⟩ :=
    ⟨⟨c.val / 16, by omega⟩, ⟨c.val % 16, by omega⟩, Fin.ext (by simp only; omega)⟩
  obtain ⟨i, ⟨hi, h₁, h₂⟩, e⟩ := groups_apply l (rd 128) (((rowsOf rd 96 8 (3408 + 16 * j.val)).zip (rowsOf (fun a => rd (a + 768)) 96 8 (3408 + 16 * j.val))).map
      fun p => (mean (F := Ideal) inv p.1, var (F := Ideal) inv p.1 p.2)) (ext (Maths.logit x fw fb ⟨16 * j.val + l.val, by omega⟩))
      (rd 0) (rowsOf rd 16 7 16) fun k hk => by
    have hk' : k < (rowsOf rd 16 8 0).length := hk
    have e : (rowsOf rd 16 8 0)[k] = rd (16 * k) := by rw [rowsOf_get, Nat.zero_add]
    rw [rowsOf_length] at hk'
    exact (congrArg (fun r => logit r 0 _ _ (ix1 l)) e).trans (logit_value H j l k hk')
  rw [rowsOf_length] at hi h₁
  refine ⟨⟨i, hi⟩, ?_, fun k => ?_, fun k hk => ?_⟩
  · show ilane (nth _ (groupsOf rd inv (rd 128) (rowsOf rd 16 8 0) 6 3408) ((16 * j.val + l.val) / 16)) (16 * j.val + l.val) = _
    rw [nth_groupsOf _ _ _ _ _ _ _ _ (by omega), ilane_eq, show (16 * j.val + l.val) / 16 = j.val by omega]
    rw [show (⟨(16 * j.val + l.val) % 16, Nat.mod_lt _ (by decide)⟩ : Fin 16) = l from Fin.ext (by simp only; omega)]
    exact e
  · have := h₁ k k.isLt
    rwa [ext_of_lt _ hi, ext_of_lt _ k.isLt] at this
  · have := h₂ k hk
    rwa [ext_of_lt _ hi, ext_of_lt _ k.isLt] at this

end

section
variable (g : Fin 96 → Fin 8) (hg : ∀ c, IsFirstMax (Maths.logit x fw fb c) (g c))
include H hg

theorem gid_value (c : Fin 96) : gid (allGroups rd inv) c = BitVec.ofNat 32 (g c) := by
  obtain ⟨k, e, hk⟩ := gid_first H c
  rw [e, hk.unique (hg c)]

/-- A sum over the channels of one group, of anything read a row per channel. -/
theorem accum_value (k : Fin 8) (rd' : ℕ → V Ideal) (l : Fin 16) (r : Fin 96 → ℝ)
    (hr : ∀ c : Fin 96, rd' (336 + 16 * c.val) (ix1 l) = (r c : EReal)) :
    accum (allGroups rd inv) k 0 (rowsOf rd' 16 96 336) (all (Scalar.ofBits .f32 0x00000000#32)) (ix1 l)
      = ((∑ c, if g c = k then r c else 0 : ℝ) : EReal) := by
  rw [accum_apply l (allGroups rd inv) k (fun i => if h : i < 96 then g ⟨i, h⟩ else 0) (ext r) _ 0 _ 0 ?_ (fun i hi => ?_) fun i hi => ?_]
  · rw [rowsOf_length, Finset.sum_range, zero_add]
    refine congrArg _ (Finset.sum_congr rfl fun c _ => ?_)
    rw [Nat.zero_add, dif_pos c.isLt, ext_of_lt _ c.isLt]
  · show Ideal.ofBits .f32 0#32 = _
    simp [Ideal.ofBits, Ideal.ieee]
  · rw [rowsOf_get, Nat.zero_add]
    rw [rowsOf_length] at hi
    rw [ext_of_lt _ hi]
    exact hr ⟨i, hi⟩
  · rw [rowsOf_length] at hi
    rw [Nat.zero_add, dif_pos hi]
    exact gid_value H g hg ⟨i, hi⟩

variable (c : Fin 96) (n : Fin 8)

theorem mean_value : pickG (gid (allGroups rd inv) c) (allMeans rd inv) (ix1 ⟨n.val, by omega⟩) = (Maths.gmean x g (g c) n : EReal) := by
  rw [gid_value H g hg c, allMeans, gmeans, pickG_map]
  exact gmean_apply _ _ _ _ (accum_value H g hg (g c) rd _ (sumX x n) fun c => H.sums c n)
    (accum_value H g hg (g c) rd 8 (fun _ => 1) H.ones)

theorem rstd_value : pickG (gid (allGroups rd inv) c) (allRstds rd inv) (ix1 ⟨n.val, by omega⟩)
    = (((Real.sqrt (Maths.gvar x g (g c) n + eps))⁻¹ : ℝ) : EReal) := by
  rw [gid_value H g hg c, allRstds, grstds, pickG_map]
  exact grstd_apply _ _ _ _ _ _ (accum_value H g hg (g c) rd _ (sumX x n) fun c => H.sums c n)
    (accum_value H g hg (g c) (fun a => rd (a + 1536)) _ (sumQ x n) fun c => H.squares c n)
    (accum_value H g hg (g c) rd 8 (fun _ => 1) H.ones) (Maths.gvar_nonneg x g n c)

theorem chan_value {α : Fin 96 → EReal} (o : ℕ) (h : ∀ (j : Fin 6) (l : Fin 16), rd (o + 16 * j.val) (ix1 l) = α ⟨16 * j.val + l.val, by omega⟩)
    (l : Fin 16) : chan (rowsOf rd 16 6 o) c (ix1 l) = α c := by
  show lane (nth _ (rowsOf rd 16 6 o) (c.val / 16)) c.val = _
  rw [nth_rowsOf _ _ _ _ _ _ (by omega), lane_fin _ c.val ⟨c.val % 16, by omega⟩ rfl]
  exact (h ⟨c.val / 16, by omega⟩ ⟨c.val % 16, by omega⟩).trans (congrArg α (Fin.ext (by simp only; omega)))

theorem scale_value : scales rd inv c (ix1 ⟨n.val, by omega⟩)
    = ((w c * (Real.sqrt (Maths.gvar x g (g c) n + eps))⁻¹ : ℝ) : EReal) := by
  show chan (rowsOf rd 16 6 144) c _ * pickG (gid (allGroups rd inv) c) (allRstds rd inv) _ = _
  rw [chan_value H g hg c (α := fun c => (w c : EReal)) 144 H.weight, rstd_value H g hg c n, ← EReal.coe_mul]

theorem shift_value : shifts rd inv c (ix1 ⟨n.val, by omega⟩)
    = b c - ((Maths.gmean x g (g c) n * (w c * (Real.sqrt (Maths.gvar x g (g c) n + eps))⁻¹) : ℝ) : EReal) := by
  show chan (rowsOf rd 16 6 240) c _ - pickG (gid (allGroups rd inv) c) (allMeans rd inv) _ * scales rd inv c _ = _
  rw [chan_value H g hg c (α := b) 240 H.bias, mean_value H g hg c n, scale_value H g hg c n, ← EReal.coe_mul]

end

end Cert.Params

end
-- ==== Proof.KernelFinal.lean ====
module

public import proofs.«01_k».proof.Proof.Main
public import proofs.«01_k».proof.Proof.Frames
public import proofs.«01_k».proof.Proof.TensorCalls
public import proofs.«01_k».proof.Proof.Pack
public import proofs.«01_k».proof.Proof.Unpack
public import proofs.«01_k».proof.Proof.ParamsValue

@[expose] public section

/-!
# The kernel's result at every index

The calls' results and the host's packing and unpacking put together: on real arguments the result is the normalized input.
-/

noncomputable section

namespace Cert.KernelIdeal.Run

open Cert.KernelIdeal Cert.KernelIdeal.Gen
open Cert.Real Cert.Maths Cert.Params
open Idealize.ShloMosaic
open Idealize.ShloMosaic.TcCoe
open Idealize.SL Idealize.SL.Sem

/-! ## The packed operand -/

theorem coe_sum2 (f : Fin 224 → Fin 224 → ℝ) : ∑ h, ∑ v, (f h v : EReal) = ((∑ h, ∑ v, f h v : ℝ) : EReal) := by
  simp only [← Cert.Real.coe_sum]

theorem sums_apply (X : S8x96x224x224.Idx → EReal) (f : Fin 8 → Fin 96 → Fin 224 → Fin 224 → ℝ)
    (hX : ∀ n c h v, X (ix4 n c h v) = (f n c h v : EReal)) (n : Fin 8) (c : Fin 96) (i : Fin 768) (hi : i.val = n.val * 96 + c.val) :
    sums X (ix2 i 0) = ((∑ h, ∑ v, f n c h v : ℝ) : EReal) := by
  rw [← coe_sum2]
  refine Finset.sum_congr rfl fun h _ => Finset.sum_congr rfl fun v _ => ?_
  rw [← hX]
  exact congrArg X (congrArg₂ (fun a b => ix4 a b h v) (Fin.ext (show i.val / 96 = n.val by omega)) (Fin.ext (show i.val % 96 = c.val by omega)))

section
variable (X : S8x96x224x224.Idx → EReal) (fwT : S8x16.Idx → EReal) (fbT : S8.Idx → EReal) (wT bT : S1x96x1x1.Idx → EReal)
variable (x : Fin 8 → Fin 96 → Fin 224 → Fin 224 → ℝ) (fw : Fin 8 → Fin 16 → ℝ) (fb : Fin 8 → EReal) (w : Fin 96 → ℝ)

include X in
/-- The rows the call reads hold the statistics and the layer's numbers. -/
theorem holds (hX : ∀ n c h v, X (ix4 n c h v) = (x n c h v : EReal)) (hW : ∀ k l, fwT (ix2 k l) = (fw k l : EReal))
    (hb : ∀ k, fbT (ix1 k) = fb k) (hw : ∀ c, wT (ix4 0 c 0 0) = (w c : EReal)) (d : Dev nD) (cc : Fin τ.nSC) (ss : Fin τ.nSub) :
    Holds (Params.rowOf (F := Ideal) (cc := cc) (ss := ss) d sK (packT fwT fbT wT bT (sums X) (sums (sq X)))) x fw fb w
      (fun c => bT (ix4 0 c 0 0)) := by
  have hQ : ∀ n c h v, sq X (ix4 n c h v) = ((x n c h v * x n c h v : ℝ) : EReal) := fun n c h v => by
    rw [sq, hX, EReal.coe_mul]
  constructor
  · intro k l
    rw [rowOf_apply _ _ _ _ _ (by omega), ← hW, ← pack_rule fwT fbT wT bT (sums X) (sums (sq X))]
    exact congrArg _ (congrArg ix1 (Fin.ext (by simp only; omega)))
  · intro k
    rw [rowOf_apply _ _ _ _ _ (by omega), ← hb, ← pack_ruleBias fwT fbT wT bT (sums X) (sums (sq X))]
  · intro j l
    rw [rowOf_apply _ _ _ _ _ (by omega), ← hw, ← pack_weight fwT fbT wT bT (sums X) (sums (sq X))]
    exact congrArg _ (congrArg ix1 (Fin.ext (by simp only; omega)))
  · intro j l
    rw [rowOf_apply _ _ _ _ _ (by omega), ← pack_bias fwT fbT wT bT (sums X) (sums (sq X))]
    exact congrArg _ (congrArg ix1 (Fin.ext (by simp only; omega)))
  · intro c n
    rw [rowOf_apply _ _ _ _ _ (by omega)]
    refine Eq.trans ?_ (sums_apply X x hX n c ⟨n.val * 96 + c.val, by omega⟩ rfl)
    rw [← sumsT_image (sums X), ← pack_sums fwT fbT wT bT (sums X) (sums (sq X))]
    exact congrArg _ (congrArg ix1 (Fin.ext (by simp only; omega)))
  · intro c
    rw [rowOf_apply _ _ _ _ _ (by omega)]
    refine Eq.trans ?_ (sumsT_one (sums X) c)
    rw [← pack_sums fwT fbT wT bT (sums X) (sums (sq X))]
    exact congrArg _ (congrArg ix1 (Fin.ext (by simp only; omega)))
  · intro c n
    rw [rowOf_apply _ _ _ _ _ (by omega)]
    refine Eq.trans ?_ (sums_apply (sq X) _ hQ n c ⟨n.val * 96 + c.val, by omega⟩ rfl)
    rw [← squaresT_image (sums (sq X)), ← pack_squares fwT fbT wT bT (sums X) (sums (sq X))]
    exact congrArg _ (congrArg ix1 (Fin.ext (by simp only; omega)))
  · intro n j l
    rw [rowOf_apply _ _ _ _ _ (by omega)]
    refine Eq.trans ?_ (sums_apply X x hX n ⟨16 * j.val + l.val, by omega⟩ ⟨n.val * 96 + (16 * j.val + l.val), by omega⟩ rfl)
    rw [← pack_sum fwT fbT wT bT (sums X) (sums (sq X))]
    exact congrArg _ (congrArg ix1 (Fin.ext (by simp only; omega)))
  · intro n j l
    rw [rowOf_apply _ _ _ _ _ (by omega)]
    refine Eq.trans ?_ (sums_apply (sq X) _ hQ n ⟨16 * j.val + l.val, by omega⟩ ⟨n.val * 96 + (16 * j.val + l.val), by omega⟩ rfl)
    rw [← pack_square fwT fbT wT bT (sums X) (sums (sq X))]
    exact congrArg _ (congrArg ix1 (Fin.ext (by simp only; omega)))
end

/-! ## The valuations -/

variable (m : (ℓ : Loc nD τ sig) → Buf (Elt Ideal) ℓ) (ga gb : Dev nD → S1536.Idx → Ideal .f32) (d : Dev nD)

theorem packed_eq : packed m d = packT (m (d, Proc.devRef .tc main_arg1)) (m (d, Proc.devRef .tc main_arg2))
    (m (d, Proc.devRef .tc main_arg3)) (m (d, Proc.devRef .tc main_arg4)) (sums (m (d, Proc.devRef .tc main_arg0)))
    (sums (sq (m (d, Proc.devRef .tc main_arg0)))) := by
  have kept1 : ∀ {r : Ref sig .tc}, r ≠ main_v0_0 → r ≠ main_v0_1 → W1 m d (Proc.devRef .tc r) = m (d, Proc.devRef .tc r) :=
    fun h0 h1 => (put_ne _ _ h1).trans (put_ne _ _ h0)
  have hs : W1 m d (Proc.devRef .tc main_v0_0) = sums (m (d, Proc.devRef .tc main_arg0)) :=
    ((put_ne _ _ (by decide)).trans (put_at _ _ _)).trans (out0_1_eq _ _ _ d)
  have hq : W1 m d (Proc.devRef .tc main_v0_1) = sums (sq (m (d, Proc.devRef .tc main_arg0))) :=
    (put_at _ _ _).trans (out0_2_eq _ _ _ d)
  unfold packed W2
  rw [before_packed, hs, hq, kept1 (by decide) (by decide), kept1 (by decide) (by decide), kept1 (by decide) (by decide),
    kept1 (by decide) (by decide)]

theorem W4_arg0 : W4 m ga gb d (Proc.devRef .tc main_arg0) = m (d, Proc.devRef .tc main_arg0) := by
  have h := W5_kept m ga gb d (r := main_arg0) (by decide)
  rw [W5, put_ne _ _ (by decide)] at h
  exact h

theorem W4_scale : W4 m ga gb d (Proc.devRef .tc main_v23) = columnT (leftA d c₀ i₀ (packed m d) (ga d)) := by
  unfold W4
  rw [after_scale]
  exact congrArg columnT ((put_ne _ _ (by decide)).trans (put_at _ _ _))

theorem W4_shift : W4 m ga gb d (Proc.devRef .tc main_v27) = columnT (leftB d c₀ i₀ (packed m d) (gb d)) := by
  unfold W4
  rw [after_shift]
  exact congrArg columnT (put_at _ _ _)

theorem W5_result : W5 m ga gb d (Proc.devRef .tc main_v28) = scaled (m (d, Proc.devRef .tc main_arg0))
    (columnT (leftA d c₀ i₀ (packed m d) (ga d))) (columnT (leftB d c₀ i₀ (packed m d) (gb d))) := by
  refine (put_at _ _ _).trans ((out2_3_eq _ _ _ d).trans ?_)
  rw [← W4_scale, ← W4_shift, ← W4_arg0 m ga gb]

theorem invHw_eq : (invHw : Ideal .f32) = inv := IdealRules.named_const.ideal_named_scalar _ _ _ _ rfl

theorem scaled_apply (X : S8x96x224x224.Idx → EReal) (A B : S768x1.Idx → EReal) (x s t : EReal) (n : Fin 8) (c : Fin 96) (h v : Fin 224)
    (hX : X (ix4 n c h v) = x) (hA : A (ix2 ⟨n.val * 96 + c.val, by omega⟩ 0) = s) (hB : B (ix2 ⟨n.val * 96 + c.val, by omega⟩ 0) = t) :
    scaled X A B (ix4 n c h v) = x * s + t := by
  rw [← hX, ← hA, ← hB]
  rfl

/-- The kernel's result at every index, by groups that are the first of each channel's largest logit. -/
theorem result (x : Fin 8 → Fin 96 → Fin 224 → Fin 224 → ℝ) (fw : Fin 8 → Fin 16 → ℝ) (fb : Fin 8 → EReal) (w : Fin 96 → ℝ)
    (hX : ∀ n c h v, (m (d, Proc.devRef .tc main_arg0) : S8x96x224x224.Idx → EReal) (ix4 n c h v) = (x n c h v : EReal))
    (hW : ∀ k l, (m (d, Proc.devRef .tc main_arg1) : S8x16.Idx → EReal) (ix2 k l) = (fw k l : EReal))
    (hb : ∀ k, (m (d, Proc.devRef .tc main_arg2) : S8.Idx → EReal) (ix1 k) = fb k)
    (hw : ∀ c, (m (d, Proc.devRef .tc main_arg3) : S1x96x1x1.Idx → EReal) (ix4 0 c 0 0) = (w c : EReal))
    (bT : S1x96x1x1.Idx → EReal) (hbT : m (d, Proc.devRef .tc main_arg4) = bT)
    (g : Fin 96 → Fin 8) (hg : ∀ c, IsFirstMax (logit x fw fb c) (g c)) (n : Fin 8) (c : Fin 96) (h v : Fin 224) :
    (W5 m ga gb d (Proc.devRef .tc main_v28) : S8x96x224x224.Idx → EReal) (ix4 n c h v)
      = (((x n c h v - gmean x g (g c) n) * (Real.sqrt (gvar x g (g c) n + eps))⁻¹ * w c : ℝ) : EReal)
        + bT (ix4 0 c 0 0) := by
  have H := holds _ _ _ _ bT x fw fb w hX hW hb hw d c₀ i₀
  have hA : columnT (leftA d c₀ i₀ (packed m d) (ga d)) (ix2 ⟨n.val * 96 + c.val, by omega⟩ 0)
      = ((w c * (Real.sqrt (gvar x g (g c) n + eps))⁻¹ : ℝ) : EReal) := by
    rw [columnT_apply, packed_eq, hbT]
    exact ((leftA_apply d c₀ i₀ _ _ c ⟨n.val, by omega⟩).trans (by rw [invHw_eq])).trans (scale_value H g hg c n)
  have hB : columnT (leftB d c₀ i₀ (packed m d) (gb d)) (ix2 ⟨n.val * 96 + c.val, by omega⟩ 0)
      = bT (ix4 0 c 0 0)
        - ((gmean x g (g c) n * (w c * (Real.sqrt (gvar x g (g c) n + eps))⁻¹) : ℝ) : EReal) := by
    rw [columnT_apply, packed_eq, hbT]
    exact ((leftB_apply d c₀ i₀ _ _ c ⟨n.val, by omega⟩).trans (by rw [invHw_eq])).trans (shift_value H g hg c n)
  rw [W5_result]
  refine (scaled_apply _ _ _ _ _ _ n c h v (hX n c h v) hA hB).trans ?_
  exact normalize _ _ _ _ _ (add_pos_of_nonneg_of_pos (gvar_nonneg x g n c) eps_pos)

end Cert.KernelIdeal.Run

end
-- ==== Proof.RefTables.lean ====
module

public import proofs.«01_k».proof.Proof.Reference
public import Idealize.ShloMosaic.Lib.StableHlo.RunRead
public import Idealize.ShloMosaic.PureOps.Ideal

@[expose] public section

/-!
# The reference's arrays as functions of its arguments

One function per array that matters, in the reference's own operations, and what each stretch of its run leaves.
-/

noncomputable section

namespace Cert.ReferenceIdeal.Run

open Cert.ReferenceIdeal Cert.ReferenceIdeal.Gen
open Idealize.ShloMosaic
open Idealize.ShloMosaic.TcCoe
open Idealize.SL.Sem

abbrev zero : FVec Ideal S_ .f32 := constant S_ .f32 0x00000000#32
abbrev one : FVec Ideal S_ .f32 := constant S_ .f32 0x3F800000#32
abbrev hw : FVec Ideal S_ .f32 := constant S_ .f32 0x47440000#32
abbrev lowest : FVec Ideal S_ .f32 := constant S_ .f32 0xFF800000#32
abbrev unused : FVec Ideal S_ .f32 := constant S_ .f32 0x7FC00000#32

/-- The image by channels, its positions in one row. -/
def rowsT (x : FVec Ideal S8x96x224x224 .f32) : FVec Ideal S96x8x50176 .f32 :=
  shapeCast S96x8x50176 (transpose S96x8x224x224 [1, 0, 2, 3] x transposes_S8x96x224x224_S96x8x224x224_1_0_2_3)
    shapeCasts_S96x8x224x224_S96x8x50176

def meanT (x : FVec Ideal S96x8x50176 .f32) : FVec Ideal S96x8 .f32 :=
  Host.divf (Host.reduceAdd x zero reducesTo_S96x8x50176_S96x8_d2 h_S_) (broadcastInDim S96x8 ![] bcast_S_S96x8 hw)

def varT (x : FVec Ideal S96x8x50176 .f32) : FVec Ideal S96x8 .f32 :=
  let d : FVec Ideal S96x8x50176 .f32 := subf x (broadcastInDim S96x8x50176 ![0, 1, 2] bcast_S96x8x1_S96x8x50176_0_1_2
    (Host.divf (broadcastInDim S96x8x1 ![0, 1] bcast_S96x8_S96x8x1_0_1
        (Host.reduceAdd x zero reducesTo_S96x8x50176_S96x8_d2 h_S_))
      (broadcastInDim S96x8x1 ![] bcast_S_S96x8x1 hw)))
  let m : FVec Ideal S_ .f32 := subf hw (sitofp .f32 (constantI S_ 32 1#32))
  select (broadcastInDim S96x8 ![] bcast_S_S96x8 (cmpf .ogt m zero))
    (Host.divf (Host.reduceAdd (mulf d d) zero reducesTo_S96x8x50176_S96x8_d2 h_S_) (broadcastInDim S96x8 ![] bcast_S_S96x8 m))
    (broadcastInDim S96x8 ![] bcast_S_S96x8 unused)

def logitT (a b : FVec Ideal S96x8 .f32) (fw : FVec Ideal S8x16 .f32) (fb : FVec Ideal S8 .f32) : FVec Ideal S96x8 .f32 :=
  addf (Host.dotGeneral dot_S96x16_S16x8_S96x8_1_0_0_1_n_n none
      (concatenate S96x16 1 [⟨S96x8, a⟩, ⟨S96x8, b⟩] concatenates_S96x8_S96x8_S96x16_d1)
      (transpose S16x8 [1, 0] fw transposes_S8x16_S16x8_1_0))
    (broadcastInDim S96x8 ![0, 1] bcast_S1x8_S96x8_0_1 (broadcastInDim S1x8 ![1] bcast_S8_S1x8_1 fb))

def maxT (l : FVec Ideal S96x8 .f32) : FVec Ideal S96 .f32 :=
  maximumf (broadcastInDim S96 ![] bcast_S_S96 lowest)
    (Host.reduce FloatOps.maximumf l lowest reducesTo_S96x8_S96_d1 h_S_)

def expT (l : FVec Ideal S96x8 .f32) (m : FVec Ideal S96 .f32) : FVec Ideal S96x8 .f32 :=
  Host.exp (subf l (broadcastInDim S96x8 ![0, 1] bcast_S96x1_S96x8_0_1 (broadcastInDim S96x1 ![0] bcast_S96_S96x1_0 m)))

def softT (e : FVec Ideal S96x8 .f32) : FVec Ideal S96x8 .f32 :=
  Host.divf e (broadcastInDim S96x8 ![0, 1] bcast_S96x1_S96x8_0_1 (broadcastInDim S96x1 ![0] bcast_S96_S96x1_0
    (Host.reduceAdd e zero reducesTo_S96x8_S96_d1 h_S_)))

def groupT (p : FVec Ideal S96x8 .f32) : IVec S96 32 := fun j =>
  (Host.argReduce reducer_argmax_f32_i32 p (iotaInDim S96x8 32 1) lowest (constantI S_ 32 0#32) reducesTo_S96x8_S96_d1 h_S_ j).2

def oneHotT (g : IVec S96 32) : FVec Ideal S96x8 .f32 :=
  uitofp .f32 (cmpi .eq (broadcastInDim S96x8 ![0, 1] bcast_S96x1_S96x8_0_1 (broadcastInDim S96x1 ![0] bcast_S96_S96x1_0 g))
    (broadcastInDim S96x8 ![0, 1] bcast_S1x8_S96x8_0_1 (iotaInDim S1x8 32 1)))

def sumT (x : FVec Ideal S8x96x224x224 .f32) : FVec Ideal S8x96 .f32 :=
  Host.reduceAdd x zero reducesTo_S8x96x224x224_S8x96_d2_3 h_S_

def overT (s : FVec Ideal S8x96 .f32) (o : FVec Ideal S96x8 .f32) : FVec Ideal S8x8 .f32 :=
  Host.dotGeneral dot_S8x96_S96x8_S8x8_1_0_0_1_n_n none s o

def countT (o : FVec Ideal S96x8 .f32) : FVec Ideal S8 .f32 :=
  mulf (Host.reduceAdd o zero reducesTo_S96x8_S8_d0 h_S_) (broadcastInDim S8 ![] bcast_S_S8 hw)

abbrev down (v : FVec Ideal S8 .f32) : FVec Ideal S8x8 .f32 :=
  broadcastInDim S8x8 ![0, 1] bcast_S1x8_S8x8_0_1 (broadcastInDim S1x8 ![1] bcast_S8_S1x8_1 v)

def gmeanT (s : FVec Ideal S8x8 .f32) (k : FVec Ideal S8 .f32) : FVec Ideal S8x8 .f32 :=
  Host.divf s (down (maximumf k (broadcastInDim S8 ![] bcast_S_S8 one)))

def devT (q : FVec Ideal S8x8 .f32) (k : FVec Ideal S8 .f32) (m : FVec Ideal S8x8 .f32) : FVec Ideal S8x8 .f32 :=
  subf q (mulf (mulf (down k) m) m)

def lessT (k : FVec Ideal S8 .f32) : FVec Ideal S8 .f32 :=
  maximumf (subf k (broadcastInDim S8 ![] bcast_S_S8 one)) (broadcastInDim S8 ![] bcast_S_S8 one)

def gvarT (q : FVec Ideal S8x8 .f32) (n : FVec Ideal S8 .f32) : FVec Ideal S8x8 .f32 := Host.divf q (down n)

/-- The places looked up, a negative one counted from the end. -/
def placeT (g : IVec S96 32) : IVec S96x1 32 :=
  broadcastInDim S96x1 ![0] bcast_S96_S96x1_0 (select (cmpi .slt g (broadcastInDim S96 ![] bcast_S_S96 (constantI S_ 32 0#32)))
    (addi g (broadcastInDim S96 ![] bcast_S_S96 (constantI S_ 32 8#32))) g)

/-- Which of them are in the table. -/
def insideT (p : IVec S96x1 32) : IVec S96 1 :=
  Host.reduce IntOp.andi (andi (cmpi .sge p (broadcastInDim S96x1 ![] bcast_S_S96x1 (constantI S_ 32 0#32)))
    (cmpi .sle p (broadcastInDim S96x1 ![0, 1] bcast_S1x1_S96x1_0_1 (broadcastInDim S1x1 ![1] bcast_S1_S1x1_1 (constantI S1 32 7#32)))))
    (constantI S_ 1 1#1) reducesTo_S96x1_S96_d1 h_S_

def takeT (t : FVec Ideal S8x8 .f32) (p : IVec S96x1 32) : FVec Ideal S8x96 .f32 :=
  select (broadcastInDim S8x96 ![1] bcast_S96_S8x96_1 (insideT p)) (Host.gather gather_S8x8_S96x1_S8x96_0_1_n_n_1_1_81 t p)
    (broadcastInDim S8x96 ![] bcast_S_S8x96 unused)

abbrev wide (v : FVec Ideal S8x96 .f32) : FVec Ideal S8x96x1x1 .f32 :=
  broadcastInDim S8x96x1x1 ![0, 1] bcast_S8x96_S8x96x1x1_0_1 v

def resultT (x : FVec Ideal S8x96x224x224 .f32) (gm gv : FVec Ideal S8x96 .f32) (w b : FVec Ideal S1x96x1x1 .f32) :
    FVec Ideal S8x96x224x224 .f32 :=
  addf (mulf (Host.divf
      (subf x (broadcastInDim S8x96x224x224 ![0, 1, 2, 3] bcast_S8x96x1x1_S8x96x224x224_0_1_2_3 (wide gm)))
      (broadcastInDim S8x96x224x224 ![0, 1, 2, 3] bcast_S8x96x1x1_S8x96x224x224_0_1_2_3
        (Host.sqrt (addf (wide gv) (broadcastInDim S8x96x1x1 ![] bcast_S_S8x96x1x1 (constant S_ .f32 0x3727C5AC#32))))))
      (broadcastInDim S8x96x224x224 ![0, 1, 2, 3] bcast_S1x96x1x1_S8x96x224x224_0_1_2_3 w))
    (broadcastInDim S8x96x224x224 ![0, 1, 2, 3] bcast_S1x96x1x1_S8x96x224x224_0_1_2_3 b)

/-! ## What the stretches leave -/

variable (W : Valuation τ sig (Elt Ideal))

theorem channel_logits : StableHlo.after channel W (Proc.devRef .tc main_v11)
    = (logitT (meanT (rowsT (W (Proc.devRef .tc main_arg0)))) (varT (rowsT (W (Proc.devRef .tc main_arg0))))
      (W (Proc.devRef .tc main_arg1)) (W (Proc.devRef .tc main_arg2)) : S96x8.Idx → EReal) := by
  after_reads_simp
  rfl

theorem choice_group : StableHlo.after choice W (Proc.devRef .tc main_v23)
    = (groupT (softT (expT (W (Proc.devRef .tc main_v11)) (maxT (W (Proc.devRef .tc main_v11))))) : S96.Idx → BitVec 32) := by
  after_reads_simp
  rfl

theorem choice_oneHot : StableHlo.after choice W (Proc.devRef .tc main_v24)
    = (oneHotT (groupT (softT (expT (W (Proc.devRef .tc main_v11)) (maxT (W (Proc.devRef .tc main_v11)))))) : S96x8.Idx → EReal) := by
  after_reads_simp
  rfl

theorem groups_mean : StableHlo.after groups W (Proc.devRef .tc main_v37)
    = (gmeanT (overT (sumT (W (Proc.devRef .tc main_arg0))) (W (Proc.devRef .tc main_v24))) (countT (W (Proc.devRef .tc main_v24)))
      : S8x8.Idx → EReal) := by
  after_reads_simp
  rfl

theorem groups_dev : StableHlo.after groups W (Proc.devRef .tc main_v42)
    = (devT (overT (sumT (mulf (F := Ideal) (φ := .f32) (s := S8x96x224x224) (W (Proc.devRef .tc main_arg0)) (W (Proc.devRef .tc main_arg0)))) (W (Proc.devRef .tc main_v24)))
      (countT (W (Proc.devRef .tc main_v24)))
      (gmeanT (overT (sumT (W (Proc.devRef .tc main_arg0))) (W (Proc.devRef .tc main_v24))) (countT (W (Proc.devRef .tc main_v24))))
      : S8x8.Idx → EReal) := by
  after_reads_simp
  rfl

theorem groups_less : StableHlo.after groups W (Proc.devRef .tc main_v46)
    = (lessT (countT (W (Proc.devRef .tc main_v24))) : S8.Idx → EReal) := by
  after_reads_simp
  rfl

theorem variance_var : StableHlo.after variance W (Proc.devRef .tc main_v49)
    = (gvarT (W (Proc.devRef .tc main_v42)) (W (Proc.devRef .tc main_v46)) : S8x8.Idx → EReal) := by
  after_reads_simp
  rfl

theorem takeMean_take : StableHlo.after takeMean W (Proc.devRef .tc main_v50)
    = (takeT (W (Proc.devRef .tc main_v37)) (placeT (W (Proc.devRef .tc main_v23))) : S8x96.Idx → EReal) := by
  after_reads_simp
  rfl

theorem takeVar_take : StableHlo.after takeVar W (Proc.devRef .tc main_v51)
    = (takeT (W (Proc.devRef .tc main_v49)) (placeT (W (Proc.devRef .tc main_v23))) : S8x96.Idx → EReal) := by
  after_reads_simp
  rfl

theorem result_result : StableHlo.after result W (Proc.devRef .tc main_v64)
    = (resultT (W (Proc.devRef .tc main_arg0)) (W (Proc.devRef .tc main_v50)) (W (Proc.devRef .tc main_v51))
      (W (Proc.devRef .tc main_arg3)) (W (Proc.devRef .tc main_arg4)) : S8x96x224x224.Idx → EReal) := by
  after_reads_simp
  rfl

end Cert.ReferenceIdeal.Run

end
-- ==== Proof.ArgMax.lean ====
module

public import proofs.«01_k».proof.Proof.RefTables
public import proofs.«01_k».proof.Proof.Maths
public import Idealize.ShloMosaic.PureOps.Ideal.Laws
public import Idealize.ShloMosaic.Lib.Pointwise.Reduce

@[expose] public section

/-!
# The place of the largest probability

The reduction that keeps a value and its place yields the first place of the largest value.
-/

noncomputable section

namespace Cert.ReferenceIdeal.Run

open Cert.ReferenceIdeal Cert.ReferenceIdeal.Gen Cert.Maths
open Idealize.ShloMosaic

/-- A value and its place. -/
abbrev entry (q : EReal × Fin 8) : EReal × BitVec 32 := (q.1, BitVec.ofNat 32 q.2)

/-- Entry `a` is preferred to entry `b`, or is it. -/
def Prefers (a b : EReal × Fin 8) : Prop := b.1 < a.1 ∨ b.1 = a.1 ∧ a.2 ≤ b.2

theorem Prefers.trans {a b c : EReal × Fin 8} (h : Prefers a b) (k : Prefers b c) : Prefers a c := by
  rcases h with h | ⟨h, h'⟩ <;> rcases k with k | ⟨k, k'⟩
  · exact .inl (k.trans h)
  · exact .inl (k ▸ h)
  · exact .inl (h ▸ k)
  · exact .inr ⟨k.trans h, h'.trans k'⟩

theorem slt_places : ∀ a b : Fin 8, IntOp.cmpi .slt (BitVec.ofNat 32 a) (BitVec.ofNat 32 b) = BitVec.ofBool (decide (a < b)) := by
  decide

/-- One step between two entries keeps one that is preferred to both. -/
theorem step (a b : EReal × Fin 8) :
    ∃ k, reducer_argmax_f32_i32 (F := Ideal) (entry a) (entry b) = entry k ∧ (k = a ∨ k = b) ∧ Prefers k a ∧ Prefers k b := by
  have e : reducer_argmax_f32_i32 (F := Ideal) (entry a) (entry b)
      = if b.1 < a.1 ∨ a.1 = b.1 ∧ a.2 < b.2 then entry a else entry b := by
    unfold reducer_argmax_f32_i32
    simp only [slt_places, Ideal.cmpf_def, Ideal.cmp]
    by_cases h1 : b.1 < a.1 <;> by_cases h2 : a.1 = b.1 <;> by_cases h3 : a.2 < b.2 <;>
      simp [h1, h2, h3, Scalar.select, IntOp.ori, IntOp.andi]
  rw [e]
  split
  · rename_i h
    refine ⟨a, rfl, .inl rfl, .inr ⟨rfl, le_rfl⟩, ?_⟩
    rcases h with h | ⟨h, h'⟩
    · exact .inl h
    · exact .inr ⟨h.symm, h'.le⟩
  · rename_i h
    rw [not_or, not_and] at h
    refine ⟨b, rfl, .inr rfl, ?_, .inr ⟨rfl, le_rfl⟩⟩
    rcases (not_lt.1 h.1).lt_or_eq with h' | h'
    · exact .inl h'
    · exact .inr ⟨h', not_lt.1 (h.2 h')⟩

theorem steps (l : List (EReal × Fin 8)) (a : EReal × Fin 8) :
    ∃ k, (l.map entry).foldl (reducer_argmax_f32_i32 (F := Ideal)) (entry a) = entry k
      ∧ (k = a ∨ k ∈ l) ∧ Prefers k a ∧ ∀ b ∈ l, Prefers k b := by
  induction l generalizing a with
  | nil => exact ⟨a, rfl, .inl rfl, .inr ⟨rfl, le_rfl⟩, by simp⟩
  | cons b l ih =>
    obtain ⟨k, e, hm, ha, hb⟩ := step a b
    obtain ⟨k', e', hm', hk, hl⟩ := ih k
    refine ⟨k', by rw [List.map_cons, List.foldl_cons, e, e'], ?_, hk.trans ha, fun c hc => ?_⟩
    · rcases hm' with rfl | h
      · rcases hm with rfl | rfl
        · exact .inl rfl
        · exact .inr List.mem_cons_self
      · exact .inr (List.mem_cons_of_mem _ h)
    · rcases List.mem_cons.1 hc with rfl | hc
      · exact hk.trans hb
      · exact hl c hc

/-- Over every place, in whatever order, the first place of the largest value is left: the reduction starts below every
value and at the first place. -/
theorem steps_all (p : Fin 8 → EReal) (l : List (Fin 8)) (hl : ∀ k, k ∈ l) :
    ∃ k, (l.map fun k => entry (p k, k)).foldl (reducer_argmax_f32_i32 (F := Ideal)) (⊥, 0#32) = entry (p k, k) ∧ IsFirstMax p k := by
  obtain ⟨k, e, hm, ha, hb⟩ := steps (l.map fun k => (p k, k)) (⊥, 0)
  have hb : ∀ j, Prefers k (p j, j) := fun j => hb _ (List.mem_map.2 ⟨j, hl j, rfl⟩)
  have hk : k = (p k.2, k.2) := by
    rcases hm with rfl | h
    · rcases hb 0 with h | ⟨h, _⟩
      · exact absurd h not_lt_bot
      · exact Prod.ext h.symm rfl
    · obtain ⟨j, _, rfl⟩ := List.mem_map.1 h
      rfl
  refine ⟨k.2, ?_, fun j => ?_, fun j hj => ?_⟩
  · rw [← hk, ← e, List.map_map]
    rfl
  · have h := hb j
    rw [hk] at h
    rcases h with h | ⟨h, _⟩
    · exact h.le
    · exact h.le
  · have h := hb j
    rw [hk] at h
    rcases h with h | ⟨_, h⟩
    · exact h
    · exact absurd hj (not_lt.2 h)

/-- The reference's groups: for each channel, the first place of its largest probability. -/
theorem groupT_apply (P : FVec Ideal S96x8 .f32) (c : Fin 96) (p : Fin 8 → EReal) (hp : ∀ k, P (ix2 c k) = p k) :
    ∃ k : Fin 8, groupT P (ix1 c) = BitVec.ofNat 32 k ∧ IsFirstMax p k := by
  have hf : ∃ l : List (Fin 8), (∀ k, k ∈ l)
      ∧ Host.argReduceFiber P (iotaInDim S96x8 32 1) reducesTo_S96x8_S96_d1 (ix1 c) = l.map (fun k => entry (p k, k)) := by
    refine ⟨((List.finRange S96x8.numel).filter fun n => reducesTo_S96x8_S96_d1.drop (S96x8.rowMajor.symm n) = ix1 c).map
      (fun n => ((S96x8.rowMajor.symm n) 1 : Fin 8)), fun k => ?_, ?_⟩
    · refine List.mem_map.2 ⟨S96x8.rowMajor (ix2 c k), List.mem_filter.2 ⟨List.mem_finRange _, ?_⟩, ?_⟩
      · simp only [Equiv.symm_apply_apply, decide_eq_true_eq]
        exact (reducesTo_S96x8_S96_d1.fiber_r2_a1 (ix1 c) _).2 ⟨k, rfl⟩
      · rw [Equiv.symm_apply_apply]; rfl
    · unfold Host.argReduceFiber
      refine Eq.trans ?_ (List.map_map (g := fun k => entry (p k, k))).symm
      refine List.map_congr_left fun n hn => ?_
      obtain ⟨k, hk⟩ := (reducesTo_S96x8_S96_d1.fiber_r2_a1 (ix1 c) _).1 (of_decide_eq_true (List.mem_filter.1 hn).2)
      change (P (S96x8.rowMajor.symm n), iotaInDim S96x8 32 1 (S96x8.rowMajor.symm n)) = entry (p ((S96x8.rowMajor.symm n) 1), (S96x8.rowMajor.symm n) 1)
      rw [← hk]
      exact Prod.ext (hp k) rfl
  obtain ⟨l, hl, hf⟩ := hf
  obtain ⟨k, e, hk⟩ := steps_all p l hl
  refine ⟨k, ?_, hk⟩
  unfold groupT
  rw [Ideal.argReduce_eq_reduce2, Host.reduce2_eq_foldl_fiber, hf]
  have e0 : lowest (Shape.Idx.first h_S_) = (⊥ : EReal) := Cert.Real.bits_lowest
  rw [e0]
  exact congrArg Prod.snd e

end Cert.ReferenceIdeal.Run

end
-- ==== Proof.Softmax.lean ====
module

public import proofs.«01_k».proof.Proof.Maths
public import proofs.«01_k».proof.Proof.Consts
public import Idealize.ShloMosaic.PureOps.Ideal

@[expose] public section

/-!
# The softmax's order and the groups of it

Scores are a real and a bias that may be infinite. Where the largest is real, the softmax is ordered as the scores are.
Where it isn't, the bias alone decides, and every channel has the same group.
-/

noncomputable section

namespace Cert.Maths

open Idealize.ShloMosaic Cert.Real

/-- The exponential of a score below plus infinity, less a real: a real that is not negative, and zero only at minus infinity. -/
theorem exp_sub (M : ℝ) {l : EReal} (hl : l ≠ ⊤) : ∃ r : ℝ, Ideal.exp (l - (M : EReal)) = (r : EReal) ∧ 0 ≤ r ∧ (l ≠ ⊥ → 0 < r) := by
  induction l with
  | bot => exact ⟨0, by rw [EReal.bot_sub]; rfl, le_rfl, fun h => absurd rfl h⟩
  | top => exact absurd rfl hl
  | coe a => exact ⟨Real.exp (a - M), by rw [← EReal.coe_sub]; rfl, (Real.exp_pos _).le, fun _ => Real.exp_pos _⟩

theorem exp_sub_le_iff (M : ℝ) {l l' : EReal} (hl : l ≠ ⊤) (hl' : l' ≠ ⊤) :
    Ideal.exp (l - (M : EReal)) ≤ Ideal.exp (l' - (M : EReal)) ↔ l ≤ l' := by
  have hb : Ideal.exp (⊥ - (M : EReal)) = ((0 : ℝ) : EReal) := by rw [EReal.bot_sub]; rfl
  have hc : ∀ a : ℝ, Ideal.exp ((a : EReal) - (M : EReal)) = (Real.exp (a - M) : EReal) := fun a => by
    rw [← EReal.coe_sub]; rfl
  induction l with
  | top => exact absurd rfl hl
  | bot =>
    obtain ⟨r, e, hr, -⟩ := exp_sub M hl'
    rw [hb, e]
    exact ⟨fun _ => bot_le, fun _ => EReal.coe_le_coe_iff.2 hr⟩
  | coe a =>
    induction l' with
    | top => exact absurd rfl hl'
    | bot =>
      rw [hb, hc]
      exact ⟨fun h => absurd (EReal.coe_le_coe_iff.1 h) (not_le.2 (Real.exp_pos _)), fun h => absurd h (not_le.2 (EReal.bot_lt_coe _))⟩
    | coe a' =>
      rw [hc, hc, EReal.coe_le_coe_iff, EReal.coe_le_coe_iff, Real.exp_le_exp]
      exact sub_le_sub_iff_right M

/-- Where the largest score is real, the softmax of the scores is largest first where the scores are. -/
theorem softmax_first (l : Fin 8 → EReal) (M : ℝ) (ht : ∀ k, l k ≠ ⊤) (hb : ∃ k, l k ≠ ⊥) (k : Fin 8)
    (h : IsFirstMax (fun k => Ideal.div (Ideal.exp (l k - (M : EReal))) (∑ t, Ideal.exp (l t - (M : EReal)))) k) : IsFirstMax l k := by
  choose e he h0 hp using fun k => exp_sub M (ht k)
  obtain ⟨k₀, hk₀⟩ := hb
  have hZ : 0 < ∑ t, e t := Finset.sum_pos' (fun t _ => h0 t) ⟨k₀, Finset.mem_univ _, hp k₀ hk₀⟩
  refine h.of_le_iff fun i j => ?_
  simp only [he]
  rw [← coe_sum, div_coe _ _ hZ.ne', div_coe _ _ hZ.ne', EReal.coe_le_coe_iff, mul_le_mul_iff_left₀ (inv_pos.2 hZ),
    ← EReal.coe_le_coe_iff, ← he, ← he, exp_sub_le_iff M (ht i) (ht j)]

/-- Where the largest score is infinite, the softmax is the same at every place. -/
theorem softmax_const (l : Fin 8 → EReal) (M : EReal) (h : M = ⊤ ∨ M = ⊥ ∧ ∀ k, l k = ⊥) (k : Fin 8) :
    Ideal.div (Ideal.exp (l k - M)) (∑ t, Ideal.exp (l t - M)) = ⊥ := by
  have e : ∀ t, Ideal.exp (l t - M) = 0 := fun t => by
    rcases h with rfl | ⟨rfl, h⟩
    · rw [EReal.sub_top]; rfl
    · rw [h, EReal.bot_sub]; rfl
  simp [e, Ideal.div]

section
variable (s : Fin 96 → Fin 8 → ℝ) (fb : Fin 8 → EReal)

/-- Where a bias is plus infinity, or all are minus infinity, every channel has the same group. -/
theorem same_group (h : (∃ k, fb k = ⊤) ∨ ∀ k, fb k = ⊥) (g : Fin 96 → Fin 8)
    (hg : ∀ c, IsFirstMax (fun k => (s c k : EReal) + fb k) (g c)) (c c' : Fin 96) : g c = g c' := by
  refine IsFirstMax.unique (l := fb) ?_ ?_ <;> generalize hg _ = H
  all_goals
    rcases h with ⟨k, hk⟩ | h
    · have top : ∀ {r : ℝ} {b : EReal}, (r : EReal) + b = ⊤ → b = ⊤ := fun {r b} h => by
        induction b with
        | top => rfl
        | bot => rw [EReal.add_bot] at h; exact h
        | coe a => rw [← EReal.coe_add] at h; exact absurd h (EReal.coe_ne_top _)
      have e := H.1 k
      simp only [hk, EReal.coe_add_top, top_le_iff] at e
      replace e := top e
      refine ⟨fun j => e ▸ le_top, fun j hj => e ▸ lt_top_iff_ne_top.2 fun hj' => ?_⟩
      have := H.2 j hj
      simp only [hj', EReal.coe_add_top] at this
      exact absurd this not_top_lt
    · refine ⟨fun j => by rw [h, h], fun j hj => ?_⟩
      have := H.2 j hj
      simp only [h, EReal.add_bot] at this
      exact absurd this (lt_irrefl _)
end

end Cert.Maths

end
-- ==== Proof.RefValue.lean ====
module

public import proofs.«01_k».proof.Proof.ArgMax
public import proofs.«01_k».proof.Proof.Softmax
public import proofs.«01_k».proof.Proof.Sums
public import Idealize.ShloMosaic.Lib.Pointwise.Tactic
public import Idealize.ShloMosaic.Lib.Pointwise.Reduce
public import Idealize.ShloMosaic.Lib.Pointwise.Reshape
public import Idealize.ShloMosaic.Lib.Pointwise.Contract
public import Idealize.ShloMosaic.Lib.Pointwise.Select
public import Idealize.ShloMosaic.Lib.Pointwise.Sums

@[expose] public section

/-!
# What the reference's arrays hold, on real arguments
-/

noncomputable section

namespace Cert.ReferenceIdeal.Run

open Cert.ReferenceIdeal Cert.ReferenceIdeal.Gen Cert.Maths Cert.Real
open Idealize.ShloMosaic

variable (x : Fin 8 → Fin 96 → Fin 224 → Fin 224 → ℝ) (X : FVec Ideal S8x96x224x224 .f32)

theorem rowsT_apply (c : Fin 96) (n : Fin 8) (k : Fin 50176) :
    rowsT X (ix3 c n k) = X (ix4 n c ⟨k / 224, by omega⟩ ⟨k % 224, by omega⟩) := by
  unfold rowsT
  pointwise

section Channel

variable (hX : ∀ n c h w, X (ix4 n c h w) = (x n c h w : EReal))
include hX

theorem rowsT_sum (c : Fin 96) (n : Fin 8) : ∑ k, rowsT X (ix3 c n k) = (sumX x n c : EReal) := by
  simp only [rowsT_apply, hX]
  rw [← coe_sum, Cert.Sums.sum_positions (fun h w => x n c h w)]
  rfl

theorem meanT_apply (c : Fin 96) (n : Fin 8) : meanT (rowsT X) (ix2 c n) = (mean x n c : EReal) := by
  unfold meanT
  pointwise
  rw [rowsT_sum x X hX, bits_hw, div_coe _ _ (by norm_num)]
  rfl

theorem varT_apply (c : Fin 96) (n : Fin 8) : varT (rowsT X) (ix2 c n) = (var x n c : EReal) := by
  have e1 : ((50176 : ℝ) : EReal) - FloatOps.sitofp (F := Ideal) .f32 1#32 = ((50175 : ℝ) : EReal) := by
    change ((50176 : ℝ) : EReal) - (((1#32 : BitVec 32).toInt : ℝ) : EReal) = _
    rw [← EReal.coe_sub]
    norm_num
  unfold varT
  pointwise
  rw [rowsT_sum x X hX, bits_hw, div_coe _ _ (by norm_num), e1]
  rw [if_pos (by exact_mod_cast (by norm_num : (0 : ℝ) < 50175))]
  simp only [rowsT_apply, hX, ← EReal.coe_sub, ← EReal.coe_mul]
  rw [← coe_sum, Cert.Sums.sum_positions (fun h w => (x n c h w - sumX x n c * 50176⁻¹) * (x n c h w - sumX x n c * 50176⁻¹)),
    div_coe _ _ (by norm_num)]
  exact congrArg _ (sum_dev x n c)

theorem sumT_apply (n : Fin 8) (c : Fin 96) : sumT X (ix2 n c) = (sumX x n c : EReal) := by
  unfold sumT
  rw [ValueIdx.hostReduceAdd_apply]
  rw [Cert.Sums.host_sum]
  simp only [hX, ← coe_sum]
  pointwise
  rfl

theorem sumT_sq_apply (n : Fin 8) (c : Fin 96) : sumT (mulf X X) (ix2 n c) = (sumQ x n c : EReal) := by
  unfold sumT
  rw [ValueIdx.hostReduceAdd_apply]
  rw [Cert.Sums.host_sum]
  pointwise
  simp only [hX, ← EReal.coe_mul, ← coe_sum]
  rfl

end Channel

section Choice

variable (fw : Fin 8 → Fin 16 → ℝ) (fb : Fin 8 → EReal)

theorem logitT_apply (A B : FVec Ideal S96x8 .f32) (FW : FVec Ideal S8x16 .f32) (FB : FVec Ideal S8 .f32)
    (hA : ∀ c n, A (ix2 c n) = (mean x n c : EReal)) (hB : ∀ c n, B (ix2 c n) = (var x n c : EReal))
    (hW : ∀ k l, FW (ix2 k l) = (fw k l : EReal)) (hb : ∀ k, FB (ix1 k) = fb k) (c : Fin 96) (k : Fin 8) :
    logitT A B FW FB (ix2 c k) = logit x fw fb c k := by
  unfold logitT
  pointwise
  simp only [hA, hB, hW, hb, ← EReal.coe_mul, ← coe_sum, ← EReal.coe_add]
  rfl

theorem maxT_apply (L : FVec Ideal S96x8 .f32) (c : Fin 96) :
    maxT L (ix1 c) = Finset.fold max ⊥ (fun k => (L (ix2 c k) : EReal)) Finset.univ := by
  unfold maxT
  pointwise
  simp only [bits_lowest, bot_sup_eq]

theorem softT_apply (L : FVec Ideal S96x8 .f32) (c : Fin 96) (k : Fin 8) : softT (expT L (maxT L)) (ix2 c k)
    = Ideal.div (Ideal.exp (L (ix2 c k) - maxT L (ix1 c))) (∑ t, Ideal.exp (L (ix2 c t) - maxT L (ix1 c))) := by
  unfold softT expT
  pointwise

/-- The groups the reference finds put the channels together as the first of the largest logit does. -/
theorem groupT_logits (L : FVec Ideal S96x8 .f32) (s : Fin 96 → Fin 8 → ℝ) (hL : ∀ c k, L (ix2 c k) = (s c k : EReal) + fb k)
    (g : Fin 96 → Fin 8) (hg : ∀ c, IsFirstMax (fun k => (s c k : EReal) + fb k) (g c)) :
    ∃ g' : Fin 96 → Fin 8, (∀ c, groupT (softT (expT L (maxT L))) (ix1 c) = BitVec.ofNat 32 (g' c)) ∧ ∀ c c', g' c = g' c' ↔ g c = g c' := by
  choose g' e hk using fun c => groupT_apply (softT (expT L (maxT L))) c _ (softT_apply L c)
  refine ⟨g', e, fun c c' => ?_⟩
  have le_max : ∀ c k, L (ix2 c k) ≤ maxT L (ix1 c) := fun c k => by
    rw [maxT_apply]
    exact ((Finset.fold_max_le (Finset.fold max ⊥ (fun k => (L (ix2 c k) : EReal)) Finset.univ)).1 le_rfl).2 k (Finset.mem_univ k)
  by_cases h : (∃ k, fb k = ⊤) ∨ ∀ k, fb k = ⊥
  · have hM : ∀ c, maxT L (ix1 c) = ⊤ ∨ maxT L (ix1 c) = ⊥ ∧ ∀ k, L (ix2 c k) = ⊥ := fun c => by
      rcases h with ⟨k, h⟩ | h
      · exact .inl (top_le_iff.1 (le_trans (by rw [hL, h, EReal.coe_add_top]) (le_max c k)))
      · have hb : ∀ k, L (ix2 c k) = ⊥ := fun k => by rw [hL, h, EReal.add_bot]
        refine .inr ⟨le_bot_iff.1 ?_, hb⟩
        rw [maxT_apply, Finset.fold_max_le]
        exact ⟨le_rfl, fun k _ => (hb k).le⟩
    refine iff_of_true (IsFirstMax.unique (l := fun _ => (⊥ : EReal)) ?_ ?_) (same_group s fb h g hg c c')
    · exact (funext (softmax_const (fun k => L (ix2 c k)) _ (hM c))) ▸ hk c
    · exact (funext (softmax_const (fun k => L (ix2 c' k)) _ (hM c'))) ▸ hk c'
  · obtain ⟨ht, k₀, hb⟩ : (∀ k, fb k ≠ ⊤) ∧ ∃ k, fb k ≠ ⊥ := by simpa only [not_or, not_exists, not_forall] using h
    have ht' : ∀ c k, L (ix2 c k) < ⊤ := fun c k => by
      rw [hL]; exact EReal.add_lt_top (EReal.coe_ne_top _) (ht k)
    have hb' : ∀ c, L (ix2 c k₀) ≠ ⊥ := fun c => by
      rw [hL]; exact fun h => hb ((EReal.add_eq_bot_iff.1 h).resolve_left (EReal.coe_ne_bot _))
    have same : ∀ c, g' c = g c := fun c => by
      have hT : maxT L (ix1 c) < ⊤ := by
        rw [maxT_apply, Finset.fold_max_lt]
        exact ⟨bot_lt_top, fun k _ => ht' c k⟩
      have hB : ⊥ < maxT L (ix1 c) := lt_of_lt_of_le (bot_lt_iff_ne_bot.2 (hb' c)) (le_max c k₀)
      have hM := EReal.coe_toReal hT.ne hB.ne'
      have H := hk c
      rw [← hM] at H
      refine IsFirstMax.unique (softmax_first _ _ (fun k => (ht' c k).ne) ⟨k₀, hb' c⟩ _ H) ?_
      rw [funext (hL c)]
      exact hg c
    rw [same, same]

theorem eq_places : ∀ a b : Fin 8, (IntOp.cmpi .eq (BitVec.ofNat 32 a) (BitVec.ofNat 32 b)).toNat = if a = b then 1 else 0 := by
  decide

theorem oneHotT_apply (G : IVec S96 32) (g : Fin 96 → Fin 8) (hG : ∀ c, G (ix1 c) = BitVec.ofNat 32 (g c)) (c : Fin 96) (k : Fin 8) :
    oneHotT G (ix2 c k) = ((if g c = k then (1 : ℝ) else 0 : ℝ) : EReal) := by
  unfold oneHotT
  pointwise
  rw [hG]
  change (((IntOp.cmpi .eq (BitVec.ofNat 32 (g c)) (BitVec.ofNat 32 k)).toNat : ℝ) : EReal) = _
  rw [eq_places]
  split <;> simp

end Choice

section Groups

variable (g : Fin 96 → Fin 8) (O : FVec Ideal S96x8 .f32) (hO : ∀ c k, O (ix2 c k) = ((if g c = k then (1 : ℝ) else 0 : ℝ) : EReal))

section
include hO

theorem overT_apply (S : FVec Ideal S8x96 .f32) (s : Fin 8 → Fin 96 → ℝ) (hS : ∀ n c, S (ix2 n c) = (s n c : EReal)) (n k : Fin 8) :
    overT S O (ix2 n k) = ((∑ c, if g c = k then s n c else 0 : ℝ) : EReal) := by
  unfold overT
  pointwise
  simp only [hS, hO, ← EReal.coe_mul, ← coe_sum, mul_ite, mul_one, mul_zero]

theorem countT_apply (k : Fin 8) : countT O (ix1 k) = (gN g k : EReal) := by
  unfold countT
  pointwise
  simp only [hO, ← coe_sum, bits_hw, ← EReal.coe_mul]
  rfl
end

theorem gmeanT_apply (S : FVec Ideal S8x8 .f32) (K : FVec Ideal S8 .f32) (hS : ∀ n k, S (ix2 n k) = (gS x g k n : EReal))
    (hK : ∀ k, K (ix1 k) = (gN g k : EReal)) (n k : Fin 8) : gmeanT S K (ix2 n k) = (gmean x g k n : EReal) := by
  unfold gmeanT down
  pointwise
  rw [hS, hK, ← EReal.coe_one, max_coe, div_coe _ _ (ne_of_gt (lt_of_lt_of_le zero_lt_one (le_max_right _ _)))]
  rfl

theorem gvarT_apply (Q M : FVec Ideal S8x8 .f32) (K : FVec Ideal S8 .f32) (hQ : ∀ n k, Q (ix2 n k) = (gQ x g k n : EReal))
    (hM : ∀ n k, M (ix2 n k) = (gmean x g k n : EReal)) (hK : ∀ k, K (ix1 k) = (gN g k : EReal)) (n k : Fin 8) :
    gvarT (devT Q K M) (lessT K) (ix2 n k) = (gvar x g k n : EReal) := by
  unfold gvarT devT lessT down
  pointwise
  rw [hQ, hK, hM, ← EReal.coe_one, ← EReal.coe_sub, max_coe, ← EReal.coe_mul, ← EReal.coe_mul, ← EReal.coe_sub,
    div_coe _ _ (ne_of_gt (lt_of_lt_of_le zero_lt_one (le_max_right _ _)))]
  rfl

end Groups

section Take

theorem place_eq : ∀ k : Fin 8, Scalar.select (IntOp.cmpi .slt (BitVec.ofNat 32 k) 0#32) (IntOp.addi (BitVec.ofNat 32 k) 8#32)
    (BitVec.ofNat 32 k) = BitVec.ofNat 32 k := by decide

theorem inside_eq : ∀ k : Fin 8, IntOp.andi (IntOp.andi (IntOp.cmpi .sge (BitVec.ofNat 32 k) 0#32) (IntOp.cmpi .sle (BitVec.ofNat 32 k) 7#32)) 1#1
    = 1#1 := by decide

theorem start_eq : ∀ k : Fin 8, min (BitVec.ofNat 32 k).toInt.toNat (8 - 1) = k.val := by decide

/-- A column of the table at each place. -/
theorem gather_apply (t : FVec Ideal S8x8 .f32) (p : IVec S96x1 32) (n : Fin 8) (c : Fin 96) :
    Host.gather gather_S8x8_S96x1_S8x96_0_1_n_n_1_1_81 t p (ix2 n c)
      = t (ix2 n ⟨min (p (ix2 c 0)).toInt.toNat (8 - 1), by omega⟩) := by
  unfold Host.gather
  congr 1
  funext a
  refine Fin.ext ?_
  show (gather_S8x8_S96x1_S8x96_0_1_n_n_1_1_81).start (ix2 n c) p a + (gather_S8x8_S96x1_S8x96_0_1_n_n_1_1_81).batchCoord (ix2 n c) a
      + (gather_S8x8_S96x1_S8x96_0_1_n_n_1_1_81).offCoord (ix2 n c) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp [gather_S8x8_S96x1_S8x96_0_1_n_n_1_1_81] at h)]
    have hs : (gather_S8x8_S96x1_S8x96_0_1_n_n_1_1_81).start (ix2 n c) p 0 = 0 := by
      unfold GatherDims.start
      exact dif_neg (show (0 : Fin 2) ∉ ([1] : List (Fin 2)) by decide)
    rw [hs]
    simp only [Nat.zero_add]
    unfold GatherDims.offCoord
    rw [dif_pos ((GatherDims.mem_sKept _ _).mpr ⟨by decide, by decide⟩)]
    rfl
  · rw [GatherDims.batchCoord_eq_zero _ _ _ (fun h => by simp [gather_S8x8_S96x1_S8x96_0_1_n_n_1_1_81] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S8x8_S96x1_S8x96_0_1_n_n_1_1_81).startIndexMap from List.mem_singleton.mpr rfl)]
    have hsi : (gather_S8x8_S96x1_S8x96_0_1_n_n_1_1_81).siIdx (ix2 n c)
        ⟨List.idxOf (1 : Fin 2) (gather_S8x8_S96x1_S8x96_0_1_n_n_1_1_81).startIndexMap,
        List.idxOf_lt_length_iff.2 (List.mem_singleton.mpr rfl)⟩ = ix2 c 0 := by
      funext b; refine Fin.ext ?_
      match b with
      | ⟨0, _⟩ => rfl
      | ⟨1, _⟩ => rfl
    rw [hsi]
    rfl

theorem takeT_apply (T : FVec Ideal S8x8 .f32) (G : IVec S96 32) (g : Fin 96 → Fin 8) (hG : ∀ c, G (ix1 c) = BitVec.ofNat 32 (g c))
    (n : Fin 8) (c : Fin 96) : takeT T (placeT G) (ix2 n c) = T (ix2 n (g c)) := by
  have hp : placeT G (ix2 c 0) = BitVec.ofNat 32 (g c) := by
    unfold placeT
    pointwise
    rw [hG]
    exact place_eq (g c)
  have hi : insideT (placeT G) (ix1 c) = 1#1 := by
    unfold insideT
    pointwise
    rw [Finset.univ_unique, Finset.fold_singleton]
    change IntOp.andi (IntOp.andi (IntOp.cmpi .sge (placeT G (ix2 c 0)) 0#32) (IntOp.cmpi .sle (placeT G (ix2 c 0)) 7#32)) 1#1 = 1#1
    rw [hp]
    exact inside_eq (g c)
  unfold takeT
  pointwise
  rw [hi, gather_apply]
  simp only [hp, start_eq]
  rfl

end Take

section Result

theorem resultT_apply (GM GV : FVec Ideal S8x96 .f32) (Wt B : FVec Ideal S1x96x1x1 .f32) (n : Fin 8) (c : Fin 96) (h v : Fin 224)
    (m a w : ℝ) (ha : 0 < a + eps) (xv : ℝ) (hX : X (ix4 n c h v) = (xv : EReal)) (hm : GM (ix2 n c) = (m : EReal))
    (hv : GV (ix2 n c) = (a : EReal)) (hw : Wt (ix4 0 c 0 0) = (w : EReal)) :
    resultT X GM GV Wt B (ix4 n c h v) = (((xv - m) * (Real.sqrt (a + eps))⁻¹ * w : ℝ) : EReal) + B (ix4 0 c 0 0) := by
  unfold resultT
  pointwise
  rw [hX, hm, hv, hw, bits_eps, ← EReal.coe_add, sqrt_coe _ ha.le, ← EReal.coe_sub,
    div_coe _ _ (Real.sqrt_pos.2 ha).ne', ← EReal.coe_mul]

end Result

end Cert.ReferenceIdeal.Run

end
-- ==== Proof.RefFinal.lean ====
module

public import proofs.«01_k».proof.Proof.RefValue

@[expose] public section

/-!
# The reference's result, on real arguments
-/

noncomputable section

namespace Cert.ReferenceIdeal.Run

open Cert.ReferenceIdeal Cert.ReferenceIdeal.Gen Cert.Maths Cert.Real
open Idealize.ShloMosaic
open Idealize.ShloMosaic.TcCoe
open Idealize.SL.Sem

/-- The reference's result at every index, by groups that are the first of each channel's largest logit. -/
theorem ops_result (W : Valuation τ sig (Elt Ideal)) (x : Fin 8 → Fin 96 → Fin 224 → Fin 224 → ℝ)
    (fw : Fin 8 → Fin 16 → ℝ) (fb : Fin 8 → EReal) (w : Fin 96 → ℝ)
    (hX : ∀ n c h v, (W (Proc.devRef .tc main_arg0) : S8x96x224x224.Idx → EReal) (ix4 n c h v) = (x n c h v : EReal))
    (hW : ∀ k l, (W (Proc.devRef .tc main_arg1) : S8x16.Idx → EReal) (ix2 k l) = (fw k l : EReal))
    (hb : ∀ k, (W (Proc.devRef .tc main_arg2) : S8.Idx → EReal) (ix1 k) = fb k)
    (hw : ∀ c, (W (Proc.devRef .tc main_arg3) : S1x96x1x1.Idx → EReal) (ix4 0 c 0 0) = (w c : EReal))
    (g : Fin 96 → Fin 8) (hg : ∀ c, IsFirstMax (logit x fw fb c) (g c)) (n : Fin 8) (c : Fin 96) (h v : Fin 224) :
      (StableHlo.after ops W (Proc.devRef .tc main_v64) : S8x96x224x224.Idx → EReal) (ix4 n c h v)
        = (((x n c h v - gmean x g (g c) n) * (Real.sqrt (gvar x g (g c) n + eps))⁻¹ * w c : ℝ) : EReal)
          + (W (Proc.devRef .tc main_arg4) : S1x96x1x1.Idx → EReal) (ix4 0 c 0 0) := by
  simp only [ops, StableHlo.after_append]
  set W1 := StableHlo.after channel W with hW1
  set W2 := StableHlo.after choice W1 with hW2
  set W3 := StableHlo.after groups W2 with hW3
  set W4 := StableHlo.after variance W3 with hW4
  set W5 := StableHlo.after takeMean W4 with hW5
  set W6 := StableHlo.after takeVar W5 with hW6
  -- the logits
  have hL : ∀ c k, (W1 (Proc.devRef .tc main_v11) : S96x8.Idx → EReal) (ix2 c k) = logit x fw fb c k := fun c k => by
    rw [hW1, channel_logits]
    exact logitT_apply x fw fb _ _ _ _ (meanT_apply x _ hX) (varT_apply x _ hX) hW hb c k
  -- the groups
  obtain ⟨g', hG, hg'⟩ := groupT_logits fb _ _ hL g hg
  rw [← choice_group, ← hW2] at hG
  rw [← gmean_congr x hg' n c, ← gvar_congr x hg' n c]
  clear hg hg'
  generalize g' = g at hG ⊢
  have hO : ∀ c k, (W2 (Proc.devRef .tc main_v24) : S96x8.Idx → EReal) (ix2 c k) = ((if g c = k then (1 : ℝ) else 0 : ℝ) : EReal) := by
    rw [hW2, choice_oneHot, ← choice_group, ← hW2]
    exact oneHotT_apply _ g hG
  have a0 : W2 (Proc.devRef .tc main_arg0) = W (Proc.devRef .tc main_arg0) := by
    rw [hW2, choice_kept _ (by decide), hW1, channel_kept _ (by decide)]
  have hK := countT_apply g _ hO
  -- the groups' means and variances
  have hM : ∀ n k, (W3 (Proc.devRef .tc main_v37) : S8x8.Idx → EReal) (ix2 n k) = (gmean x g k n : EReal) := by
    rw [hW3, groups_mean, a0]
    exact gmeanT_apply x g _ _ (overT_apply g _ hO _ (sumX x) (sumT_apply x _ hX)) hK
  have hV : ∀ n k, (W4 (Proc.devRef .tc main_v49) : S8x8.Idx → EReal) (ix2 n k) = (gvar x g k n : EReal) := by
    rw [hW4, variance_var, hW3, groups_dev, groups_less, ← groups_mean, ← hW3, a0]
    exact gvarT_apply x g _ _ _ (overT_apply g _ hO _ (sumQ x) (sumT_sq_apply x _ hX)) hM hK
  -- the channels' means and variances
  have v23 : W4 (Proc.devRef .tc main_v23) = W2 (Proc.devRef .tc main_v23) := by
    rw [hW4, variance_kept _ (by decide), hW3, groups_kept _ (by decide)]
  have hm : (W6 (Proc.devRef .tc main_v50) : S8x96.Idx → EReal) (ix2 n c) = (gmean x g (g c) n : EReal) := by
    rw [hW6, takeVar_kept _ (by decide), hW5, takeMean_take, v23, hW4, variance_kept _ (by decide)]
    exact (takeT_apply _ _ g hG n c).trans (hM n (g c))
  have hv : (W6 (Proc.devRef .tc main_v51) : S8x96.Idx → EReal) (ix2 n c) = (gvar x g (g c) n : EReal) := by
    rw [hW6, takeVar_take, hW5, takeMean_kept _ (by decide), takeMean_kept _ (by decide), v23]
    exact (takeT_apply _ _ g hG n c).trans (hV n (g c))
  have kept : ∀ r : Ref sig .tc, r ∉ choiceOut → r ∉ channelOut → r ∉ groupsOut → r ∉ varianceOut → r ∉ takeMeanOut → r ∉ takeVarOut →
      W6 (Proc.devRef .tc r) = W (Proc.devRef .tc r) := fun r h2 h1 h3 h4 h5 h6 => by
    rw [hW6, takeVar_kept _ h6, hW5, takeMean_kept _ h5, hW4, variance_kept _ h4, hW3, groups_kept _ h3, hW2, choice_kept _ h2,
      hW1, channel_kept _ h1]
  rw [result_result, kept main_arg0 (by decide) (by decide) (by decide) (by decide) (by decide) (by decide),
    kept main_arg3 (by decide) (by decide) (by decide) (by decide) (by decide) (by decide),
    kept main_arg4 (by decide) (by decide) (by decide) (by decide) (by decide) (by decide)]
  exact resultT_apply _ _ _ _ _ n c h v _ _ _ (add_pos_of_nonneg_of_pos (gvar_nonneg x g n c) eps_pos) _ (hX n c h v) hm hv (hw c)

end Cert.ReferenceIdeal.Run

end
-- ==== Proof.Finite.lean ====
module

public import proofs.«01_k».proof.Pre_finite
public import proofs.«01_k».proof.Proof.Consts
public import Idealize.ShloMosaic.PureOps.Ideal
public import Idealize.ShloMosaic.Lib.ReduceAll

@[expose] public section

/-!
# What the precondition says of each entry

The input, the groups' weights and the layer's weights are finite: every entry is a real.
-/

noncomputable section

namespace Cert.Pre_finite

open Idealize.ShloMosaic

theorem facts : Facts where
  bcast_S_S8x96x224x224 := by decide
  reducesTo_S8x96x224x224_S_d0_1_2_3 := by decide
  h_S_ := by decide
  bcast_S_S8x16 := by decide
  reducesTo_S8x16_S_d0_1 := by decide
  bcast_S_S1x96x1x1 := by decide
  reducesTo_S1x96x1x1_S_d0_1_2_3 := by decide

/-- Below plus infinity in absolute value: a real. -/
theorem real_of_lt (a : EReal) (h : Ideal.cmp .olt (max a (-a)) (Ideal.ofBits .f32 0x7F800000#32) = 1#1) : ∃ r : ℝ, a = (r : EReal) := by
  have e : Ideal.ofBits .f32 0x7F800000#32 = ⊤ := by simp [Ideal.ofBits, Ideal.ieee]
  rw [e] at h
  induction a with
  | bot => simp [Ideal.cmp] at h
  | top => simp [Ideal.cmp] at h
  | coe r => exact ⟨r, rfl⟩

theorem and_one {a b : BitVec 1} (h : IntOp.andi a b = 1#1) : a = 1#1 ∧ b = 1#1 := by
  revert a b; decide

theorem reals [Facts] (x : FVec Ideal S8x96x224x224 .f32) (fw : FVec Ideal S8x16 .f32) (fb : FVec Ideal S8 .f32)
    (w b : FVec Ideal S1x96x1x1 .f32) (h : fn (F := Ideal) x fw fb w b (Shape.Idx.first Facts.h_S_) = 1#1) :
    (∀ i, ∃ r : ℝ, x i = (r : EReal)) ∧ (∀ i, ∃ r : ℝ, fw i = (r : EReal))
      ∧ ∀ i, ∃ r : ℝ, w i = (r : EReal) := by
  obtain ⟨h, h3⟩ := and_one h
  obtain ⟨h1, h2⟩ := and_one h
  haveI : Subsingleton S_.Idx := ⟨fun a b => funext fun i => i.elim0⟩
  exact ⟨fun i => real_of_lt _ (Host.reduce_andi_all _ _ _ _ _ h1 i), fun i => real_of_lt _ (Host.reduce_andi_all _ _ _ _ _ h2 i),
    fun i => real_of_lt _ (Host.reduce_andi_all _ _ _ _ _ h3 i)⟩

end Cert.Pre_finite

end
-- ==== Proof.Algebraic.lean ====
module

public import proofs.«01_k».proof.Defs
public import proofs.«01_k».proof.Proof.KernelFinal
public import proofs.«01_k».proof.Proof.RefFinal
public import proofs.«01_k».proof.Proof.Finite

@[expose] public section

/-!
# The kernel's result is the reference's

Over the extended reals, where x, fc_w and weight are finite: each is the same expression of the arguments at every index.
-/

noncomputable section

namespace Cert.Algebraic

open Cert.Maths
open Idealize.ShloMosaic
open Idealize.ShloMosaic.TcCoe
open Idealize.SL.Sem

theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m ρ m' ρ' hpre hargs
  refine ⟨fun c => Cert.ReferenceIdeal.Run.final m' c (Proc.devRef .tc Cert.ReferenceIdeal.main_v64), ?_, ?_⟩
  · refine (θ_run _ _ _).mono (fun r hr c => ?_) (Cert.KernelIdeal.Run.run_main (F := Ideal) m ρ)
    refine ⟨?_, Cert.KernelIdeal.Run.endsAt_kept m (hr.1 c) (r := Cert.KernelIdeal.main_arg0) (by decide),
      Cert.KernelIdeal.Run.endsAt_kept m (hr.1 c) (r := Cert.KernelIdeal.main_arg1) (by decide),
      Cert.KernelIdeal.Run.endsAt_kept m (hr.1 c) (r := Cert.KernelIdeal.main_arg2) (by decide),
      Cert.KernelIdeal.Run.endsAt_kept m (hr.1 c) (r := Cert.KernelIdeal.main_arg3) (by decide),
      Cert.KernelIdeal.Run.endsAt_kept m (hr.1 c) (r := Cert.KernelIdeal.main_arg4) (by decide)⟩
    obtain ⟨ga, gb, he⟩ := hr.1 c
    refine (he _ (Cert.KernelIdeal.Run.mem_arrays (b := Cert.KernelIdeal.main_v28) rfl)).trans ?_
    obtain ⟨h0, h1, h2, h3, h4⟩ := hargs c
    obtain ⟨f0, f1, f3⟩ := @Cert.Pre_finite.reals Cert.Pre_finite.facts _ _ _ _ _ (congrFun (hpre c) _)
    choose x hx using fun n a b e => f0 (ix4 n a b e)
    choose fw hfw using fun k l => f1 (ix2 k l)
    choose w hw using fun a => f3 (ix4 0 a 0 0)
    let fb : Fin 8 → EReal := fun k => (m (c, Proc.devRef .tc Cert.KernelIdeal.main_arg2) : Cert.KernelIdeal.S8.Idx → EReal) (ix1 k)
    choose g hg using fun a => exists_firstMax (logit x fw fb a)
    have hres := Cert.ReferenceIdeal.Run.ops_result (StableHlo.launchContents m' c) x fw fb w
      (fun n a b e => (congrFun h0 _).trans (hx n a b e)) (fun k l => (congrFun h1 _).trans (hfw k l))
      (fun k => congrFun h2 _) (fun a => (congrFun h3 _).trans (hw a)) g hg
    funext i
    obtain ⟨n, a, b, e, rfl⟩ : ∃ (n : Fin 8) (a : Fin 96) (b e : Fin 224), i = ix4 n a b e := ⟨i 0, i 1, i 2, i 3, by
      funext z; match z with | ⟨0, _⟩ => rfl | ⟨1, _⟩ => rfl | ⟨2, _⟩ => rfl | ⟨3, _⟩ => rfl⟩
    exact (Cert.KernelIdeal.Run.result m ga gb c x fw fb w hx hfw (fun k => rfl) hw _ h4.symm g hg n a b e).trans (hres n a b e).symm
  · exact (θ_run _ _ _).mono (fun r h c => ⟨h c _, Cert.ReferenceIdeal.Run.arguments_kept m' c (h c)⟩)
      (Cert.ReferenceIdeal.Run.run (F := Ideal) m' ρ')

end Cert.Algebraic

end
-- ==== Proof.lean ====
module

public import proofs.«01_k».proof.Defs
public import proofs.«01_k».proof.Proof.Frames
public import proofs.«01_k».proof.Proof.Reference
public import proofs.«01_k».proof.Proof.Algebraic

@[expose] public section

noncomputable section

namespace Cert.Proof

open Idealize.ShloMosaic Idealize.SL.Sem

/-- The reference ends with its arguments as they were and every semaphore at zero. -/
theorem frame_ReferenceIdeal : Cert.quiescent_ReferenceIdeal (hReferenceIdeal := Cert.ReferenceIdeal.Gen.facts) := fun m ρ _ =>
  (θ_run (Cert.ReferenceIdeal.defs (F := Ideal)) _ _).mono
    (fun r h => ⟨fun c => Cert.ReferenceIdeal.Run.arguments_kept m c (h c), Idealize.ShloMosaic.sem_eq_zero_of_no_sems (by decide) r.2⟩)
    (Cert.ReferenceIdeal.Run.run (F := Ideal) m ρ)

/-- The named constant: `1 / 50176`. -/
theorem preserves : Cert.preserves_Kernel_KernelIdeal :=
  IdealRules.named_const.statement Cert.KernelIdeal.κ "inv_hw" .f32 0x37A72F05#32 ((50176⁻¹ : ℝ) : EReal) rfl

theorem claim : Cert.Claim := ⟨Cert.Kernel.Gen.facts, Cert.KernelIdeal.Gen.facts, Cert.ReferenceIdeal.Gen.facts, Cert.Pre_finite.facts,
    Cert.Frames.frame_Kernel, Cert.Frames.frame_KernelIdeal, fun m ρ _ => Cert.Frames.frame_KernelIdeal m ρ trivial,
    frame_ReferenceIdeal, fun m ρ _ => frame_ReferenceIdeal m ρ trivial, preserves, Cert.Algebraic.algebraic⟩

end Cert.Proof

end
